-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)) (v2 : (c : Dev Cert.KernelIdeal.nD) → Buf (Elt Ideal) ((c.tc : Thread Cert.KernelIdeal.nD Cert.KernelIdeal.τ).loc Cert.KernelIdeal.main_v0_2)) (v3 : (c : Dev Cert.KernelIdeal.nD) → Buf (Elt Ideal) ((c.tc : Thread Cert.KernelIdeal.nD Cert.KernelIdeal.τ).loc Cert.KernelIdeal.main_v0_3)) (v4 : (c : Dev Cert.KernelIdeal.nD) → Buf (Elt Ideal) ((c.tc : Thread Cert.KernelIdeal.nD Cert.KernelIdeal.τ).loc Cert.KernelIdeal.main_v0_4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_v0_2) = v2 c
          ∧ r.2.mem ((c.tc : Thread Cert.KernelIdeal.nD Cert.KernelIdeal.τ).loc Cert.KernelIdeal.main_v0_3) = v3 c
          ∧ r.2.mem ((c.tc : Thread Cert.KernelIdeal.nD Cert.KernelIdeal.τ).loc Cert.KernelIdeal.main_v0_4) = v4 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v84) = v0 c
          ∧ r.2.mem ((c.tc : Thread Cert.ReferenceIdeal.nD Cert.ReferenceIdeal.τ).loc Cert.ReferenceIdeal.main_v88) = v1 c
          ∧ r.2.mem ((c.tc : Thread Cert.ReferenceIdeal.nD Cert.ReferenceIdeal.τ).loc Cert.ReferenceIdeal.main_v82) = v2 c
          ∧ r.2.mem ((c.tc : Thread Cert.ReferenceIdeal.nD Cert.ReferenceIdeal.τ).loc Cert.ReferenceIdeal.main_v151) = v3 c
          ∧ r.2.mem ((c.tc : Thread Cert.ReferenceIdeal.nD Cert.ReferenceIdeal.τ).loc Cert.ReferenceIdeal.main_v94) = v4 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S2x16x16x16 : Shape := ⟨4, ![2, 16, 16, 16]⟩
abbrev S6x2x3x16x16x16 : Shape := ⟨6, ![6, 2, 3, 16, 16, 16]⟩
abbrev S2x128 : Shape := ⟨2, ![2, 128]⟩
abbrev S2x3x17x17x17 : Shape := ⟨5, ![2, 3, 17, 17, 17]⟩
abbrev S2x16x17x17x17 : Shape := ⟨5, ![2, 16, 17, 17, 17]⟩
abbrev S2x6x2x3x16x16x16 : Shape := ⟨7, ![2, 6, 2, 3, 16, 16, 16]⟩
abbrev S2x17x17x17x16 : Shape := ⟨5, ![2, 17, 17, 17, 16]⟩
abbrev S2x4913x16 : Shape := ⟨3, ![2, 4913, 16]⟩
abbrev S2x4913x4913 : Shape := ⟨3, ![2, 4913, 4913]⟩
abbrev S2x1 : Shape := ⟨2, ![2, 1]⟩
abbrev S2 : Shape := ⟨1, ![2]⟩
abbrev S2x17x17x17x3 : Shape := ⟨5, ![2, 17, 17, 17, 3]⟩
abbrev S9826x3 : Shape := ⟨2, ![9826, 3]⟩
abbrev S2x6x16x16x16x2x3 : Shape := ⟨7, ![2, 6, 16, 16, 16, 2, 3]⟩
abbrev S2x49152x3 : Shape := ⟨3, ![2, 49152, 3]⟩
abbrev S1x16x16x16 : Shape := ⟨4, ![1, 16, 16, 16]⟩
abbrev S1x3x17x17x17 : Shape := ⟨5, ![1, 3, 17, 17, 17]⟩
abbrev S1x16x17x17x17 : Shape := ⟨5, ![1, 16, 17, 17, 17]⟩
abbrev S1x6x2x3x16x16x16 : Shape := ⟨7, ![1, 6, 2, 3, 16, 16, 16]⟩
abbrev S16x16x16 : Shape := ⟨3, ![16, 16, 16]⟩
abbrev S1x16x16 : Shape := ⟨3, ![1, 16, 16]⟩
abbrev S15x16x16 : Shape := ⟨3, ![15, 16, 16]⟩
abbrev S16x1x16 : Shape := ⟨3, ![16, 1, 16]⟩
abbrev S16x15x16 : Shape := ⟨3, ![16, 15, 16]⟩
abbrev S16x16x1 : Shape := ⟨3, ![16, 16, 1]⟩
abbrev S16x16x15 : Shape := ⟨3, ![16, 16, 15]⟩
abbrev S1 : Shape := ⟨1, ![1]⟩
abbrev S1x1x1x1 : Shape := ⟨4, ![1, 1, 1, 1]⟩
abbrev S17x17x17 : Shape := ⟨3, ![17, 17, 17]⟩
abbrev S17x16x16 : Shape := ⟨3, ![17, 16, 16]⟩
abbrev S17x1x16 : Shape := ⟨3, ![17, 1, 16]⟩
abbrev S17x17x16 : Shape := ⟨3, ![17, 17, 16]⟩
abbrev S17x17x1 : Shape := ⟨3, ![17, 17, 1]⟩
abbrev S1x17x17x17 : Shape := ⟨4, ![1, 17, 17, 17]⟩
abbrev S1x128 : Shape := ⟨2, ![1, 128]⟩
abbrev S1x1x17x17x17 : Shape := ⟨5, ![1, 1, 17, 17, 17]⟩
abbrev S1x1x1x16x16x16 : Shape := ⟨6, ![1, 1, 1, 16, 16, 16]⟩
abbrev S1x1x1x1x16x16x16 : Shape := ⟨7, ![1, 1, 1, 1, 16, 16, 16]⟩
abbrev S2x128x16 : Shape := ⟨3, ![2, 128, 16]⟩
abbrev S2x128x4913 : Shape := ⟨3, ![2, 128, 4913]⟩
abbrev S128x433 : Shape := ⟨2, ![128, 433]⟩
abbrev S1x128x1 : Shape := ⟨3, ![1, 128, 1]⟩
abbrev S128 : Shape := ⟨1, ![128]⟩
abbrev S128x1 : Shape := ⟨2, ![128, 1]⟩
abbrev S1x128x433 : Shape := ⟨3, ![1, 128, 433]⟩
abbrev S128x305 : Shape := ⟨2, ![128, 305]⟩
abbrev S1x128x305 : Shape := ⟨3, ![1, 128, 305]⟩

abbrev nBuf : Space → Nat
  | .hbm => 19
  | .vmem => 14
  | .smem => 0
  | _ => 0

abbrev bufTy : (tb : Table) → Fin (tcTables nBuf tb) → BufTy
  | .hbm, ⟨0, _⟩ => ⟨S2x16x16x16, .f32⟩
  | .hbm, ⟨1, _⟩ => ⟨S6x2x3x16x16x16, .i32⟩
  | .hbm, ⟨2, _⟩ => ⟨S2x128, .f32⟩
  | .hbm, ⟨3, _⟩ => ⟨S2x3x17x17x17, .f32⟩
  | .hbm, ⟨4, _⟩ => ⟨S2x16x17x17x17, .f32⟩
  | .hbm, ⟨5, _⟩ => ⟨S2x6x2x3x16x16x16, .i32⟩
  | .hbm, ⟨6, _⟩ => ⟨S2x17x17x17x16, .f32⟩
  | .hbm, ⟨7, _⟩ => ⟨S2x4913x16, .f32⟩
  | .hbm, ⟨8, _⟩ => ⟨S2x4913x4913, .f32⟩
  | .hbm, ⟨9, _⟩ => ⟨S2x1, .f32⟩
  | .hbm, ⟨10, _⟩ => ⟨S2, .f32⟩
  | .hbm, ⟨11, _⟩ => ⟨S2, .i32⟩
  | .hbm, ⟨12, _⟩ => ⟨S2x1, .f32⟩
  | .hbm, ⟨13, _⟩ => ⟨S2, .f32⟩
  | .hbm, ⟨14, _⟩ => ⟨S2, .i32⟩
  | .hbm, ⟨15, _⟩ => ⟨S2x17x17x17x3, .f32⟩
  | .hbm, ⟨16, _⟩ => ⟨S9826x3, .f32⟩
  | .hbm, ⟨17, _⟩ => ⟨S2x6x16x16x16x2x3, .i32⟩
  | .hbm, ⟨18, _⟩ => ⟨S2x49152x3, .i32⟩
  | .local _ .vmem, ⟨0, _⟩ => ⟨S1x16x16x16, .f32⟩
  | .local _ .vmem, ⟨1, _⟩ => ⟨S1x16x16x16, .f32⟩
  | .local _ .vmem, ⟨2, _⟩ => ⟨S6x2x3x16x16x16, .i32⟩
  | .local _ .vmem, ⟨3, _⟩ => ⟨S2x128, .f32⟩
  | .local _ .vmem, ⟨4, _⟩ => ⟨S1x3x17x17x17, .f32⟩
  | .local _ .vmem, ⟨5, _⟩ => ⟨S1x3x17x17x17, .f32⟩
  | .local _ .vmem, ⟨6, _⟩ => ⟨S1x16x17x17x17, .f32⟩
  | .local _ .vmem, ⟨7, _⟩ => ⟨S1x16x17x17x17, .f32⟩
  | .local _ .vmem, ⟨8, _⟩ => ⟨S1x6x2x3x16x16x16, .i32⟩
  | .local _ .vmem, ⟨9, _⟩ => ⟨S1x6x2x3x16x16x16, .i32⟩
  | .local _ .vmem, ⟨10, _⟩ => ⟨S2x128x16, .f32⟩
  | .local _ .vmem, ⟨11, _⟩ => ⟨S2x128x16, .f32⟩
  | .local _ .vmem, ⟨12, _⟩ => ⟨S2x128x4913, .f32⟩
  | .local _ .vmem, ⟨13, _⟩ => ⟨S2x128x4913, .f32⟩
  | _, _ => ⟨S2x16x16x16, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_call0_c : Ref sig .tc := ⟨.hbm, 1, rfl⟩
abbrev main_call0_v0_0 : Ref sig .tc := ⟨.hbm, 2, rfl⟩
abbrev main_call0_v0_1 : Ref sig .tc := ⟨.hbm, 3, rfl⟩
abbrev main_call0_v0_2 : Ref sig .tc := ⟨.hbm, 4, rfl⟩
abbrev main_call0_v0_3 : Ref sig .tc := ⟨.hbm, 5, rfl⟩
abbrev main_call0_v1 : Ref sig .tc := ⟨.hbm, 6, rfl⟩
abbrev main_call0_v2 : Ref sig .tc := ⟨.hbm, 7, rfl⟩
abbrev main_v0_3 : Ref sig .tc := ⟨.hbm, 8, rfl⟩
abbrev main_call0_v4 : Ref sig .tc := ⟨.hbm, 9, rfl⟩
abbrev main_call0_v5 : Ref sig .tc := ⟨.hbm, 10, rfl⟩
abbrev main_v0_0 : Ref sig .tc := ⟨.hbm, 11, rfl⟩
abbrev main_call0_v7 : Ref sig .tc := ⟨.hbm, 12, rfl⟩
abbrev main_call0_v8 : Ref sig .tc := ⟨.hbm, 13, rfl⟩
abbrev main_v0_1 : Ref sig .tc := ⟨.hbm, 14, rfl⟩
abbrev main_call0_v10 : Ref sig .tc := ⟨.hbm, 15, rfl⟩
abbrev main_v0_2 : Ref sig .tc := ⟨.hbm, 16, rfl⟩
abbrev main_call0_v12 : Ref sig .tc := ⟨.hbm, 17, rfl⟩
abbrev main_v0_4 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg1_1 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc1_sem0_0 : DmaSem sig := 10
abbrev cc1_sem0_1 : DmaSem sig := 11
abbrev cc1_sem1_0 : DmaSem sig := 12
abbrev cc1_sem1_1 : DmaSem sig := 13

abbrev nD : Nat := 1
abbrev τ : Topo := Topo.v7x

variable {F : FTy → Type} [FloatOps F]

abbrev grid0 : Pipeline.Grid := ⟨1, ![2], ![false]⟩

def k0_off1 (i : grid0.Coords) : Fin 2 → Nat :=
  let arg0 : BitVec 32 := BitVec.ofNat 32 (i 0).val
  let v159 : Index := Scalar.indexCast arg0
  let c0_49 : Index := 0#32
  ![v159.toNat, 0]
def cc0_transform_0 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_1 (i : grid0.Coords) : Fin 6 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  let c0_i32_4 : BitVec 32 := 0#32
  let c0_i32_5 : BitVec 32 := 0#32
  ![c0_i32.toNat, c0_i32_0.toNat, c0_i32_1.toNat, c0_i32_2.toNat, c0_i32_3.toNat, c0_i32_4.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 5 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![arg0.toNat, c0_i32.toNat, c0_i32_0.toNat, c0_i32_1.toNat, c0_i32_2.toNat]

def cc0_transform_4 (i : grid0.Coords) : Fin 5 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![arg0.toNat, c0_i32.toNat, c0_i32_0.toNat, c0_i32_1.toNat, c0_i32_2.toNat]

def cc0_transform_5 (i : grid0.Coords) : Fin 7 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  let c0_i32_4 : BitVec 32 := 0#32
  let c0_i32_5 : BitVec 32 := 0#32
  ![arg0.toNat, c0_i32.toNat, c0_i32_0.toNat, c0_i32_1.toNat, c0_i32_2.toNat, c0_i32_3.toNat, c0_i32_4.toNat]

abbrev stage0_0 : Fin 2 → Memref sig .tc .vmem S1x16x16x16 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S6x2x3x16x16x16 .i32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S2x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1x3x17x17x17 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x16x17x17x17 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x6x2x3x16x16x16 .i32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![39], ![false]⟩

def k1_off1 (i : grid1.Coords) (c_m3_i32 : BitVec 32) : Fin 3 → Nat :=
  let c0_7 : Index := 0#32
  let c0_8 : Index := 0#32
  let c128_i32_5 : BitVec 32 := 128#32
  let c35_i32 : BitVec 32 := 35#32
  let c0_i32 : BitVec 32 := 0#32
  let arg0 : BitVec 32 := BitVec.ofNat 32 (i 0).val
  let v5 : BitVec 32 := Scalar.addi arg0 c_m3_i32
  let v6 : BitVec 32 := Scalar.maxsi c0_i32 v5
  let v7 : BitVec 32 := Scalar.minsi c35_i32 v6
  let v8 : BitVec 32 := Scalar.muli c128_i32_5 v7
  let v57 : Index := Scalar.indexCast v8
  ![0, 0, v57.toNat]
def k1_off2 (i : grid1.Coords) (c_m3_i32 : BitVec 32) : Fin 3 → Nat :=
  let c1 : Index := 1#32
  let c0_17 : Index := 0#32
  let c128_i32_5 : BitVec 32 := 128#32
  let c35_i32 : BitVec 32 := 35#32
  let c0_i32 : BitVec 32 := 0#32
  let arg0 : BitVec 32 := BitVec.ofNat 32 (i 0).val
  let v5 : BitVec 32 := Scalar.addi arg0 c_m3_i32
  let v6 : BitVec 32 := Scalar.maxsi c0_i32 v5
  let v7 : BitVec 32 := Scalar.minsi c35_i32 v6
  let v8 : BitVec 32 := Scalar.muli c128_i32_5 v7
  let v106 : Index := Scalar.indexCast v8
  ![1, 0, v106.toNat]
def k1_off3 (i : grid1.Coords) (c_m1_i32 : BitVec 32) : Fin 3 → Nat :=
  let c0_24 : Index := 0#32
  let c0_25 : Index := 0#32
  let c128_i32_21 : BitVec 32 := 128#32
  let c36_i32 : BitVec 32 := 36#32
  let c0_i32_20 : BitVec 32 := 0#32
  let arg0 : BitVec 32 := BitVec.ofNat 32 (i 0).val
  let v114 : BitVec 32 := Scalar.addi arg0 c_m1_i32
  let v115 : BitVec 32 := Scalar.maxsi c0_i32_20 v114
  let v116 : BitVec 32 := Scalar.minsi c36_i32 v115
  let v117 : BitVec 32 := Scalar.muli c128_i32_21 v116
  let v150 : Index := Scalar.indexCast v117
  ![0, 0, v150.toNat]
def k1_off4 (i : grid1.Coords) (c_m1_i32 : BitVec 32) : Fin 3 → Nat :=
  let c1_32 : Index := 1#32
  let c0_33 : Index := 0#32
  let c128_i32_21 : BitVec 32 := 128#32
  let c36_i32 : BitVec 32 := 36#32
  let c0_i32_20 : BitVec 32 := 0#32
  let arg0 : BitVec 32 := BitVec.ofNat 32 (i 0).val
  let v114 : BitVec 32 := Scalar.addi arg0 c_m1_i32
  let v115 : BitVec 32 := Scalar.maxsi c0_i32_20 v114
  let v116 : BitVec 32 := Scalar.minsi c36_i32 v115
  let v117 : BitVec 32 := Scalar.muli c128_i32_21 v116
  let v183 : Index := Scalar.indexCast v117
  ![1, 0, v183.toNat]
def cc1_transform_0 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc1_transform_1 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage1_0 : Fin 2 → Memref sig .tc .vmem S2x128x16 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2x128x4913 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]
-- ==== ReferenceIdeal.lean ====
abbrev S2x16x16x16 : Shape := ⟨4, ![2, 16, 16, 16]⟩
abbrev S6x4x3 : Shape := ⟨3, ![6, 4, 3]⟩
abbrev S_ : Shape := ⟨0, ![]⟩
abbrev S2x17x16x16 : Shape := ⟨4, ![2, 17, 16, 16]⟩
abbrev S2x16x17x16 : Shape := ⟨4, ![2, 16, 17, 16]⟩
abbrev S2x16x16x17 : Shape := ⟨4, ![2, 16, 16, 17]⟩
abbrev S2x1x16x16x16 : Shape := ⟨5, ![2, 1, 16, 16, 16]⟩
abbrev S2x6x16x16x16 : Shape := ⟨5, ![2, 6, 16, 16, 16]⟩
abbrev S6x1x1x1x4x3 : Shape := ⟨6, ![6, 1, 1, 1, 4, 3]⟩
abbrev S6x16x16x16x4 : Shape := ⟨5, ![6, 16, 16, 16, 4]⟩
abbrev S6x1x1x1x4x1 : Shape := ⟨6, ![6, 1, 1, 1, 4, 1]⟩
abbrev S6x1x1x1x4 : Shape := ⟨5, ![6, 1, 1, 1, 4]⟩
abbrev S6x16x16x16x3 : Shape := ⟨5, ![6, 16, 16, 16, 3]⟩
abbrev S6x16x16x16x1x3 : Shape := ⟨6, ![6, 16, 16, 16, 1, 3]⟩
abbrev S6x16x16x16x2x3 : Shape := ⟨6, ![6, 16, 16, 16, 2, 3]⟩
abbrev S2x4913 : Shape := ⟨2, ![2, 4913]⟩
abbrev S2x6x16x16x16x1 : Shape := ⟨6, ![2, 6, 16, 16, 16, 1]⟩
abbrev S2x6x16x16x16x4 : Shape := ⟨6, ![2, 6, 16, 16, 16, 4]⟩
abbrev S6x16x16x16x4x1 : Shape := ⟨6, ![6, 16, 16, 16, 4, 1]⟩
abbrev S17x17x17 : Shape := ⟨3, ![17, 17, 17]⟩
abbrev S17x17x17x1 : Shape := ⟨4, ![17, 17, 17, 1]⟩
abbrev S17x17x17x3 : Shape := ⟨4, ![17, 17, 17, 3]⟩
abbrev S4913x3 : Shape := ⟨2, ![4913, 3]⟩
abbrev S1x4913x3 : Shape := ⟨3, ![1, 4913, 3]⟩
abbrev S2x4913x1 : Shape := ⟨3, ![2, 4913, 1]⟩
abbrev S2x4913x3 : Shape := ⟨3, ![2, 4913, 3]⟩
abbrev S9826x3 : Shape := ⟨2, ![9826, 3]⟩
abbrev S2 : Shape := ⟨1, ![2]⟩
abbrev S2x6x16x16x16x1x1 : Shape := ⟨7, ![2, 6, 16, 16, 16, 1, 1]⟩
abbrev S1x6x16x16x16x2x3 : Shape := ⟨7, ![1, 6, 16, 16, 16, 2, 3]⟩
abbrev S2x6x16x16x16x2x3 : Shape := ⟨7, ![2, 6, 16, 16, 16, 2, 3]⟩
abbrev S2x49152x3 : Shape := ⟨3, ![2, 49152, 3]⟩
abbrev S6x16x16x16x2x1 : Shape := ⟨6, ![6, 16, 16, 16, 2, 1]⟩
abbrev S6x16x16x16x2 : Shape := ⟨5, ![6, 16, 16, 16, 2]⟩
abbrev S6x16x16x16x2x6 : Shape := ⟨6, ![6, 16, 16, 16, 2, 6]⟩
abbrev S2x6x16x16x16x2x6 : Shape := ⟨7, ![2, 6, 16, 16, 16, 2, 6]⟩
abbrev S2x4913x4913 : Shape := ⟨3, ![2, 4913, 4913]⟩
abbrev S6x16x16x16x2x6x1 : Shape := ⟨7, ![6, 16, 16, 16, 2, 6, 1]⟩
abbrev S6x16x16x16x2x6x2 : Shape := ⟨7, ![6, 16, 16, 16, 2, 6, 2]⟩

abbrev nBuf : Space → Nat
  | .hbm => 205
  | .vmem => 0
  | .smem => 0
  | _ => 0

abbrev hbmTy0_0 (i : Nat) : BufTy := match i % 128 with
  | 0 => ⟨S2x16x16x16, .f32⟩
  | 1 => ⟨S6x4x3, .i32⟩
  | 2 => ⟨S_, .f32⟩
  | 3 => ⟨S2x16x16x16, .f32⟩
  | 4 => ⟨S2x16x16x16, .i1⟩
  | 5 => ⟨S_, .i32⟩
  | 6 => ⟨S_, .i32⟩
  | 7 => ⟨S_, .i32⟩
  | 8 => ⟨S_, .i1⟩
  | 9 => ⟨S_, .i1⟩
  | 10 => ⟨S2x17x16x16, .i1⟩
  | 11 => ⟨S2x16x16x16, .i1⟩
  | 12 => ⟨S_, .i32⟩
  | 13 => ⟨S_, .i32⟩
  | 14 => ⟨S_, .i32⟩
  | 15 => ⟨S_, .i1⟩
  | 16 => ⟨S_, .i1⟩
  | 17 => ⟨S2x17x16x16, .i1⟩
  | 18 => ⟨S2x16x16x16, .i1⟩
  | 19 => ⟨S_, .i32⟩
  | 20 => ⟨S_, .i32⟩
  | 21 => ⟨S_, .i32⟩
  | 22 => ⟨S_, .i1⟩
  | 23 => ⟨S_, .i1⟩
  | 24 => ⟨S2x16x17x16, .i1⟩
  | 25 => ⟨S2x16x16x16, .i1⟩
  | 26 => ⟨S_, .i32⟩
  | 27 => ⟨S_, .i32⟩
  | 28 => ⟨S_, .i32⟩
  | 29 => ⟨S_, .i1⟩
  | 30 => ⟨S_, .i1⟩
  | 31 => ⟨S2x16x17x16, .i1⟩
  | 32 => ⟨S2x16x16x16, .i1⟩
  | 33 => ⟨S_, .i32⟩
  | 34 => ⟨S_, .i32⟩
  | 35 => ⟨S_, .i32⟩
  | 36 => ⟨S_, .i1⟩
  | 37 => ⟨S_, .i1⟩
  | 38 => ⟨S2x16x16x17, .i1⟩
  | 39 => ⟨S2x16x16x16, .i1⟩
  | 40 => ⟨S_, .i32⟩
  | 41 => ⟨S_, .i32⟩
  | 42 => ⟨S_, .i32⟩
  | 43 => ⟨S_, .i1⟩
  | 44 => ⟨S_, .i1⟩
  | 45 => ⟨S2x16x16x17, .i1⟩
  | 46 => ⟨S2x16x16x16, .i1⟩
  | 47 => ⟨S2x1x16x16x16, .i1⟩
  | 48 => ⟨S2x1x16x16x16, .i1⟩
  | 49 => ⟨S2x1x16x16x16, .i1⟩
  | 50 => ⟨S2x1x16x16x16, .i1⟩
  | 51 => ⟨S2x1x16x16x16, .i1⟩
  | 52 => ⟨S2x1x16x16x16, .i1⟩
  | 53 => ⟨S2x6x16x16x16, .i1⟩
  | 54 => ⟨S2x1x16x16x16, .i1⟩
  | 55 => ⟨S2x6x16x16x16, .i1⟩
  | 56 => ⟨S2x6x16x16x16, .i1⟩
  | 57 => ⟨S2x6x16x16x16, .i1⟩
  | 58 => ⟨S2x6x16x16x16, .f32⟩
  | 59 => ⟨S6x1x1x1x4x3, .i32⟩
  | 60 => ⟨S6x16x16x16x4, .i32⟩
  | 61 => ⟨S6x1x1x1x4x1, .i32⟩
  | 62 => ⟨S6x1x1x1x4, .i32⟩
  | 63 => ⟨S6x16x16x16x4, .i32⟩
  | 64 => ⟨S6x16x16x16x4, .i32⟩
  | 65 => ⟨S_, .i32⟩
  | 66 => ⟨S6x16x16x16x4, .i32⟩
  | 67 => ⟨S6x16x16x16x4, .i32⟩
  | 68 => ⟨S6x16x16x16x4, .i32⟩
  | 69 => ⟨S6x1x1x1x4x1, .i32⟩
  | 70 => ⟨S6x1x1x1x4, .i32⟩
  | 71 => ⟨S6x16x16x16x4, .i32⟩
  | 72 => ⟨S6x16x16x16x4, .i32⟩
  | 73 => ⟨S_, .i32⟩
  | 74 => ⟨S6x16x16x16x4, .i32⟩
  | 75 => ⟨S6x16x16x16x4, .i32⟩
  | 76 => ⟨S6x16x16x16x4, .i32⟩
  | 77 => ⟨S6x16x16x16x4, .i32⟩
  | 78 => ⟨S6x1x1x1x4x1, .i32⟩
  | 79 => ⟨S6x1x1x1x4, .i32⟩
  | 80 => ⟨S6x16x16x16x4, .i32⟩
  | 81 => ⟨S6x16x16x16x4, .i32⟩
  | 82 => ⟨S6x16x16x16x4, .i32⟩
  | 83 => ⟨S6x16x16x16x3, .i32⟩
  | 84 => ⟨S6x16x16x16x3, .i32⟩
  | 85 => ⟨S6x16x16x16x1x3, .i32⟩
  | 86 => ⟨S6x16x16x16x1x3, .i32⟩
  | 87 => ⟨S6x16x16x16x2x3, .i32⟩
  | 88 => ⟨S_, .f32⟩
  | 89 => ⟨S2x4913, .f32⟩
  | 90 => ⟨S2x6x16x16x16x1, .f32⟩
  | 91 => ⟨S2x6x16x16x16x4, .f32⟩
  | 92 => ⟨S_, .i32⟩
  | 93 => ⟨S6x16x16x16x4, .i32⟩
  | 94 => ⟨S6x16x16x16x4, .i1⟩
  | 95 => ⟨S_, .i32⟩
  | 96 => ⟨S6x16x16x16x4, .i32⟩
  | 97 => ⟨S6x16x16x16x4, .i32⟩
  | 98 => ⟨S6x16x16x16x4, .i32⟩
  | 99 => ⟨S6x16x16x16x4x1, .i32⟩
  | 100 => ⟨S2x4913, .f32⟩
  | 101 => ⟨S_, .f32⟩
  | 102 => ⟨S2x4913, .f32⟩
  | 103 => ⟨S2x4913, .i1⟩
  | 104 => ⟨S2x4913, .f32⟩
  | 105 => ⟨S17x17x17, .i32⟩
  | 106 => ⟨S17x17x17, .i32⟩
  | 107 => ⟨S17x17x17, .i32⟩
  | 108 => ⟨S17x17x17x1, .i32⟩
  | 109 => ⟨S17x17x17x1, .i32⟩
  | 110 => ⟨S17x17x17x1, .i32⟩
  | 111 => ⟨S17x17x17x3, .i32⟩
  | 112 => ⟨S4913x3, .i32⟩
  | 113 => ⟨S4913x3, .f32⟩
  | 114 => ⟨S_, .f32⟩
  | 115 => ⟨S4913x3, .f32⟩
  | 116 => ⟨S4913x3, .f32⟩
  | 117 => ⟨S1x4913x3, .f32⟩
  | 118 => ⟨S2x4913x1, .f32⟩
  | 119 => ⟨S2x4913x3, .f32⟩
  | 120 => ⟨S2x4913x3, .f32⟩
  | 121 => ⟨S2x4913x3, .f32⟩
  | 122 => ⟨S9826x3, .f32⟩
  | 123 => ⟨S_, .f32⟩
  | 124 => ⟨S2, .f32⟩
  | 125 => ⟨S2, .i32⟩
  | 126 => ⟨S_, .f32⟩
  | 127 => ⟨S2, .f32⟩
  | _ => ⟨S2x16x16x16, .f32⟩

abbrev hbmTy0_1 (i : Nat) : BufTy := match i % 128 with
  | 0 => ⟨S_, .f32⟩
  | 1 => ⟨S2, .f32⟩
  | 2 => ⟨S2, .f32⟩
  | 3 => ⟨S2, .i32⟩
  | 4 => ⟨S2x6x16x16x16x1x1, .f32⟩
  | 5 => ⟨S_, .f32⟩
  | 6 => ⟨S2x6x16x16x16x1x1, .f32⟩
  | 7 => ⟨S2x6x16x16x16x1x1, .i1⟩
  | 8 => ⟨S1x6x16x16x16x2x3, .i32⟩
  | 9 => ⟨S_, .i32⟩
  | 10 => ⟨S2x6x16x16x16x2x3, .i1⟩
  | 11 => ⟨S2x6x16x16x16x2x3, .i32⟩
  | 12 => ⟨S2x6x16x16x16x2x3, .i32⟩
  | 13 => ⟨S2x6x16x16x16x2x3, .i32⟩
  | 14 => ⟨S2x49152x3, .i32⟩
  | 15 => ⟨S6x16x16x16x2x1, .i32⟩
  | 16 => ⟨S6x16x16x16x2, .i32⟩
  | 17 => ⟨S6x16x16x16x2x1, .i32⟩
  | 18 => ⟨S6x16x16x16x2, .i32⟩
  | 19 => ⟨S6x16x16x16x2x1, .i32⟩
  | 20 => ⟨S6x16x16x16x2, .i32⟩
  | 21 => ⟨S6x16x16x16x2x1, .i32⟩
  | 22 => ⟨S6x16x16x16x2, .i32⟩
  | 23 => ⟨S6x16x16x16x2x1, .i32⟩
  | 24 => ⟨S6x16x16x16x2, .i32⟩
  | 25 => ⟨S6x16x16x16x2x1, .i32⟩
  | 26 => ⟨S6x16x16x16x2, .i32⟩
  | 27 => ⟨S6x16x16x16x2x1, .i32⟩
  | 28 => ⟨S6x16x16x16x2x1, .i32⟩
  | 29 => ⟨S6x16x16x16x2x1, .i32⟩
  | 30 => ⟨S6x16x16x16x2x1, .i32⟩
  | 31 => ⟨S6x16x16x16x2x1, .i32⟩
  | 32 => ⟨S6x16x16x16x2x1, .i32⟩
  | 33 => ⟨S6x16x16x16x2x6, .i32⟩
  | 34 => ⟨S6x16x16x16x2x1, .i32⟩
  | 35 => ⟨S6x16x16x16x2, .i32⟩
  | 36 => ⟨S6x16x16x16x2x1, .i32⟩
  | 37 => ⟨S6x16x16x16x2, .i32⟩
  | 38 => ⟨S6x16x16x16x2x1, .i32⟩
  | 39 => ⟨S6x16x16x16x2, .i32⟩
  | 40 => ⟨S6x16x16x16x2x1, .i32⟩
  | 41 => ⟨S6x16x16x16x2, .i32⟩
  | 42 => ⟨S6x16x16x16x2x1, .i32⟩
  | 43 => ⟨S6x16x16x16x2, .i32⟩
  | 44 => ⟨S6x16x16x16x2x1, .i32⟩
  | 45 => ⟨S6x16x16x16x2, .i32⟩
  | 46 => ⟨S6x16x16x16x2x1, .i32⟩
  | 47 => ⟨S6x16x16x16x2x1, .i32⟩
  | 48 => ⟨S6x16x16x16x2x1, .i32⟩
  | 49 => ⟨S6x16x16x16x2x1, .i32⟩
  | 50 => ⟨S6x16x16x16x2x1, .i32⟩
  | 51 => ⟨S6x16x16x16x2x1, .i32⟩
  | 52 => ⟨S6x16x16x16x2x6, .i32⟩
  | 53 => ⟨S2x6x16x16x16x1x1, .f32⟩
  | 54 => ⟨S2x6x16x16x16x1x1, .i32⟩
  | 55 => ⟨S2x6x16x16x16x2x6, .i32⟩
  | 56 => ⟨S_, .i32⟩
  | 57 => ⟨S2x4913x4913, .i32⟩
  | 58 => ⟨S_, .i32⟩
  | 59 => ⟨S6x16x16x16x2x6, .i32⟩
  | 60 => ⟨S6x16x16x16x2x6, .i1⟩
  | 61 => ⟨S_, .i32⟩
  | 62 => ⟨S6x16x16x16x2x6, .i32⟩
  | 63 => ⟨S6x16x16x16x2x6, .i32⟩
  | 64 => ⟨S6x16x16x16x2x6, .i32⟩
  | 65 => ⟨S_, .i32⟩
  | 66 => ⟨S6x16x16x16x2x6, .i32⟩
  | 67 => ⟨S6x16x16x16x2x6, .i1⟩
  | 68 => ⟨S_, .i32⟩
  | 69 => ⟨S6x16x16x16x2x6, .i32⟩
  | 70 => ⟨S6x16x16x16x2x6, .i32⟩
  | 71 => ⟨S6x16x16x16x2x6, .i32⟩
  | 72 => ⟨S6x16x16x16x2x6x1, .i32⟩
  | 73 => ⟨S6x16x16x16x2x6x1, .i32⟩
  | 74 => ⟨S6x16x16x16x2x6x2, .i32⟩
  | 75 => ⟨S2x4913x4913, .i32⟩
  | 76 => ⟨S2x4913x4913, .f32⟩
  | _ => ⟨S2x16x16x16, .f32⟩

abbrev hbmTy (i : Nat) : BufTy := match i / 128 with
  | 0 => hbmTy0_0 i
  | 1 => hbmTy0_1 i
  | _ => ⟨S2x16x16x16, .f32⟩

abbrev bufTy : (tb : Table) → Fin (tcTables nBuf tb) → BufTy
  | .hbm, ⟨i, _⟩ => hbmTy i
  | _, _ => ⟨S2x16x16x16, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_c : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_c_0 : Ref sig .tc := ⟨.hbm, 5, rfl⟩
abbrev main_call0_c : Ref sig .tc := ⟨.hbm, 6, rfl⟩
abbrev main_call0_v0 : Ref sig .tc := ⟨.hbm, 7, rfl⟩
abbrev main_call0_v1 : Ref sig .tc := ⟨.hbm, 8, rfl⟩
abbrev main_call0_v2 : Ref sig .tc := ⟨.hbm, 9, rfl⟩
abbrev main_v2 : Ref sig .tc := ⟨.hbm, 10, rfl⟩
abbrev main_v3 : Ref sig .tc := ⟨.hbm, 11, rfl⟩
abbrev main_c_1 : Ref sig .tc := ⟨.hbm, 12, rfl⟩
abbrev main_call1_c : Ref sig .tc := ⟨.hbm, 13, rfl⟩
abbrev main_call1_v0 : Ref sig .tc := ⟨.hbm, 14, rfl⟩
abbrev main_call1_v1 : Ref sig .tc := ⟨.hbm, 15, rfl⟩
abbrev main_call1_v2 : Ref sig .tc := ⟨.hbm, 16, rfl⟩
abbrev main_v4 : Ref sig .tc := ⟨.hbm, 17, rfl⟩
abbrev main_v5 : Ref sig .tc := ⟨.hbm, 18, rfl⟩
abbrev main_c_2 : Ref sig .tc := ⟨.hbm, 19, rfl⟩
abbrev main_call2_c : Ref sig .tc := ⟨.hbm, 20, rfl⟩
abbrev main_call2_v0 : Ref sig .tc := ⟨.hbm, 21, rfl⟩
abbrev main_call2_v1 : Ref sig .tc := ⟨.hbm, 22, rfl⟩
abbrev main_call2_v2 : Ref sig .tc := ⟨.hbm, 23, rfl⟩
abbrev main_v6 : Ref sig .tc := ⟨.hbm, 24, rfl⟩
abbrev main_v7 : Ref sig .tc := ⟨.hbm, 25, rfl⟩
abbrev main_c_3 : Ref sig .tc := ⟨.hbm, 26, rfl⟩
abbrev main_call3_c : Ref sig .tc := ⟨.hbm, 27, rfl⟩
abbrev main_call3_v0 : Ref sig .tc := ⟨.hbm, 28, rfl⟩
abbrev main_call3_v1 : Ref sig .tc := ⟨.hbm, 29, rfl⟩
abbrev main_call3_v2 : Ref sig .tc := ⟨.hbm, 30, rfl⟩
abbrev main_v8 : Ref sig .tc := ⟨.hbm, 31, rfl⟩
abbrev main_v9 : Ref sig .tc := ⟨.hbm, 32, rfl⟩
abbrev main_c_4 : Ref sig .tc := ⟨.hbm, 33, rfl⟩
abbrev main_call4_c : Ref sig .tc := ⟨.hbm, 34, rfl⟩
abbrev main_call4_v0 : Ref sig .tc := ⟨.hbm, 35, rfl⟩
abbrev main_call4_v1 : Ref sig .tc := ⟨.hbm, 36, rfl⟩
abbrev main_call4_v2 : Ref sig .tc := ⟨.hbm, 37, rfl⟩
abbrev main_v10 : Ref sig .tc := ⟨.hbm, 38, rfl⟩
abbrev main_v11 : Ref sig .tc := ⟨.hbm, 39, rfl⟩
abbrev main_c_5 : Ref sig .tc := ⟨.hbm, 40, rfl⟩
abbrev main_call5_c : Ref sig .tc := ⟨.hbm, 41, rfl⟩
abbrev main_call5_v0 : Ref sig .tc := ⟨.hbm, 42, rfl⟩
abbrev main_call5_v1 : Ref sig .tc := ⟨.hbm, 43, rfl⟩
abbrev main_call5_v2 : Ref sig .tc := ⟨.hbm, 44, rfl⟩
abbrev main_v12 : Ref sig .tc := ⟨.hbm, 45, rfl⟩
abbrev main_v13 : Ref sig .tc := ⟨.hbm, 46, rfl⟩
abbrev main_v14 : Ref sig .tc := ⟨.hbm, 47, rfl⟩
abbrev main_v15 : Ref sig .tc := ⟨.hbm, 48, rfl⟩
abbrev main_v16 : Ref sig .tc := ⟨.hbm, 49, rfl⟩
abbrev main_v17 : Ref sig .tc := ⟨.hbm, 50, rfl⟩
abbrev main_v18 : Ref sig .tc := ⟨.hbm, 51, rfl⟩
abbrev main_v19 : Ref sig .tc := ⟨.hbm, 52, rfl⟩
abbrev main_v20 : Ref sig .tc := ⟨.hbm, 53, rfl⟩
abbrev main_v21 : Ref sig .tc := ⟨.hbm, 54, rfl⟩
abbrev main_v22 : Ref sig .tc := ⟨.hbm, 55, rfl⟩
abbrev main_v23 : Ref sig .tc := ⟨.hbm, 56, rfl⟩
abbrev main_v24 : Ref sig .tc := ⟨.hbm, 57, rfl⟩
abbrev main_v25 : Ref sig .tc := ⟨.hbm, 58, rfl⟩
abbrev main_v26 : Ref sig .tc := ⟨.hbm, 59, rfl⟩
abbrev main_v27 : Ref sig .tc := ⟨.hbm, 60, rfl⟩
abbrev main_v28 : Ref sig .tc := ⟨.hbm, 61, rfl⟩
abbrev main_v29 : Ref sig .tc := ⟨.hbm, 62, rfl⟩
abbrev main_v30 : Ref sig .tc := ⟨.hbm, 63, rfl⟩
abbrev main_v31 : Ref sig .tc := ⟨.hbm, 64, rfl⟩
abbrev main_c_6 : Ref sig .tc := ⟨.hbm, 65, rfl⟩
abbrev main_v32 : Ref sig .tc := ⟨.hbm, 66, rfl⟩
abbrev main_v33 : Ref sig .tc := ⟨.hbm, 67, rfl⟩
abbrev main_v34 : Ref sig .tc := ⟨.hbm, 68, rfl⟩
abbrev main_v35 : Ref sig .tc := ⟨.hbm, 69, rfl⟩
abbrev main_v36 : Ref sig .tc := ⟨.hbm, 70, rfl⟩
abbrev main_v37 : Ref sig .tc := ⟨.hbm, 71, rfl⟩
abbrev main_v38 : Ref sig .tc := ⟨.hbm, 72, rfl⟩
abbrev main_c_7 : Ref sig .tc := ⟨.hbm, 73, rfl⟩
abbrev main_v39 : Ref sig .tc := ⟨.hbm, 74, rfl⟩
abbrev main_v40 : Ref sig .tc := ⟨.hbm, 75, rfl⟩
abbrev main_v41 : Ref sig .tc := ⟨.hbm, 76, rfl⟩
abbrev main_v42 : Ref sig .tc := ⟨.hbm, 77, rfl⟩
abbrev main_v43 : Ref sig .tc := ⟨.hbm, 78, rfl⟩
abbrev main_v44 : Ref sig .tc := ⟨.hbm, 79, rfl⟩
abbrev main_v45 : Ref sig .tc := ⟨.hbm, 80, rfl⟩
abbrev main_v46 : Ref sig .tc := ⟨.hbm, 81, rfl⟩
abbrev main_v47 : Ref sig .tc := ⟨.hbm, 82, rfl⟩
abbrev main_v48 : Ref sig .tc := ⟨.hbm, 83, rfl⟩
abbrev main_v49 : Ref sig .tc := ⟨.hbm, 84, rfl⟩
abbrev main_v50 : Ref sig .tc := ⟨.hbm, 85, rfl⟩
abbrev main_v51 : Ref sig .tc := ⟨.hbm, 86, rfl⟩
abbrev main_v52 : Ref sig .tc := ⟨.hbm, 87, rfl⟩
abbrev main_cst_8 : Ref sig .tc := ⟨.hbm, 88, rfl⟩
abbrev main_v53 : Ref sig .tc := ⟨.hbm, 89, rfl⟩
abbrev main_v54 : Ref sig .tc := ⟨.hbm, 90, rfl⟩
abbrev main_v55 : Ref sig .tc := ⟨.hbm, 91, rfl⟩
abbrev main_c_9 : Ref sig .tc := ⟨.hbm, 92, rfl⟩
abbrev main_v56 : Ref sig .tc := ⟨.hbm, 93, rfl⟩
abbrev main_v57 : Ref sig .tc := ⟨.hbm, 94, rfl⟩
abbrev main_c_10 : Ref sig .tc := ⟨.hbm, 95, rfl⟩
abbrev main_v58 : Ref sig .tc := ⟨.hbm, 96, rfl⟩
abbrev main_v59 : Ref sig .tc := ⟨.hbm, 97, rfl⟩
abbrev main_v60 : Ref sig .tc := ⟨.hbm, 98, rfl⟩
abbrev main_v61 : Ref sig .tc := ⟨.hbm, 99, rfl⟩
abbrev main_v62 : Ref sig .tc := ⟨.hbm, 100, rfl⟩
abbrev main_cst_11 : Ref sig .tc := ⟨.hbm, 101, rfl⟩
abbrev main_v63 : Ref sig .tc := ⟨.hbm, 102, rfl⟩
abbrev main_v64 : Ref sig .tc := ⟨.hbm, 103, rfl⟩
abbrev main_v65 : Ref sig .tc := ⟨.hbm, 104, rfl⟩
abbrev main_v66 : Ref sig .tc := ⟨.hbm, 105, rfl⟩
abbrev main_v67 : Ref sig .tc := ⟨.hbm, 106, rfl⟩
abbrev main_v68 : Ref sig .tc := ⟨.hbm, 107, rfl⟩
abbrev main_v69 : Ref sig .tc := ⟨.hbm, 108, rfl⟩
abbrev main_v70 : Ref sig .tc := ⟨.hbm, 109, rfl⟩
abbrev main_v71 : Ref sig .tc := ⟨.hbm, 110, rfl⟩
abbrev main_v72 : Ref sig .tc := ⟨.hbm, 111, rfl⟩
abbrev main_v73 : Ref sig .tc := ⟨.hbm, 112, rfl⟩
abbrev main_v74 : Ref sig .tc := ⟨.hbm, 113, rfl⟩
abbrev main_cst_12 : Ref sig .tc := ⟨.hbm, 114, rfl⟩
abbrev main_v75 : Ref sig .tc := ⟨.hbm, 115, rfl⟩
abbrev main_v76 : Ref sig .tc := ⟨.hbm, 116, rfl⟩
abbrev main_v77 : Ref sig .tc := ⟨.hbm, 117, rfl⟩
abbrev main_v78 : Ref sig .tc := ⟨.hbm, 118, rfl⟩
abbrev main_v79 : Ref sig .tc := ⟨.hbm, 119, rfl⟩
abbrev main_v80 : Ref sig .tc := ⟨.hbm, 120, rfl⟩
abbrev main_v81 : Ref sig .tc := ⟨.hbm, 121, rfl⟩
abbrev main_v82 : Ref sig .tc := ⟨.hbm, 122, rfl⟩
abbrev main_cst_13 : Ref sig .tc := ⟨.hbm, 123, rfl⟩
abbrev main_v83 : Ref sig .tc := ⟨.hbm, 124, rfl⟩
abbrev main_v84 : Ref sig .tc := ⟨.hbm, 125, rfl⟩
abbrev main_cst_14 : Ref sig .tc := ⟨.hbm, 126, rfl⟩
abbrev main_v85 : Ref sig .tc := ⟨.hbm, 127, rfl⟩
abbrev main_cst_15 : Ref sig .tc := ⟨.hbm, 128, rfl⟩
abbrev main_v86 : Ref sig .tc := ⟨.hbm, 129, rfl⟩
abbrev main_v87 : Ref sig .tc := ⟨.hbm, 130, rfl⟩
abbrev main_v88 : Ref sig .tc := ⟨.hbm, 131, rfl⟩
abbrev main_v89 : Ref sig .tc := ⟨.hbm, 132, rfl⟩
abbrev main_cst_16 : Ref sig .tc := ⟨.hbm, 133, rfl⟩
abbrev main_v90 : Ref sig .tc := ⟨.hbm, 134, rfl⟩
abbrev main_v91 : Ref sig .tc := ⟨.hbm, 135, rfl⟩
abbrev main_v92 : Ref sig .tc := ⟨.hbm, 136, rfl⟩
abbrev main_c_17 : Ref sig .tc := ⟨.hbm, 137, rfl⟩
abbrev main_call6_v0 : Ref sig .tc := ⟨.hbm, 138, rfl⟩
abbrev main_call6_v1 : Ref sig .tc := ⟨.hbm, 139, rfl⟩
abbrev main_call6_v2 : Ref sig .tc := ⟨.hbm, 140, rfl⟩
abbrev main_v93 : Ref sig .tc := ⟨.hbm, 141, rfl⟩
abbrev main_v94 : Ref sig .tc := ⟨.hbm, 142, rfl⟩
abbrev main_v95 : Ref sig .tc := ⟨.hbm, 143, rfl⟩
abbrev main_v96 : Ref sig .tc := ⟨.hbm, 144, rfl⟩
abbrev main_v97 : Ref sig .tc := ⟨.hbm, 145, rfl⟩
abbrev main_v98 : Ref sig .tc := ⟨.hbm, 146, rfl⟩
abbrev main_v99 : Ref sig .tc := ⟨.hbm, 147, rfl⟩
abbrev main_v100 : Ref sig .tc := ⟨.hbm, 148, rfl⟩
abbrev main_v101 : Ref sig .tc := ⟨.hbm, 149, rfl⟩
abbrev main_v102 : Ref sig .tc := ⟨.hbm, 150, rfl⟩
abbrev main_v103 : Ref sig .tc := ⟨.hbm, 151, rfl⟩
abbrev main_v104 : Ref sig .tc := ⟨.hbm, 152, rfl⟩
abbrev main_v105 : Ref sig .tc := ⟨.hbm, 153, rfl⟩
abbrev main_v106 : Ref sig .tc := ⟨.hbm, 154, rfl⟩
abbrev main_v107 : Ref sig .tc := ⟨.hbm, 155, rfl⟩
abbrev main_v108 : Ref sig .tc := ⟨.hbm, 156, rfl⟩
abbrev main_v109 : Ref sig .tc := ⟨.hbm, 157, rfl⟩
abbrev main_v110 : Ref sig .tc := ⟨.hbm, 158, rfl⟩
abbrev main_v111 : Ref sig .tc := ⟨.hbm, 159, rfl⟩
abbrev main_v112 : Ref sig .tc := ⟨.hbm, 160, rfl⟩
abbrev main_v113 : Ref sig .tc := ⟨.hbm, 161, rfl⟩
abbrev main_v114 : Ref sig .tc := ⟨.hbm, 162, rfl⟩
abbrev main_v115 : Ref sig .tc := ⟨.hbm, 163, rfl⟩
abbrev main_v116 : Ref sig .tc := ⟨.hbm, 164, rfl⟩
abbrev main_v117 : Ref sig .tc := ⟨.hbm, 165, rfl⟩
abbrev main_v118 : Ref sig .tc := ⟨.hbm, 166, rfl⟩
abbrev main_v119 : Ref sig .tc := ⟨.hbm, 167, rfl⟩
abbrev main_v120 : Ref sig .tc := ⟨.hbm, 168, rfl⟩
abbrev main_v121 : Ref sig .tc := ⟨.hbm, 169, rfl⟩
abbrev main_v122 : Ref sig .tc := ⟨.hbm, 170, rfl⟩
abbrev main_v123 : Ref sig .tc := ⟨.hbm, 171, rfl⟩
abbrev main_v124 : Ref sig .tc := ⟨.hbm, 172, rfl⟩
abbrev main_v125 : Ref sig .tc := ⟨.hbm, 173, rfl⟩
abbrev main_v126 : Ref sig .tc := ⟨.hbm, 174, rfl⟩
abbrev main_v127 : Ref sig .tc := ⟨.hbm, 175, rfl⟩
abbrev main_v128 : Ref sig .tc := ⟨.hbm, 176, rfl⟩
abbrev main_v129 : Ref sig .tc := ⟨.hbm, 177, rfl⟩
abbrev main_v130 : Ref sig .tc := ⟨.hbm, 178, rfl⟩
abbrev main_v131 : Ref sig .tc := ⟨.hbm, 179, rfl⟩
abbrev main_v132 : Ref sig .tc := ⟨.hbm, 180, rfl⟩
abbrev main_v133 : Ref sig .tc := ⟨.hbm, 181, rfl⟩
abbrev main_v134 : Ref sig .tc := ⟨.hbm, 182, rfl⟩
abbrev main_v135 : Ref sig .tc := ⟨.hbm, 183, rfl⟩
abbrev main_c_18 : Ref sig .tc := ⟨.hbm, 184, rfl⟩
abbrev main_v136 : Ref sig .tc := ⟨.hbm, 185, rfl⟩
abbrev main_c_19 : Ref sig .tc := ⟨.hbm, 186, rfl⟩
abbrev main_v137 : Ref sig .tc := ⟨.hbm, 187, rfl⟩
abbrev main_v138 : Ref sig .tc := ⟨.hbm, 188, rfl⟩
abbrev main_c_20 : Ref sig .tc := ⟨.hbm, 189, rfl⟩
abbrev main_v139 : Ref sig .tc := ⟨.hbm, 190, rfl⟩
abbrev main_v140 : Ref sig .tc := ⟨.hbm, 191, rfl⟩
abbrev main_v141 : Ref sig .tc := ⟨.hbm, 192, rfl⟩
abbrev main_c_21 : Ref sig .tc := ⟨.hbm, 193, rfl⟩
abbrev main_v142 : Ref sig .tc := ⟨.hbm, 194, rfl⟩
abbrev main_v143 : Ref sig .tc := ⟨.hbm, 195, rfl⟩
abbrev main_c_22 : Ref sig .tc := ⟨.hbm, 196, rfl⟩
abbrev main_v144 : Ref sig .tc := ⟨.hbm, 197, rfl⟩
abbrev main_v145 : Ref sig .tc := ⟨.hbm, 198, rfl⟩
abbrev main_v146 : Ref sig .tc := ⟨.hbm, 199, rfl⟩
abbrev main_v147 : Ref sig .tc := ⟨.hbm, 200, rfl⟩
abbrev main_v148 : Ref sig .tc := ⟨.hbm, 201, rfl⟩
abbrev main_v149 : Ref sig .tc := ⟨.hbm, 202, rfl⟩
abbrev main_v150 : Ref sig .tc := ⟨.hbm, 203, rfl⟩
abbrev main_v151 : Ref sig .tc := ⟨.hbm, 204, rfl⟩

abbrev nD : Nat := 1
abbrev τ : Topo := Topo.v7x

variable {F : FTy → Type} [FloatOps F]
-- ==== Proof.IdealBodyA.lean ====
/- The sample kernel's body on its staging buffers: what each store writes, and the triple that its run proves. -/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.VecWindow
public import Idealize.ShloMosaic.Lib.Ring
public import Idealize.ShloMosaic.Lib.Tactic
public import Idealize.ShloMosaic.Lib.WordCmp

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## What the body reads and stores -/

abbrev rIn : Rect S1x16x16x16 := Rect.unit (s := S1x16x16x16) ![0, 0, 0, 0] S1x16x16x16.size inb_S1x16x16x16_S1x16x16x16_0_0_0_0
/-- Face direction 0's mask of a sample's block: one where the voxel is occupied and its neighbour is not. -/
abbrev face0 (x0 : Vec F S1x16x16x16 .f32) : FVec F S16x16x16 .f32 := k0_pay3 (View.ld x0 rIn)
/-- Face direction 1's mask of a sample's block: one where the voxel is occupied and its neighbour is not. -/
abbrev face1 (x0 : Vec F S1x16x16x16 .f32) : FVec F S16x16x16 .f32 := k0_pay4 (View.ld x0 rIn)
/-- Face direction 2's mask of a sample's block: one where the voxel is occupied and its neighbour is not. -/
abbrev face2 (x0 : Vec F S1x16x16x16 .f32) : FVec F S16x16x16 .f32 := k0_pay5 (View.ld x0 rIn)
/-- Face direction 3's mask of a sample's block: one where the voxel is occupied and its neighbour is not. -/
abbrev face3 (x0 : Vec F S1x16x16x16 .f32) : FVec F S16x16x16 .f32 := k0_pay6 (View.ld x0 rIn)
/-- Face direction 4's mask of a sample's block: one where the voxel is occupied and its neighbour is not. -/
abbrev face4 (x0 : Vec F S1x16x16x16 .f32) : FVec F S16x16x16 .f32 := k0_pay7 (View.ld x0 rIn)
/-- Face direction 5's mask of a sample's block: one where the voxel is occupied and its neighbour is not. -/
abbrev face5 (x0 : Vec F S1x16x16x16 .f32) : FVec F S16x16x16 .f32 := k0_pay8 (View.ld x0 rIn)
/-- The row of counts that the body stores for a sample. -/
def cntRow (x0 : Vec F S1x16x16x16 .f32) : Vec F S1x128 .f32 := (k0_pay15 (face1 x0) (face3 x0) (face5 x0) (k0_pay9 (face0 x0) (face1 x0) (face2 x0) (face3 x0) (face4 x0) (face5 x0)) (k0_pay12 (face0 x0) (face1 x0) (face2 x0) (face3 x0) (face4 x0) (face5 x0) (k0_pay10 (face0 x0) (face2 x0) (face4 x0)) (k0_pay11 (face0 x0) (face2 x0) (face5 x0))) (k0_pay13 (face1 x0) (face3 x0) (face4 x0)))
abbrev r_post0 : Rect S1x3x17x17x17 := Rect.unit (s := S1x3x17x17x17) ![0, 0, 0, 0, 0] S1x1x17x17x17.size inb_S1x3x17x17x17_S1x1x17x17x17_0_0_0_0_0
/-- Store 0 into the `post` block. -/
abbrev postPay0 (x0 : Vec F S1x16x16x16 .f32) : Vec F S1x1x17x17x17 .f32 := (k0_pay16 (face1 x0) (face3 x0) (face5 x0) (k0_pay12 (face0 x0) (face1 x0) (face2 x0) (face3 x0) (face4 x0) (face5 x0) (k0_pay10 (face0 x0) (face2 x0) (face4 x0)) (k0_pay11 (face0 x0) (face2 x0) (face5 x0))) (k0_pay13 (face1 x0) (face3 x0) (face4 x0)))
abbrev r_post1 : Rect S1x3x17x17x17 := Rect.unit (s := S1x3x17x17x17) ![0, 1, 0, 0, 0] S1x1x17x17x17.size inb_S1x3x17x17x17_S1x1x17x17x17_0_1_0_0_0
/-- Store 1 into the `post` block. -/
abbrev postPay1 (x0 : Vec F S1x16x16x16 .f32) : Vec F S1x1x17x17x17 .f32 := (k0_pay18 (k0_pay17 (face1 x0) (face3 x0) (face5 x0) (k0_pay12 (face0 x0) (face1 x0) (face2 x0) (face3 x0) (face4 x0) (face5 x0) (k0_pay10 (face0 x0) (face2 x0) (face4 x0)) (k0_pay11 (face0 x0) (face2 x0) (face5 x0))) (k0_pay13 (face1 x0) (face3 x0) (face4 x0))))
abbrev r_post2 : Rect S1x3x17x17x17 := Rect.unit (s := S1x3x17x17x17) ![0, 2, 0, 0, 0] S1x1x17x17x17.size inb_S1x3x17x17x17_S1x1x17x17x17_0_2_0_0_0
/-- Store 2 into the `post` block. -/
abbrev postPay2 (x0 : Vec F S1x16x16x16 .f32) : Vec F S1x1x17x17x17 .f32 := (k0_pay19 (k0_pay14 (face1 x0) (face3 x0) (face5 x0) (k0_pay12 (face0 x0) (face1 x0) (face2 x0) (face3 x0) (face4 x0) (face5 x0) (k0_pay10 (face0 x0) (face2 x0) (face4 x0)) (k0_pay11 (face0 x0) (face2 x0) (face5 x0))) (k0_pay13 (face1 x0) (face3 x0) (face4 x0))))
/-- The `post` block after the body: its 3 stores, last first. -/
abbrev postPieces (x0 : Vec F S1x16x16x16 .f32) : List (View.Piece (Elt F) S1x3x17x17x17 .f32) :=
  [⟨r_post2, postPay2 x0⟩, ⟨r_post1, postPay1 x0⟩, ⟨r_post0, postPay0 x0⟩]
def postBlk (x0 : Vec F S1x16x16x16 .f32) : Vec F S1x3x17x17x17 .f32 := View.canon (postPieces x0)
theorem post_cover (p0 p1 p2 : Vec F S1x1x17x17x17 .f32) (y : S1x3x17x17x17.Idx) :
    ∃ pc ∈ ([⟨r_post2, p2⟩, ⟨r_post1, p1⟩, ⟨r_post0, p0⟩] : List (View.Piece (Elt F) S1x3x17x17x17 .f32)), y ∈ pc.1.set :=
  View.cover_of_tiled (s := S1x3x17x17x17) [⟨r_post2, p2⟩, ⟨r_post1, p1⟩, ⟨r_post0, p0⟩] S1x1x17x17x17.size (by rfl) y
abbrev r_band0 : Rect S1x16x17x17x17 := Rect.unit (s := S1x16x17x17x17) ![0, 0, 0, 0, 0] S1x1x17x17x17.size inb_S1x16x17x17x17_S1x1x17x17x17_0_0_0_0_0
/-- Store 0 into the `band` block. -/
abbrev bandPay0 (x0 : Vec F S1x16x16x16 .f32) : Vec F S1x1x17x17x17 .f32 := (k0_pay20 (face4 x0))
abbrev r_band1 : Rect S1x16x17x17x17 := Rect.unit (s := S1x16x17x17x17) ![0, 1, 0, 0, 0] S1x1x17x17x17.size inb_S1x16x17x17x17_S1x1x17x17x17_0_1_0_0_0
/-- Store 1 into the `band` block. -/
abbrev bandPay1 (x0 : Vec F S1x16x16x16 .f32) : Vec F S1x1x17x17x17 .f32 := (k0_pay22 (k0_pay21 (face2 x0)))
abbrev r_band2 : Rect S1x16x17x17x17 := Rect.unit (s := S1x16x17x17x17) ![0, 2, 0, 0, 0] S1x1x17x17x17.size inb_S1x16x17x17x17_S1x1x17x17x17_0_2_0_0_0
/-- Store 2 into the `band` block. -/
abbrev bandPay2 (x0 : Vec F S1x16x16x16 .f32) : Vec F S1x1x17x17x17 .f32 := (k0_pay23 (face2 x0) (face3 x0) (face4 x0) (face5 x0))
abbrev r_band3 : Rect S1x16x17x17x17 := Rect.unit (s := S1x16x17x17x17) ![0, 3, 0, 0, 0] S1x1x17x17x17.size inb_S1x16x17x17x17_S1x1x17x17x17_0_3_0_0_0
/-- Store 3 into the `band` block. -/
abbrev bandPay3 (x0 : Vec F S1x16x16x16 .f32) : Vec F S1x1x17x17x17 .f32 := (k0_pay24 (face3 x0) (Scalar.ofBits .f32 0x00000000#32))
abbrev r_band4 : Rect S1x16x17x17x17 := Rect.unit (s := S1x16x17x17x17) ![0, 4, 0, 0, 0] S1x1x17x17x17.size inb_S1x16x17x17x17_S1x1x17x17x17_0_4_0_0_0
/-- Store 4 into the `band` block. -/
abbrev bandPay4 (x0 : Vec F S1x16x16x16 .f32) : Vec F S1x1x17x17x17 .f32 := (k0_pay25 (face5 x0))
abbrev r_band5 : Rect S1x16x17x17x17 := Rect.unit (s := S1x16x17x17x17) ![0, 5, 0, 0, 0] S1x1x17x17x17.size inb_S1x16x17x17x17_S1x1x17x17x17_0_5_0_0_0
/-- Store 5 into the `band` block. -/
abbrev bandPay5 (x0 : Vec F S1x16x16x16 .f32) : Vec F S1x1x17x17x17 .f32 := (k0_pay29 (face1 x0) (face4 x0) (face5 x0) (k0_pay26 (face0 x0) (face4 x0)) (k0_pay27 (face0 x0) (face5 x0)) (k0_pay28 (F := F)))
abbrev r_band6 : Rect S1x16x17x17x17 := Rect.unit (s := S1x16x17x17x17) ![0, 6, 0, 0, 0] S1x1x17x17x17.size inb_S1x16x17x17x17_S1x1x17x17x17_0_6_0_0_0
/-- Store 6 into the `band` block. -/
abbrev bandPay6 (x0 : Vec F S1x16x16x16 .f32) : Vec F S1x1x17x17x17 .f32 := (k0_pay31 (k0_pay30 (face0 x0) (face1 x0)))
abbrev r_band7 : Rect S1x16x17x17x17 := Rect.unit (s := S1x16x17x17x17) ![0, 7, 0, 0, 0] S1x1x17x17x17.size inb_S1x16x17x17x17_S1x1x17x17x17_0_7_0_0_0
/-- Store 7 into the `band` block. -/
abbrev bandPay7 (x0 : Vec F S1x16x16x16 .f32) : Vec F S1x1x17x17x17 .f32 := (k0_pay33 (k0_pay32 (face0 x0) (face1 x0) (face2 x0) (face3 x0)))
abbrev r_band8 : Rect S1x16x17x17x17 := Rect.unit (s := S1x16x17x17x17) ![0, 8, 0, 0, 0] S1x1x17x17x17.size inb_S1x16x17x17x17_S1x1x17x17x17_0_8_0_0_0
/-- Store 8 into the `band` block. -/
abbrev bandPay8 (x0 : Vec F S1x16x16x16 .f32) : Vec F S1x1x17x17x17 .f32 := (k0_pay34 (face0 x0) (face1 x0) (face2 x0) (face3 x0))
abbrev r_band9 : Rect S1x16x17x17x17 := Rect.unit (s := S1x16x17x17x17) ![0, 9, 0, 0, 0] S1x1x17x17x17.size inb_S1x16x17x17x17_S1x1x17x17x17_0_9_0_0_0
/-- Store 9 into the `band` block. -/
abbrev bandPay9 (x0 : Vec F S1x16x16x16 .f32) : Vec F S1x1x17x17x17 .f32 := (k0_pay36 (face0 x0) (face1 x0) (k0_pay35 (F := F)) (Scalar.ofBits .f32 0x00000000#32))
abbrev r_band10 : Rect S1x16x17x17x17 := Rect.unit (s := S1x16x17x17x17) ![0, 10, 0, 0, 0] S1x1x17x17x17.size inb_S1x16x17x17x17_S1x1x17x17x17_0_10_0_0_0
/-- Store 10 into the `band` block. -/
abbrev bandPay10 (x0 : Vec F S1x16x16x16 .f32) : Vec F S1x1x17x17x17 .f32 := (k0_pay39 (face1 x0) (face5 x0) (k0_pay37 (face0 x0) (face4 x0) (face5 x0)) (k0_pay38 (face1 x0) (face4 x0)) (Scalar.ofBits .f32 0x00000000#32))
abbrev r_band11 : Rect S1x16x17x17x17 := Rect.unit (s := S1x16x17x17x17) ![0, 11, 0, 0, 0] S1x1x17x17x17.size inb_S1x16x17x17x17_S1x1x17x17x17_0_11_0_0_0
/-- Store 11 into the `band` block. -/
abbrev bandPay11 (x0 : Vec F S1x16x16x16 .f32) : Vec F S1x1x17x17x17 .f32 := (k0_pay40 (face5 x0))
abbrev r_band12 : Rect S1x16x17x17x17 := Rect.unit (s := S1x16x17x17x17) ![0, 12, 0, 0, 0] S1x1x17x17x17.size inb_S1x16x17x17x17_S1x1x17x17x17_0_12_0_0_0
/-- Store 12 into the `band` block. -/
abbrev bandPay12 (x0 : Vec F S1x16x16x16 .f32) : Vec F S1x1x17x17x17 .f32 := (k0_pay42 (k0_pay41 (face3 x0)))
abbrev r_band13 : Rect S1x16x17x17x17 := Rect.unit (s := S1x16x17x17x17) ![0, 13, 0, 0, 0] S1x1x17x17x17.size inb_S1x16x17x17x17_S1x1x17x17x17_0_13_0_0_0
/-- Store 13 into the `band` block. -/
abbrev bandPay13 (x0 : Vec F S1x16x16x16 .f32) : Vec F S1x1x17x17x17 .f32 := (k0_pay43 (face2 x0) (face3 x0) (face4 x0) (face5 x0))
abbrev r_band14 : Rect S1x16x17x17x17 := Rect.unit (s := S1x16x17x17x17) ![0, 14, 0, 0, 0] S1x1x17x17x17.size inb_S1x16x17x17x17_S1x1x17x17x17_0_14_0_0_0
/-- Store 14 into the `band` block. -/
abbrev bandPay14 (x0 : Vec F S1x16x16x16 .f32) : Vec F S1x1x17x17x17 .f32 := (k0_pay44 (face2 x0))
abbrev r_band15 : Rect S1x16x17x17x17 := Rect.unit (s := S1x16x17x17x17) ![0, 15, 0, 0, 0] S1x1x17x17x17.size inb_S1x16x17x17x17_S1x1x17x17x17_0_15_0_0_0
/-- Store 15 into the `band` block. -/
abbrev bandPay15 (x0 : Vec F S1x16x16x16 .f32) : Vec F S1x1x17x17x17 .f32 := (k0_pay45 (face4 x0))
/-- The `band` block after the body: its 16 stores, last first. -/
abbrev bandPieces (x0 : Vec F S1x16x16x16 .f32) : List (View.Piece (Elt F) S1x16x17x17x17 .f32) :=
  [⟨r_band15, bandPay15 x0⟩, ⟨r_band14, bandPay14 x0⟩, ⟨r_band13, bandPay13 x0⟩, ⟨r_band12, bandPay12 x0⟩, ⟨r_band11, bandPay11 x0⟩, ⟨r_band10, bandPay10 x0⟩, ⟨r_band9, bandPay9 x0⟩, ⟨r_band8, bandPay8 x0⟩, ⟨r_band7, bandPay7 x0⟩, ⟨r_band6, bandPay6 x0⟩, ⟨r_band5, bandPay5 x0⟩, ⟨r_band4, bandPay4 x0⟩, ⟨r_band3, bandPay3 x0⟩, ⟨r_band2, bandPay2 x0⟩, ⟨r_band1, bandPay1 x0⟩, ⟨r_band0, bandPay0 x0⟩]
def bandBlk (x0 : Vec F S1x16x16x16 .f32) : Vec F S1x16x17x17x17 .f32 := View.canon (bandPieces x0)
theorem band_cover (p0 p1 p2 p3 p4 p5 p6 p7 p8 p9 p10 p11 p12 p13 p14 p15 : Vec F S1x1x17x17x17 .f32) (y : S1x16x17x17x17.Idx) :
    ∃ pc ∈ ([⟨r_band15, p15⟩, ⟨r_band14, p14⟩, ⟨r_band13, p13⟩, ⟨r_band12, p12⟩, ⟨r_band11, p11⟩, ⟨r_band10, p10⟩, ⟨r_band9, p9⟩, ⟨r_band8, p8⟩, ⟨r_band7, p7⟩, ⟨r_band6, p6⟩, ⟨r_band5, p5⟩, ⟨r_band4, p4⟩, ⟨r_band3, p3⟩, ⟨r_band2, p2⟩, ⟨r_band1, p1⟩, ⟨r_band0, p0⟩] : List (View.Piece (Elt F) S1x16x17x17x17 .f32)), y ∈ pc.1.set :=
  View.cover_of_tiled (s := S1x16x17x17x17) [⟨r_band15, p15⟩, ⟨r_band14, p14⟩, ⟨r_band13, p13⟩, ⟨r_band12, p12⟩, ⟨r_band11, p11⟩, ⟨r_band10, p10⟩, ⟨r_band9, p9⟩, ⟨r_band8, p8⟩, ⟨r_band7, p7⟩, ⟨r_band6, p6⟩, ⟨r_band5, p5⟩, ⟨r_band4, p4⟩, ⟨r_band3, p3⟩, ⟨r_band2, p2⟩, ⟨r_band1, p1⟩, ⟨r_band0, p0⟩] S1x1x17x17x17.size (by rfl) y
abbrev r_mesh0 : Rect S1x6x2x3x16x16x16 := Rect.unit (s := S1x6x2x3x16x16x16) ![0, 0, 0, 0, 0, 0, 0] S1x1x1x1x16x16x16.size inb_S1x6x2x3x16x16x16_S1x1x1x1x16x16x16_0_0_0_0_0_0_0
/-- Store 0 into the `mesh` block. -/
abbrev meshPay0 (x0 : Vec F S1x16x16x16 .f32) (x1 : Vec F S6x2x3x16x16x16 .i32) : Vec F S1x1x1x1x16x16x16 .i32 := (k0_pay48 (k0_pay47 (face0 x0) (View.ld x1 (Rect.unit (s := S6x2x3x16x16x16) ![0, 0, 0, 0, 0, 0] S1x1x1x16x16x16.size inb_S6x2x3x16x16x16_S1x1x1x16x16x16_0_0_0_0_0_0))))
abbrev r_mesh1 : Rect S1x6x2x3x16x16x16 := Rect.unit (s := S1x6x2x3x16x16x16) ![0, 0, 0, 1, 0, 0, 0] S1x1x1x1x16x16x16.size inb_S1x6x2x3x16x16x16_S1x1x1x1x16x16x16_0_0_0_1_0_0_0
/-- Store 1 into the `mesh` block. -/
abbrev meshPay1 (x0 : Vec F S1x16x16x16 .f32) (x1 : Vec F S6x2x3x16x16x16 .i32) : Vec F S1x1x1x1x16x16x16 .i32 := (k0_pay49 (k0_pay46 (face0 x0)) (View.ld x1 (Rect.unit (s := S6x2x3x16x16x16) ![0, 0, 1, 0, 0, 0] S1x1x1x16x16x16.size inb_S6x2x3x16x16x16_S1x1x1x16x16x16_0_0_1_0_0_0)))
abbrev r_mesh2 : Rect S1x6x2x3x16x16x16 := Rect.unit (s := S1x6x2x3x16x16x16) ![0, 0, 0, 2, 0, 0, 0] S1x1x1x1x16x16x16.size inb_S1x6x2x3x16x16x16_S1x1x1x1x16x16x16_0_0_0_2_0_0_0
/-- Store 2 into the `mesh` block. -/
abbrev meshPay2 (x0 : Vec F S1x16x16x16 .f32) (x1 : Vec F S6x2x3x16x16x16 .i32) : Vec F S1x1x1x1x16x16x16 .i32 := (k0_pay50 (k0_pay46 (face0 x0)) (View.ld x1 (Rect.unit (s := S6x2x3x16x16x16) ![0, 0, 2, 0, 0, 0] S1x1x1x16x16x16.size inb_S6x2x3x16x16x16_S1x1x1x16x16x16_0_0_2_0_0_0)))
abbrev r_mesh3 : Rect S1x6x2x3x16x16x16 := Rect.unit (s := S1x6x2x3x16x16x16) ![0, 0, 1, 0, 0, 0, 0] S1x1x1x1x16x16x16.size inb_S1x6x2x3x16x16x16_S1x1x1x1x16x16x16_0_0_1_0_0_0_0
/-- Store 3 into the `mesh` block. -/
abbrev meshPay3 (x0 : Vec F S1x16x16x16 .f32) (x1 : Vec F S6x2x3x16x16x16 .i32) : Vec F S1x1x1x1x16x16x16 .i32 := (k0_pay52 (k0_pay46 (face0 x0)) (k0_pay51 (View.ld x1 (Rect.unit (s := S6x2x3x16x16x16) ![0, 1, 0, 0, 0, 0] S1x1x1x16x16x16.size inb_S6x2x3x16x16x16_S1x1x1x16x16x16_0_1_0_0_0_0))) 4294967295#32)
abbrev r_mesh4 : Rect S1x6x2x3x16x16x16 := Rect.unit (s := S1x6x2x3x16x16x16) ![0, 0, 1, 1, 0, 0, 0] S1x1x1x1x16x16x16.size inb_S1x6x2x3x16x16x16_S1x1x1x1x16x16x16_0_0_1_1_0_0_0
/-- Store 4 into the `mesh` block. -/
abbrev meshPay4 (x0 : Vec F S1x16x16x16 .f32) (x1 : Vec F S6x2x3x16x16x16 .i32) : Vec F S1x1x1x1x16x16x16 .i32 := (k0_pay53 (k0_pay46 (face0 x0)) (View.ld x1 (Rect.unit (s := S6x2x3x16x16x16) ![0, 1, 1, 0, 0, 0] S1x1x1x16x16x16.size inb_S6x2x3x16x16x16_S1x1x1x16x16x16_0_1_1_0_0_0)))
abbrev r_mesh5 : Rect S1x6x2x3x16x16x16 := Rect.unit (s := S1x6x2x3x16x16x16) ![0, 0, 1, 2, 0, 0, 0] S1x1x1x1x16x16x16.size inb_S1x6x2x3x16x16x16_S1x1x1x1x16x16x16_0_0_1_2_0_0_0
/-- Store 5 into the `mesh` block. -/
abbrev meshPay5 (x0 : Vec F S1x16x16x16 .f32) (x1 : Vec F S6x2x3x16x16x16 .i32) : Vec F S1x1x1x1x16x16x16 .i32 := (k0_pay54 (k0_pay46 (face0 x0)) (View.ld x1 (Rect.unit (s := S6x2x3x16x16x16) ![0, 1, 2, 0, 0, 0] S1x1x1x16x16x16.size inb_S6x2x3x16x16x16_S1x1x1x16x16x16_0_1_2_0_0_0)))
abbrev r_mesh6 : Rect S1x6x2x3x16x16x16 := Rect.unit (s := S1x6x2x3x16x16x16) ![0, 1, 0, 0, 0, 0, 0] S1x1x1x1x16x16x16.size inb_S1x6x2x3x16x16x16_S1x1x1x1x16x16x16_0_1_0_0_0_0_0
/-- Store 6 into the `mesh` block. -/
abbrev meshPay6 (x0 : Vec F S1x16x16x16 .f32) (x1 : Vec F S6x2x3x16x16x16 .i32) : Vec F S1x1x1x1x16x16x16 .i32 := (k0_pay56 (k0_pay55 (face1 x0)) (View.ld x1 (Rect.unit (s := S6x2x3x16x16x16) ![1, 0, 0, 0, 0, 0] S1x1x1x16x16x16.size inb_S6x2x3x16x16x16_S1x1x1x16x16x16_1_0_0_0_0_0)))
abbrev r_mesh7 : Rect S1x6x2x3x16x16x16 := Rect.unit (s := S1x6x2x3x16x16x16) ![0, 1, 0, 1, 0, 0, 0] S1x1x1x1x16x16x16.size inb_S1x6x2x3x16x16x16_S1x1x1x1x16x16x16_0_1_0_1_0_0_0
/-- Store 7 into the `mesh` block. -/
abbrev meshPay7 (x0 : Vec F S1x16x16x16 .f32) (x1 : Vec F S6x2x3x16x16x16 .i32) : Vec F S1x1x1x1x16x16x16 .i32 := (k0_pay57 (k0_pay55 (face1 x0)) (View.ld x1 (Rect.unit (s := S6x2x3x16x16x16) ![1, 0, 1, 0, 0, 0] S1x1x1x16x16x16.size inb_S6x2x3x16x16x16_S1x1x1x16x16x16_1_0_1_0_0_0)))
abbrev r_mesh8 : Rect S1x6x2x3x16x16x16 := Rect.unit (s := S1x6x2x3x16x16x16) ![0, 1, 0, 2, 0, 0, 0] S1x1x1x1x16x16x16.size inb_S1x6x2x3x16x16x16_S1x1x1x1x16x16x16_0_1_0_2_0_0_0
/-- Store 8 into the `mesh` block. -/
abbrev meshPay8 (x0 : Vec F S1x16x16x16 .f32) (x1 : Vec F S6x2x3x16x16x16 .i32) : Vec F S1x1x1x1x16x16x16 .i32 := (k0_pay59 (k0_pay58 (k0_pay55 (face1 x0)) (View.ld x1 (Rect.unit (s := S6x2x3x16x16x16) ![1, 0, 2, 0, 0, 0] S1x1x1x16x16x16.size inb_S6x2x3x16x16x16_S1x1x1x16x16x16_1_0_2_0_0_0))))
abbrev r_mesh9 : Rect S1x6x2x3x16x16x16 := Rect.unit (s := S1x6x2x3x16x16x16) ![0, 1, 1, 0, 0, 0, 0] S1x1x1x1x16x16x16.size inb_S1x6x2x3x16x16x16_S1x1x1x1x16x16x16_0_1_1_0_0_0_0
/-- Store 9 into the `mesh` block. -/
abbrev meshPay9 (x0 : Vec F S1x16x16x16 .f32) (x1 : Vec F S6x2x3x16x16x16 .i32) : Vec F S1x1x1x1x16x16x16 .i32 := (k0_pay60 (k0_pay55 (face1 x0)) (View.ld x1 (Rect.unit (s := S6x2x3x16x16x16) ![1, 1, 0, 0, 0, 0] S1x1x1x16x16x16.size inb_S6x2x3x16x16x16_S1x1x1x16x16x16_1_1_0_0_0_0)))
abbrev r_mesh10 : Rect S1x6x2x3x16x16x16 := Rect.unit (s := S1x6x2x3x16x16x16) ![0, 1, 1, 1, 0, 0, 0] S1x1x1x1x16x16x16.size inb_S1x6x2x3x16x16x16_S1x1x1x1x16x16x16_0_1_1_1_0_0_0
/-- Store 10 into the `mesh` block. -/
abbrev meshPay10 (x0 : Vec F S1x16x16x16 .f32) (x1 : Vec F S6x2x3x16x16x16 .i32) : Vec F S1x1x1x1x16x16x16 .i32 := (k0_pay61 (k0_pay55 (face1 x0)) (View.ld x1 (Rect.unit (s := S6x2x3x16x16x16) ![1, 1, 1, 0, 0, 0] S1x1x1x16x16x16.size inb_S6x2x3x16x16x16_S1x1x1x16x16x16_1_1_1_0_0_0)))
abbrev r_mesh11 : Rect S1x6x2x3x16x16x16 := Rect.unit (s := S1x6x2x3x16x16x16) ![0, 1, 1, 2, 0, 0, 0] S1x1x1x1x16x16x16.size inb_S1x6x2x3x16x16x16_S1x1x1x1x16x16x16_0_1_1_2_0_0_0
/-- Store 11 into the `mesh` block. -/
abbrev meshPay11 (x0 : Vec F S1x16x16x16 .f32) (x1 : Vec F S6x2x3x16x16x16 .i32) : Vec F S1x1x1x1x16x16x16 .i32 := (k0_pay64 (k0_pay55 (face1 x0)) (k0_pay62 (View.ld x1 (Rect.unit (s := S6x2x3x16x16x16) ![1, 1, 2, 0, 0, 0] S1x1x1x16x16x16.size inb_S6x2x3x16x16x16_S1x1x1x16x16x16_1_1_2_0_0_0))) k0_pay63)
abbrev r_mesh12 : Rect S1x6x2x3x16x16x16 := Rect.unit (s := S1x6x2x3x16x16x16) ![0, 2, 0, 0, 0, 0, 0] S1x1x1x1x16x16x16.size inb_S1x6x2x3x16x16x16_S1x1x1x1x16x16x16_0_2_0_0_0_0_0
/-- Store 12 into the `mesh` block. -/
abbrev meshPay12 (x0 : Vec F S1x16x16x16 .f32) (x1 : Vec F S6x2x3x16x16x16 .i32) : Vec F S1x1x1x1x16x16x16 .i32 := (k0_pay66 (face2 x0) (View.ld x1 (Rect.unit (s := S6x2x3x16x16x16) ![2, 0, 0, 0, 0, 0] S1x1x1x16x16x16.size inb_S6x2x3x16x16x16_S1x1x1x16x16x16_2_0_0_0_0_0)))
abbrev r_mesh13 : Rect S1x6x2x3x16x16x16 := Rect.unit (s := S1x6x2x3x16x16x16) ![0, 2, 0, 1, 0, 0, 0] S1x1x1x1x16x16x16.size inb_S1x6x2x3x16x16x16_S1x1x1x1x16x16x16_0_2_0_1_0_0_0
/-- Store 13 into the `mesh` block. -/
abbrev meshPay13 (x0 : Vec F S1x16x16x16 .f32) (x1 : Vec F S6x2x3x16x16x16 .i32) : Vec F S1x1x1x1x16x16x16 .i32 := (k0_pay67 (face2 x0) (View.ld x1 (Rect.unit (s := S6x2x3x16x16x16) ![2, 0, 1, 0, 0, 0] S1x1x1x16x16x16.size inb_S6x2x3x16x16x16_S1x1x1x16x16x16_2_0_1_0_0_0)))
abbrev r_mesh14 : Rect S1x6x2x3x16x16x16 := Rect.unit (s := S1x6x2x3x16x16x16) ![0, 2, 0, 2, 0, 0, 0] S1x1x1x1x16x16x16.size inb_S1x6x2x3x16x16x16_S1x1x1x1x16x16x16_0_2_0_2_0_0_0
/-- Store 14 into the `mesh` block. -/
abbrev meshPay14 (x0 : Vec F S1x16x16x16 .f32) (x1 : Vec F S6x2x3x16x16x16 .i32) : Vec F S1x1x1x1x16x16x16 .i32 := (k0_pay68 (k0_pay65 (face2 x0)) (View.ld x1 (Rect.unit (s := S6x2x3x16x16x16) ![2, 0, 2, 0, 0, 0] S1x1x1x16x16x16.size inb_S6x2x3x16x16x16_S1x1x1x16x16x16_2_0_2_0_0_0)))
abbrev r_mesh15 : Rect S1x6x2x3x16x16x16 := Rect.unit (s := S1x6x2x3x16x16x16) ![0, 2, 1, 0, 0, 0, 0] S1x1x1x1x16x16x16.size inb_S1x6x2x3x16x16x16_S1x1x1x1x16x16x16_0_2_1_0_0_0_0
/-- Store 15 into the `mesh` block. -/
abbrev meshPay15 (x0 : Vec F S1x16x16x16 .f32) (x1 : Vec F S6x2x3x16x16x16 .i32) : Vec F S1x1x1x1x16x16x16 .i32 := (k0_pay69 (k0_pay65 (face2 x0)) (View.ld x1 (Rect.unit (s := S6x2x3x16x16x16) ![2, 1, 0, 0, 0, 0] S1x1x1x16x16x16.size inb_S6x2x3x16x16x16_S1x1x1x16x16x16_2_1_0_0_0_0)))
abbrev r_mesh16 : Rect S1x6x2x3x16x16x16 := Rect.unit (s := S1x6x2x3x16x16x16) ![0, 2, 1, 1, 0, 0, 0] S1x1x1x1x16x16x16.size inb_S1x6x2x3x16x16x16_S1x1x1x1x16x16x16_0_2_1_1_0_0_0
/-- Store 16 into the `mesh` block. -/
abbrev meshPay16 (x0 : Vec F S1x16x16x16 .f32) (x1 : Vec F S6x2x3x16x16x16 .i32) : Vec F S1x1x1x1x16x16x16 .i32 := (k0_pay71 (k0_pay70 (k0_pay65 (face2 x0)) (View.ld x1 (Rect.unit (s := S6x2x3x16x16x16) ![2, 1, 1, 0, 0, 0] S1x1x1x16x16x16.size inb_S6x2x3x16x16x16_S1x1x1x16x16x16_2_1_1_0_0_0))))
abbrev r_mesh17 : Rect S1x6x2x3x16x16x16 := Rect.unit (s := S1x6x2x3x16x16x16) ![0, 2, 1, 2, 0, 0, 0] S1x1x1x1x16x16x16.size inb_S1x6x2x3x16x16x16_S1x1x1x1x16x16x16_0_2_1_2_0_0_0
/-- Store 17 into the `mesh` block. -/
abbrev meshPay17 (x0 : Vec F S1x16x16x16 .f32) (x1 : Vec F S6x2x3x16x16x16 .i32) : Vec F S1x1x1x1x16x16x16 .i32 := (k0_pay72 (k0_pay65 (face2 x0)) (View.ld x1 (Rect.unit (s := S6x2x3x16x16x16) ![2, 1, 2, 0, 0, 0] S1x1x1x16x16x16.size inb_S6x2x3x16x16x16_S1x1x1x16x16x16_2_1_2_0_0_0)))
abbrev r_mesh18 : Rect S1x6x2x3x16x16x16 := Rect.unit (s := S1x6x2x3x16x16x16) ![0, 3, 0, 0, 0, 0, 0] S1x1x1x1x16x16x16.size inb_S1x6x2x3x16x16x16_S1x1x1x1x16x16x16_0_3_0_0_0_0_0
/-- Store 18 into the `mesh` block. -/
abbrev meshPay18 (x0 : Vec F S1x16x16x16 .f32) (x1 : Vec F S6x2x3x16x16x16 .i32) : Vec F S1x1x1x1x16x16x16 .i32 := (k0_pay74 (face3 x0) (View.ld x1 (Rect.unit (s := S6x2x3x16x16x16) ![3, 0, 0, 0, 0, 0] S1x1x1x16x16x16.size inb_S6x2x3x16x16x16_S1x1x1x16x16x16_3_0_0_0_0_0)))
abbrev r_mesh19 : Rect S1x6x2x3x16x16x16 := Rect.unit (s := S1x6x2x3x16x16x16) ![0, 3, 0, 1, 0, 0, 0] S1x1x1x1x16x16x16.size inb_S1x6x2x3x16x16x16_S1x1x1x1x16x16x16_0_3_0_1_0_0_0
/-- Store 19 into the `mesh` block. -/
abbrev meshPay19 (x0 : Vec F S1x16x16x16 .f32) (x1 : Vec F S6x2x3x16x16x16 .i32) : Vec F S1x1x1x1x16x16x16 .i32 := (k0_pay76 (k0_pay73 (face3 x0)) (k0_pay75 (View.ld x1 (Rect.unit (s := S6x2x3x16x16x16) ![3, 0, 1, 0, 0, 0] S1x1x1x16x16x16.size inb_S6x2x3x16x16x16_S1x1x1x16x16x16_3_0_1_0_0_0))))
abbrev r_mesh20 : Rect S1x6x2x3x16x16x16 := Rect.unit (s := S1x6x2x3x16x16x16) ![0, 3, 0, 2, 0, 0, 0] S1x1x1x1x16x16x16.size inb_S1x6x2x3x16x16x16_S1x1x1x1x16x16x16_0_3_0_2_0_0_0
/-- Store 20 into the `mesh` block. -/
abbrev meshPay20 (x0 : Vec F S1x16x16x16 .f32) (x1 : Vec F S6x2x3x16x16x16 .i32) : Vec F S1x1x1x1x16x16x16 .i32 := (k0_pay77 (k0_pay73 (face3 x0)) (View.ld x1 (Rect.unit (s := S6x2x3x16x16x16) ![3, 0, 2, 0, 0, 0] S1x1x1x16x16x16.size inb_S6x2x3x16x16x16_S1x1x1x16x16x16_3_0_2_0_0_0)))
abbrev r_mesh21 : Rect S1x6x2x3x16x16x16 := Rect.unit (s := S1x6x2x3x16x16x16) ![0, 3, 1, 0, 0, 0, 0] S1x1x1x1x16x16x16.size inb_S1x6x2x3x16x16x16_S1x1x1x1x16x16x16_0_3_1_0_0_0_0
/-- Store 21 into the `mesh` block. -/
abbrev meshPay21 (x0 : Vec F S1x16x16x16 .f32) (x1 : Vec F S6x2x3x16x16x16 .i32) : Vec F S1x1x1x1x16x16x16 .i32 := (k0_pay78 (k0_pay73 (face3 x0)) (View.ld x1 (Rect.unit (s := S6x2x3x16x16x16) ![3, 1, 0, 0, 0, 0] S1x1x1x16x16x16.size inb_S6x2x3x16x16x16_S1x1x1x16x16x16_3_1_0_0_0_0)))
abbrev r_mesh22 : Rect S1x6x2x3x16x16x16 := Rect.unit (s := S1x6x2x3x16x16x16) ![0, 3, 1, 1, 0, 0, 0] S1x1x1x1x16x16x16.size inb_S1x6x2x3x16x16x16_S1x1x1x1x16x16x16_0_3_1_1_0_0_0
/-- Store 22 into the `mesh` block. -/
abbrev meshPay22 (x0 : Vec F S1x16x16x16 .f32) (x1 : Vec F S6x2x3x16x16x16 .i32) : Vec F S1x1x1x1x16x16x16 .i32 := (k0_pay79 (k0_pay73 (face3 x0)) (View.ld x1 (Rect.unit (s := S6x2x3x16x16x16) ![3, 1, 1, 0, 0, 0] S1x1x1x16x16x16.size inb_S6x2x3x16x16x16_S1x1x1x16x16x16_3_1_1_0_0_0)))
abbrev r_mesh23 : Rect S1x6x2x3x16x16x16 := Rect.unit (s := S1x6x2x3x16x16x16) ![0, 3, 1, 2, 0, 0, 0] S1x1x1x1x16x16x16.size inb_S1x6x2x3x16x16x16_S1x1x1x1x16x16x16_0_3_1_2_0_0_0
/-- Store 23 into the `mesh` block. -/
abbrev meshPay23 (x0 : Vec F S1x16x16x16 .f32) (x1 : Vec F S6x2x3x16x16x16 .i32) : Vec F S1x1x1x1x16x16x16 .i32 := (k0_pay80 (k0_pay73 (face3 x0)) (View.ld x1 (Rect.unit (s := S6x2x3x16x16x16) ![3, 1, 2, 0, 0, 0] S1x1x1x16x16x16.size inb_S6x2x3x16x16x16_S1x1x1x16x16x16_3_1_2_0_0_0)))
abbrev r_mesh24 : Rect S1x6x2x3x16x16x16 := Rect.unit (s := S1x6x2x3x16x16x16) ![0, 4, 0, 0, 0, 0, 0] S1x1x1x1x16x16x16.size inb_S1x6x2x3x16x16x16_S1x1x1x1x16x16x16_0_4_0_0_0_0_0
/-- Store 24 into the `mesh` block. -/
abbrev meshPay24 (x0 : Vec F S1x16x16x16 .f32) (x1 : Vec F S6x2x3x16x16x16 .i32) : Vec F S1x1x1x1x16x16x16 .i32 := (k0_pay83 (k0_pay82 (face4 x0) (View.ld x1 (Rect.unit (s := S6x2x3x16x16x16) ![4, 0, 0, 0, 0, 0] S1x1x1x16x16x16.size inb_S6x2x3x16x16x16_S1x1x1x16x16x16_4_0_0_0_0_0))))
abbrev r_mesh25 : Rect S1x6x2x3x16x16x16 := Rect.unit (s := S1x6x2x3x16x16x16) ![0, 4, 0, 1, 0, 0, 0] S1x1x1x1x16x16x16.size inb_S1x6x2x3x16x16x16_S1x1x1x1x16x16x16_0_4_0_1_0_0_0
/-- Store 25 into the `mesh` block. -/
abbrev meshPay25 (x0 : Vec F S1x16x16x16 .f32) (x1 : Vec F S6x2x3x16x16x16 .i32) : Vec F S1x1x1x1x16x16x16 .i32 := (k0_pay84 (k0_pay81 (face4 x0)) (View.ld x1 (Rect.unit (s := S6x2x3x16x16x16) ![4, 0, 1, 0, 0, 0] S1x1x1x16x16x16.size inb_S6x2x3x16x16x16_S1x1x1x16x16x16_4_0_1_0_0_0)))
abbrev r_mesh26 : Rect S1x6x2x3x16x16x16 := Rect.unit (s := S1x6x2x3x16x16x16) ![0, 4, 0, 2, 0, 0, 0] S1x1x1x1x16x16x16.size inb_S1x6x2x3x16x16x16_S1x1x1x1x16x16x16_0_4_0_2_0_0_0
/-- Store 26 into the `mesh` block. -/
abbrev meshPay26 (x0 : Vec F S1x16x16x16 .f32) (x1 : Vec F S6x2x3x16x16x16 .i32) : Vec F S1x1x1x1x16x16x16 .i32 := (k0_pay85 (k0_pay81 (face4 x0)) (View.ld x1 (Rect.unit (s := S6x2x3x16x16x16) ![4, 0, 2, 0, 0, 0] S1x1x1x16x16x16.size inb_S6x2x3x16x16x16_S1x1x1x16x16x16_4_0_2_0_0_0)))
abbrev r_mesh27 : Rect S1x6x2x3x16x16x16 := Rect.unit (s := S1x6x2x3x16x16x16) ![0, 4, 1, 0, 0, 0, 0] S1x1x1x1x16x16x16.size inb_S1x6x2x3x16x16x16_S1x1x1x1x16x16x16_0_4_1_0_0_0_0
/-- Store 27 into the `mesh` block. -/
abbrev meshPay27 (x0 : Vec F S1x16x16x16 .f32) (x1 : Vec F S6x2x3x16x16x16 .i32) : Vec F S1x1x1x1x16x16x16 .i32 := (k0_pay87 (k0_pay81 (face4 x0)) (k0_pay86 (View.ld x1 (Rect.unit (s := S6x2x3x16x16x16) ![4, 1, 0, 0, 0, 0] S1x1x1x16x16x16.size inb_S6x2x3x16x16x16_S1x1x1x16x16x16_4_1_0_0_0_0))) 4294967295#32)
abbrev r_mesh28 : Rect S1x6x2x3x16x16x16 := Rect.unit (s := S1x6x2x3x16x16x16) ![0, 4, 1, 1, 0, 0, 0] S1x1x1x1x16x16x16.size inb_S1x6x2x3x16x16x16_S1x1x1x1x16x16x16_0_4_1_1_0_0_0
/-- Store 28 into the `mesh` block. -/
abbrev meshPay28 (x0 : Vec F S1x16x16x16 .f32) (x1 : Vec F S6x2x3x16x16x16 .i32) : Vec F S1x1x1x1x16x16x16 .i32 := (k0_pay88 (k0_pay81 (face4 x0)) (View.ld x1 (Rect.unit (s := S6x2x3x16x16x16) ![4, 1, 1, 0, 0, 0] S1x1x1x16x16x16.size inb_S6x2x3x16x16x16_S1x1x1x16x16x16_4_1_1_0_0_0)))
abbrev r_mesh29 : Rect S1x6x2x3x16x16x16 := Rect.unit (s := S1x6x2x3x16x16x16) ![0, 4, 1, 2, 0, 0, 0] S1x1x1x1x16x16x16.size inb_S1x6x2x3x16x16x16_S1x1x1x1x16x16x16_0_4_1_2_0_0_0
/-- Store 29 into the `mesh` block. -/
abbrev meshPay29 (x0 : Vec F S1x16x16x16 .f32) (x1 : Vec F S6x2x3x16x16x16 .i32) : Vec F S1x1x1x1x16x16x16 .i32 := (k0_pay89 (k0_pay81 (face4 x0)) (View.ld x1 (Rect.unit (s := S6x2x3x16x16x16) ![4, 1, 2, 0, 0, 0] S1x1x1x16x16x16.size inb_S6x2x3x16x16x16_S1x1x1x16x16x16_4_1_2_0_0_0)))
abbrev r_mesh30 : Rect S1x6x2x3x16x16x16 := Rect.unit (s := S1x6x2x3x16x16x16) ![0, 5, 0, 0, 0, 0, 0] S1x1x1x1x16x16x16.size inb_S1x6x2x3x16x16x16_S1x1x1x1x16x16x16_0_5_0_0_0_0_0
/-- Store 30 into the `mesh` block. -/
abbrev meshPay30 (x0 : Vec F S1x16x16x16 .f32) (x1 : Vec F S6x2x3x16x16x16 .i32) : Vec F S1x1x1x1x16x16x16 .i32 := (k0_pay91 (k0_pay90 (face5 x0)) (View.ld x1 (Rect.unit (s := S6x2x3x16x16x16) ![5, 0, 0, 0, 0, 0] S1x1x1x16x16x16.size inb_S6x2x3x16x16x16_S1x1x1x16x16x16_5_0_0_0_0_0)))
abbrev r_mesh31 : Rect S1x6x2x3x16x16x16 := Rect.unit (s := S1x6x2x3x16x16x16) ![0, 5, 0, 1, 0, 0, 0] S1x1x1x1x16x16x16.size inb_S1x6x2x3x16x16x16_S1x1x1x1x16x16x16_0_5_0_1_0_0_0
/-- Store 31 into the `mesh` block. -/
abbrev meshPay31 (x0 : Vec F S1x16x16x16 .f32) (x1 : Vec F S6x2x3x16x16x16 .i32) : Vec F S1x1x1x1x16x16x16 .i32 := (k0_pay92 (k0_pay90 (face5 x0)) (View.ld x1 (Rect.unit (s := S6x2x3x16x16x16) ![5, 0, 1, 0, 0, 0] S1x1x1x16x16x16.size inb_S6x2x3x16x16x16_S1x1x1x16x16x16_5_0_1_0_0_0)))
abbrev r_mesh32 : Rect S1x6x2x3x16x16x16 := Rect.unit (s := S1x6x2x3x16x16x16) ![0, 5, 0, 2, 0, 0, 0] S1x1x1x1x16x16x16.size inb_S1x6x2x3x16x16x16_S1x1x1x1x16x16x16_0_5_0_2_0_0_0
/-- Store 32 into the `mesh` block. -/
abbrev meshPay32 (x0 : Vec F S1x16x16x16 .f32) (x1 : Vec F S6x2x3x16x16x16 .i32) : Vec F S1x1x1x1x16x16x16 .i32 := (k0_pay94 (k0_pay93 (k0_pay90 (face5 x0)) (View.ld x1 (Rect.unit (s := S6x2x3x16x16x16) ![5, 0, 2, 0, 0, 0] S1x1x1x16x16x16.size inb_S6x2x3x16x16x16_S1x1x1x16x16x16_5_0_2_0_0_0))))
abbrev r_mesh33 : Rect S1x6x2x3x16x16x16 := Rect.unit (s := S1x6x2x3x16x16x16) ![0, 5, 1, 0, 0, 0, 0] S1x1x1x1x16x16x16.size inb_S1x6x2x3x16x16x16_S1x1x1x1x16x16x16_0_5_1_0_0_0_0
/-- Store 33 into the `mesh` block. -/
abbrev meshPay33 (x0 : Vec F S1x16x16x16 .f32) (x1 : Vec F S6x2x3x16x16x16 .i32) : Vec F S1x1x1x1x16x16x16 .i32 := (k0_pay95 (k0_pay90 (face5 x0)) (View.ld x1 (Rect.unit (s := S6x2x3x16x16x16) ![5, 1, 0, 0, 0, 0] S1x1x1x16x16x16.size inb_S6x2x3x16x16x16_S1x1x1x16x16x16_5_1_0_0_0_0)))
abbrev r_mesh34 : Rect S1x6x2x3x16x16x16 := Rect.unit (s := S1x6x2x3x16x16x16) ![0, 5, 1, 1, 0, 0, 0] S1x1x1x1x16x16x16.size inb_S1x6x2x3x16x16x16_S1x1x1x1x16x16x16_0_5_1_1_0_0_0
/-- Store 34 into the `mesh` block. -/
abbrev meshPay34 (x0 : Vec F S1x16x16x16 .f32) (x1 : Vec F S6x2x3x16x16x16 .i32) : Vec F S1x1x1x1x16x16x16 .i32 := (k0_pay96 (k0_pay90 (face5 x0)) (View.ld x1 (Rect.unit (s := S6x2x3x16x16x16) ![5, 1, 1, 0, 0, 0] S1x1x1x16x16x16.size inb_S6x2x3x16x16x16_S1x1x1x16x16x16_5_1_1_0_0_0)))
abbrev r_mesh35 : Rect S1x6x2x3x16x16x16 := Rect.unit (s := S1x6x2x3x16x16x16) ![0, 5, 1, 2, 0, 0, 0] S1x1x1x1x16x16x16.size inb_S1x6x2x3x16x16x16_S1x1x1x1x16x16x16_0_5_1_2_0_0_0
/-- Store 35 into the `mesh` block. -/
abbrev meshPay35 (x0 : Vec F S1x16x16x16 .f32) (x1 : Vec F S6x2x3x16x16x16 .i32) : Vec F S1x1x1x1x16x16x16 .i32 := (k0_pay1 (k0_pay90 (face5 x0)) (k0_pay97 (View.ld x1 (Rect.unit (s := S6x2x3x16x16x16) ![5, 1, 2, 0, 0, 0] S1x1x1x16x16x16.size inb_S6x2x3x16x16x16_S1x1x1x16x16x16_5_1_2_0_0_0))) k0_pay98)
/-- The `mesh` block after the body: its 36 stores, last first. -/
abbrev meshPieces (x0 : Vec F S1x16x16x16 .f32) (x1 : Vec F S6x2x3x16x16x16 .i32) : List (View.Piece (Elt F) S1x6x2x3x16x16x16 .i32) :=
  [⟨r_mesh35, meshPay35 x0 x1⟩, ⟨r_mesh34, meshPay34 x0 x1⟩, ⟨r_mesh33, meshPay33 x0 x1⟩, ⟨r_mesh32, meshPay32 x0 x1⟩, ⟨r_mesh31, meshPay31 x0 x1⟩, ⟨r_mesh30, meshPay30 x0 x1⟩, ⟨r_mesh29, meshPay29 x0 x1⟩, ⟨r_mesh28, meshPay28 x0 x1⟩, ⟨r_mesh27, meshPay27 x0 x1⟩, ⟨r_mesh26, meshPay26 x0 x1⟩, ⟨r_mesh25, meshPay25 x0 x1⟩, ⟨r_mesh24, meshPay24 x0 x1⟩, ⟨r_mesh23, meshPay23 x0 x1⟩, ⟨r_mesh22, meshPay22 x0 x1⟩, ⟨r_mesh21, meshPay21 x0 x1⟩, ⟨r_mesh20, meshPay20 x0 x1⟩, ⟨r_mesh19, meshPay19 x0 x1⟩, ⟨r_mesh18, meshPay18 x0 x1⟩, ⟨r_mesh17, meshPay17 x0 x1⟩, ⟨r_mesh16, meshPay16 x0 x1⟩, ⟨r_mesh15, meshPay15 x0 x1⟩, ⟨r_mesh14, meshPay14 x0 x1⟩, ⟨r_mesh13, meshPay13 x0 x1⟩, ⟨r_mesh12, meshPay12 x0 x1⟩, ⟨r_mesh11, meshPay11 x0 x1⟩, ⟨r_mesh10, meshPay10 x0 x1⟩, ⟨r_mesh9, meshPay9 x0 x1⟩, ⟨r_mesh8, meshPay8 x0 x1⟩, ⟨r_mesh7, meshPay7 x0 x1⟩, ⟨r_mesh6, meshPay6 x0 x1⟩, ⟨r_mesh5, meshPay5 x0 x1⟩, ⟨r_mesh4, meshPay4 x0 x1⟩, ⟨r_mesh3, meshPay3 x0 x1⟩, ⟨r_mesh2, meshPay2 x0 x1⟩, ⟨r_mesh1, meshPay1 x0 x1⟩, ⟨r_mesh0, meshPay0 x0 x1⟩]
def meshBlk (x0 : Vec F S1x16x16x16 .f32) (x1 : Vec F S6x2x3x16x16x16 .i32) : Vec F S1x6x2x3x16x16x16 .i32 := View.canon (meshPieces x0 x1)
theorem mesh_cover (p0 p1 p2 p3 p4 p5 p6 p7 p8 p9 p10 p11 p12 p13 p14 p15 p16 p17 p18 p19 p20 p21 p22 p23 p24 p25 p26 p27 p28 p29 p30 p31 p32 p33 p34 p35 : Vec F S1x1x1x1x16x16x16 .i32) (y : S1x6x2x3x16x16x16.Idx) :
    ∃ pc ∈ ([⟨r_mesh35, p35⟩, ⟨r_mesh34, p34⟩, ⟨r_mesh33, p33⟩, ⟨r_mesh32, p32⟩, ⟨r_mesh31, p31⟩, ⟨r_mesh30, p30⟩, ⟨r_mesh29, p29⟩, ⟨r_mesh28, p28⟩, ⟨r_mesh27, p27⟩, ⟨r_mesh26, p26⟩, ⟨r_mesh25, p25⟩, ⟨r_mesh24, p24⟩, ⟨r_mesh23, p23⟩, ⟨r_mesh22, p22⟩, ⟨r_mesh21, p21⟩, ⟨r_mesh20, p20⟩, ⟨r_mesh19, p19⟩, ⟨r_mesh18, p18⟩, ⟨r_mesh17, p17⟩, ⟨r_mesh16, p16⟩, ⟨r_mesh15, p15⟩, ⟨r_mesh14, p14⟩, ⟨r_mesh13, p13⟩, ⟨r_mesh12, p12⟩, ⟨r_mesh11, p11⟩, ⟨r_mesh10, p10⟩, ⟨r_mesh9, p9⟩, ⟨r_mesh8, p8⟩, ⟨r_mesh7, p7⟩, ⟨r_mesh6, p6⟩, ⟨r_mesh5, p5⟩, ⟨r_mesh4, p4⟩, ⟨r_mesh3, p3⟩, ⟨r_mesh2, p2⟩, ⟨r_mesh1, p1⟩, ⟨r_mesh0, p0⟩] : List (View.Piece (Elt F) S1x6x2x3x16x16x16 .i32)), y ∈ pc.1.set :=
  View.cover_of_tiled (s := S1x6x2x3x16x16x16) [⟨r_mesh35, p35⟩, ⟨r_mesh34, p34⟩, ⟨r_mesh33, p33⟩, ⟨r_mesh32, p32⟩, ⟨r_mesh31, p31⟩, ⟨r_mesh30, p30⟩, ⟨r_mesh29, p29⟩, ⟨r_mesh28, p28⟩, ⟨r_mesh27, p27⟩, ⟨r_mesh26, p26⟩, ⟨r_mesh25, p25⟩, ⟨r_mesh24, p24⟩, ⟨r_mesh23, p23⟩, ⟨r_mesh22, p22⟩, ⟨r_mesh21, p21⟩, ⟨r_mesh20, p20⟩, ⟨r_mesh19, p19⟩, ⟨r_mesh18, p18⟩, ⟨r_mesh17, p17⟩, ⟨r_mesh16, p16⟩, ⟨r_mesh15, p15⟩, ⟨r_mesh14, p14⟩, ⟨r_mesh13, p13⟩, ⟨r_mesh12, p12⟩, ⟨r_mesh11, p11⟩, ⟨r_mesh10, p10⟩, ⟨r_mesh9, p9⟩, ⟨r_mesh8, p8⟩, ⟨r_mesh7, p7⟩, ⟨r_mesh6, p6⟩, ⟨r_mesh5, p5⟩, ⟨r_mesh4, p4⟩, ⟨r_mesh3, p3⟩, ⟨r_mesh2, p2⟩, ⟨r_mesh1, p1⟩, ⟨r_mesh0, p0⟩] S1x1x1x1x16x16x16.size (by rfl) y

/-! ## The body's triple -/

set_option maxHeartbeats 4000000 in
/-- The body on whole staging buffers, the inputs' at contents `x0` and `x1`, the counts' at `y2`, the other outputs' at
    anything: it leaves the inputs as they were, puts the sample's row into the counts and fills the other outputs. -/
theorem run_body0 (c : Dev nD) (E : Set ℕ) (i : grid0.Coords) (arg1 : Memref sig .tc .vmem S1x16x16x16 .f32) (harg1 : arg1.IsWhole) (arg2 : Memref sig .tc .vmem S6x2x3x16x16x16 .i32) (harg2 : arg2.IsWhole) (arg3 : Memref sig .tc .vmem S2x128 .f32) (harg3 : arg3.IsWhole) (arg4 : Memref sig .tc .vmem S1x3x17x17x17 .f32) (harg4 : arg4.IsWhole) (arg5 : Memref sig .tc .vmem S1x16x17x17x17 .f32) (harg5 : arg5.IsWhole) (arg6 : Memref sig .tc .vmem S1x6x2x3x16x16x16 .i32) (harg6 : arg6.IsWhole)
    (x0 : Vec F S1x16x16x16 .f32) (x1 : Vec F S6x2x3x16x16x16 .i32) (y2 : Vec F S2x128 .f32) (K : PUnit → sProp 𝕄) :
    iprop(owns (c : Thread nD τ) arg1 fullShare x0 ∗ owns (c : Thread nD τ) arg2 fullShare x1 ∗ owns (c : Thread nD τ) arg3 fullShare y2
        ∗ (∃ d, owns (c : Thread nD τ) arg4 fullShare d) ∗ (∃ d, owns (c : Thread nD τ) arg5 fullShare d) ∗ (∃ d, owns (c : Thread nD τ) arg6 fullShare d)
        ∗ (iprop(owns (c : Thread nD τ) arg1 fullShare x0 ∗ owns (c : Thread nD τ) arg2 fullShare x1
            ∗ owns (c : Thread nD τ) arg3 fullShare (VecWindow.put y2 ![(i 0).val, 0] S1x128.size (cntRow x0))
            ∗ owns (c : Thread nD τ) arg4 fullShare (postBlk x0) ∗ owns (c : Thread nD τ) arg5 fullShare (bandBlk x0) ∗ owns (c : Thread nD τ) arg6 fullShare (meshBlk x0 x1)) -∗ K ⟨⟩))
      ⊢ wp frame (wpE (defs₀ (F := F)) Variants.none c none) E (cc0__kernel_a i arg1 harg1 arg2 harg2 arg3 harg3 arg4 harg4 arg5 harg5 arg6 harg6) K := by
  simp only [cc0__kernel_a_eq_skeleton]; unfold cc0__kernel_a_skel
  unfold owns
  iintro ⟨⟨%f0, %hf0, H0⟩, ⟨%f1, %hf1, H1⟩, ⟨%f2, %hf2, H2⟩, ⟨%d3, %f3, -, H3⟩, ⟨%d4, %f4, -, H4⟩, ⟨%d5, %f5, -, H5⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists _; isplitr
    swap; · iexact H2
    ipureintro
    exact View.read_writes_cons_put _ _ _ _ [] (k0_off1_eq i)
  isplitl [H3]
  · iexists _; isplitr
    swap; · iexact H3
    ipureintro
    exact View.read_writes_eq_canon _ _ _ (post_cover _ _ _)
  isplitl [H4]
  · iexists _; isplitr
    swap; · iexact H4
    ipureintro
    exact View.read_writes_eq_canon _ _ _ (band_cover _ _ _ _ _ _ _ _ _ _ _ _ _ _ _ _)
  iexists _; isplitr
  swap; · iexact H5
  ipureintro
  exact View.read_writes_eq_canon _ _ _ (mesh_cover _ _ _ _ _ _ _ _ _ _ _ _ _ _ _ _ _ _ _ _ _ _ _ _ _ _ _ _ _ _ _ _ _ _ _ _)

end Cert.KernelIdeal.Gen

end
-- ==== Proof.IdealRegion0.lean ====
module

public import proofs.«01_k».proof.Proof.Gen.KernelIdeal.Launch
public import proofs.«01_k».proof.Proof.Gen.KernelIdeal.Skeleton
public import proofs.«01_k».proof.Proof.Gen.KernelIdeal.Points
public import proofs.«01_k».proof.Proof.IdealBodyA
public import Idealize.ShloMosaic.Lib.Pipeline.FrameBody
public import Idealize.ShloMosaic.Lib.Pipeline.DatRel
public import Idealize.ShloMosaic.Lib.Pipeline.Cells
public import Idealize.ShloMosaic.Lib.Pipeline.RegionsLoop
public import Idealize.ShloMosaic.Lib.Pipeline.FrameSuffix
public import Idealize.ShloMosaic.Lib.Pointwise.Index
public import Idealize.ShloMosaic.Lib.Tactic

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## Exact data with some windows held to a predicate: the arrays -/

omit [FloatOps F] in
/-- If at every point that writes a marked window back the predicate leaves no choice of what is moved, then the array may hold
    only what the exact data says. -/
theorem toRRel_arrAt_of_forced {cfg : Pipeline.Cfg sig Λ₀} {c : Dev nD} (dat : Dat τ (Elt F) Unit ℕ (UR sig nD τ) ℕ cfg c)
    {fgt : Fin cfg.W → Bool} {Rl : (w : Fin cfg.W) → Fin cfg.N → ((cfg.win w).block.Idx → Elt F (cfg.win w).elt) → Prop} (w : Fin cfg.W)
    (hw : fgt w = true → ∀ t X, (cfg.win w).flush t = true → Rl w t X →
      (cfg.win w).cut (cfg.grid.coords t) X = (cfg.win w).cut (cfg.grid.coords t) (dat.after w t)) :
    ∀ (t : ℕ) (G : Buf (Elt F) ((cfg.win w).arr.view.loc (c.tc : Thread nD τ))), (dat.toRRel fgt Rl).ArrAt w t G → G = dat.arrAt w t := by
  rcases hf : fgt w with _ | _
  · intro t G h
    exact dat.toR_arrAt w t G ((dat.toR.override_arrAt (by simp only [hf]) t G).mp h)
  · intro t
    induction t with
    | zero => intro G h; exact h
    | succ t ih =>
      intro G h
      by_cases ht : t < cfg.N
      · have hR := (dat.toRRel fgt Rl).ArrAt_succ w ⟨t, ht⟩
        have hD := dat.arrAt_succ w ⟨t, ht⟩
        dsimp only at hR hD
        rw [hR] at h; rw [hD]
        by_cases hfl : (cfg.win w).flush ⟨t, ht⟩ = true
        · rw [if_pos hfl] at h ⊢
          obtain ⟨G₀, X, hG₀, hX, rfl⟩ := h
          rw [ih G₀ hG₀, hw hf _ X hfl (dat.toRRel_leaves hf hX)]
        · rw [if_neg hfl] at h ⊢; exact ih G h
      · have hN : cfg.N ≤ t := Nat.not_lt.mp ht
        rw [(dat.toRRel fgt Rl).ArrAt_stable w (t + 1) (by omega), ← (dat.toRRel fgt Rl).ArrAt_stable w t hN] at h
        rw [dat.arrAt_stable w (t + 1) (by omega), ← dat.arrAt_stable w t hN]
        exact ih G h

omit [FloatOps F] in
/-- Then after every write-back the arrays are as the exact data says. -/
theorem toRRel_arraysAt_of_forced {cfg : Pipeline.Cfg sig Λ₀} {c : Dev nD} (dat : Dat τ (Elt F) Unit ℕ (UR sig nD τ) ℕ cfg c)
    {fgt : Fin cfg.W → Bool} {Rl : (w : Fin cfg.W) → Fin cfg.N → ((cfg.win w).block.Idx → Elt F (cfg.win w).elt) → Prop}
    (hw : ∀ w, fgt w = true → ∀ t X, (cfg.win w).flush t = true → Rl w t X →
      (cfg.win w).cut (cfg.grid.coords t) X = (cfg.win w).cut (cfg.grid.coords t) (dat.after w t)) (n : ℕ) :
    (dat.toRRel fgt Rl).arraysAt n ⊢ (dat.arrays (dat.arrAt · n) : sProp 𝕄) :=
  BI.bigSep_mono fun w _ =>
    show iprop(∃ G, ⌜(dat.toRRel fgt Rl).ArrAt w n G⌝ ∗ (cfg.win w).arr.view.loc (c.tc : Thread nD τ) ↦[(cfg.win w).arr.view.set]{(dat.toRRel fgt Rl).share w} G)
        ⊢ ((cfg.win w).arr.view.loc (c.tc : Thread nD τ) ↦[(cfg.win w).arr.view.set]{dat.share w} dat.arrAt w n : sProp 𝕄) from by
      iintro ⟨%G, %hG, H⟩; rw [toRRel_arrAt_of_forced dat w (hw w) n G hG]; iexact H

/-! ## The windows' blocks -/

/-- Window `w`'s block at point `t`, read off its array as the region finds it (`V`). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-! ## What the body leaves, and the proof data -/

/-- The counts of both samples: row `n` is what the body makes of sample `n`. -/
def cntBlk (c : Dev nD) : Vec F S2x128 .f32 := fun j => cntRow (iblk0 V c 0 (⟨(j 0).val, (j 0).isLt⟩ : Fin cfg0.N)) (ix2 0 (j 1))

/-- The pipeline's proof data: the arrays at the region-entry contents `V`; after the body at point `t` each input's buffer at its
    block, each output's at what the body makes of the input blocks. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => cntBlk V c
    | ⟨3, _⟩ => postBlk (iblk0 V c 0 t)
    | ⟨4, _⟩ => bandBlk (iblk0 V c 0 t)
    | ⟨5, _⟩ => meshBlk (iblk0 V c 0 t) (iblk0 V c 1 t)
  Φ _ := Pipeline.ΦA spec0 c
  q _ := fullShare
  owed _ := 0

theorem A_eq0 (c : Dev nD) (w : Fin cfg0.W) : (dat0 V c).A w = V c (Pipeline.arrRef spec0 w) := by dsimp only [dat0]
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = cntBlk V c := by dsimp only [dat0]
theorem after0_3 (c : Dev nD) (t : Fin cfg0.N) : (dat0 V c).after 3 t = postBlk (iblk0 V c 0 t) := by dsimp only [dat0]
theorem after0_4 (c : Dev nD) (t : Fin cfg0.N) : (dat0 V c).after 4 t = bandBlk (iblk0 V c 0 t) := by dsimp only [dat0]
theorem after0_5 (c : Dev nD) (t : Fin cfg0.N) : (dat0 V c).after 5 t = meshBlk (iblk0 V c 0 t) (iblk0 V c 1 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-! ## The counts' window -/

/-- The windows described by a predicate: the counts' alone. -/
def mark0 : Fin cfg0.W → Bool
  | ⟨2, _⟩ => true
  | _ => false

/-- The rows up to the point `t` are the counts. -/
def Rows (c : Dev nD) (t : ℕ) (X : Vec F S2x128 .f32) : Prop := ∀ j : S2x128.Idx, (j 0).val ≤ t → X j = cntBlk V c j

/-- What the counts' buffer holds after the body at a point. -/
def held0 (c : Dev nD) : (w : Fin cfg0.W) → Fin cfg0.N → ((cfg0.win w).block.Idx → Elt F (cfg0.win w).elt) → Prop
  | ⟨2, _⟩ => fun t X => Rows V c t.val X
  | _ => fun _ _ => True

/-- The proof data with the counts' window held to the predicate. -/
abbrev rdat0 (c : Dev nD) : Pipeline.RDat τ (Elt F) Unit ℕ (UR sig nD τ) ℕ cfg0 c := (dat0 V c).toRRel mark0 (held0 V c)

/-- Where the counts' window is written back, both rows are the counts. -/
theorem forced0 (c : Dev nD) : ∀ w : Fin cfg0.W, mark0 w = true → ∀ t X, (cfg0.win w).flush t = true → held0 V c w t X →
    (cfg0.win w).cut (cfg0.grid.coords t) X = (cfg0.win w).cut (cfg0.grid.coords t) ((dat0 V c).after w t)
  | ⟨2, _⟩, _, t, X, hf, hX => by
    have ht : t.val % 2 = 1 := (flush0_2 t).mp hf
    have e : X = cntBlk V c := by
      funext j
      refine hX j ?_
      have h0 : (j 0).val < 2 := (j 0).isLt
      omega
    rw [e]; exact congrArg _ (after0_2 V c t).symm
  | ⟨0, _⟩, h, _, _, _, _ | ⟨1, _⟩, h, _, _, _, _ | ⟨3, _⟩, h, _, _, _, _ | ⟨4, _⟩, h, _, _, _, _ | ⟨5, _⟩, h, _, _, _, _ => absurd h Bool.false_ne_true

/-- What the body finds in the counts' buffer: after the first point, the rows before. -/
theorem finds0_2 (c : Dev nD) (t : Fin cfg0.N) (Y : Vec F S2x128 .f32) (h : (rdat0 V c).Finds 2 t Y) (j : S2x128.Idx) (hj : (j 0).val < t.val) :
    Y j = cntBlk V c j := by
  have hN : t.val < 2 := t.isLt
  have h1 := ((rdat0 V c).finds_of_pos (w := 2) (t := t) (Pipeline.Window.fetch_out win0_2 rfl t) (by omega) Y).mp h
  rcases h1 with h1 | h1
  · have h2 := (flush0_2 _).mp h1
    simp only at h2
    omega
  · have h2 : Rows V c (t.val - 1) Y := (dat0 V c).toRRel_leaves (fgt := mark0) (Rl := held0 V c) rfl h1
    exact h2 j (by omega)

/-- A row stored over contents that hold the rows before it. -/
theorem rows_put (c : Dev nD) (t : Fin cfg0.N) (Y : Vec F S2x128 .f32) (hY : ∀ j : S2x128.Idx, (j 0).val < t.val → Y j = cntBlk V c j) :
    Rows V c t.val (VecWindow.put Y ![((cfg0.grid.coords t) 0).val, 0] S1x128.size (cntRow (iblk0 V c 0 t))) := by
  intro j hj
  have hc : ((cfg0.grid.coords t) 0).val = t.val := by
    rcases fin_N0 t with rfl | rfl <;> rfl
  unfold VecWindow.put
  split_ifs with h
  · have h0 := h 0
    simp only [Matrix.cons_val_zero, hc] at h0
    have e : (⟨(j 0).val, (j 0).isLt⟩ : Fin cfg0.N) = t := Fin.ext (by have : S1x128.size 0 = 1 := rfl; simp only; omega)
    unfold cntBlk
    rw [e]
    congr 1
    funext a
    refine Fin.ext ?_
    fin_cases a
    · show (j 0).val - ((cfg0.grid.coords t) 0).val = 0
      rw [hc]; omega
    · show (j 1).val - 0 = (j 1).val
      omega
  · refine hY j ?_
    by_contra hlt
    refine h fun a => ?_
    fin_cases a
    · show ((cfg0.grid.coords t) 0).val ≤ (j 0).val ∧ (j 0).val < ((cfg0.grid.coords t) 0).val + 1
      rw [hc]; omega
    · show 0 ≤ (j 1).val ∧ (j 1).val < 0 + 128
      have h1 : (j 1).val < 128 := (j 1).isLt
      omega

/-! ## The body obligation -/

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ Y, ⌜(rdat0 V c).Finds 2 t Y⌝ ∗ owns (c : Thread nD τ) (st0_2 t) fullShare Y)
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d)))

def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ (∃ X, ⌜Rows V c t.val X⌝ ∗ owns (c : Thread nD τ) (st0_2 t) fullShare X)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t))

/-- The body at any point: its inputs' buffers hold their blocks, so its triple applies. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_3, after0_4, after0_5]
  iintro ⟨HΦ, Ho, ⟨%d0, H0⟩, ⟨%d1, H1⟩, ⟨%Y, %hY, H2⟩, ⟨%d3, H3⟩, ⟨%d4, H4⟩, ⟨%d5, H5⟩⟩
  iapply (run_body0 c Set.univ (grid0.coords t) _ _ _ _ _ _ _ _ _ _ _ _ (iblk0 V c 0 t) (iblk0 V c 1 t) Y _)
  isplitl [H0]; · iexact H0
  isplitl [H1]; · iexact H1
  isplitl [H2]; · iexact H2
  isplitl [H3]; · iexists _; iexact H3
  isplitl [H4]; · iexists _; iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]
  · iexists _; isplitr
    swap; · iexact H2
    ipureintro
    exact rows_put V c t Y fun j hj => finds0_2 V c t Y hY j hj
  isplitl [H3]; · iexact H3
  isplitl [H4]; · iexact H4
  iexact H5

theorem defs₀_row0 (t : Fin cfg0.N) :
    defs₀ (F := F) .tc cfg0.body (cfg0.bodyArgs t (cfg0.slots t)) = bodyAt0 t := by
  unfold defs₀; rw [Defs.onTc_tc]

/-- The body's obligation at every point, the counts' window held to the predicate. -/
theorem body_obligation0 (c : Dev nD) : Pipeline.BodyObligationRel (dat0 (F := F) V c) (defs₀ (F := F)) Variants.none () Set.univ mark0 (held0 V c) := fun t => by
  rw [bigSep_W0, bigSep_W0, defs₀_row0]
  exact triple_restated (sound_body0 V c t) rfl .rfl fun _ => .rfl

end Cert.KernelIdeal.Gen

end
-- ==== Proof.IdealBodyB.lean ====
/- The row-block kernel's body on its staging buffers: what each store writes, and the triple that its run proves. -/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.VecWindow
public import Idealize.ShloMosaic.Lib.Ring
public import Idealize.ShloMosaic.Lib.Tactic
public import Idealize.ShloMosaic.Lib.WordCmp

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## What the body reads and stores -/

abbrev rBand : Rect S2x128x16 := Rect.unit (s := S2x128x16) ![0, 0, 0] S2x128x16.size inb_S2x128x16_S2x128x16_0_0_0

/-! ## Where the strips start -/

theorem k1_off1_lo : ∀ i : grid1.Coords, k1_off1 i 4294967293#32 = ![0, 0, 128 * min ((i 0).val - 3) 35] := by decide +kernel
instance closedOff_k1_off1_lo (i : grid1.Coords) : ClosedOff (k1_off1 i 4294967293#32) := ⟨![0, 0, 128 * min ((i 0).val - 3) 35], k1_off1_lo i⟩
theorem k1_off2_lo : ∀ i : grid1.Coords, k1_off2 i 4294967293#32 = ![1, 0, 128 * min ((i 0).val - 3) 35] := by decide +kernel
instance closedOff_k1_off2_lo (i : grid1.Coords) : ClosedOff (k1_off2 i 4294967293#32) := ⟨![1, 0, 128 * min ((i 0).val - 3) 35], k1_off2_lo i⟩
theorem k1_off3_lo : ∀ i : grid1.Coords, k1_off3 i 4294967295#32 = ![0, 0, 128 * min ((i 0).val - 1) 36] := by decide +kernel
instance closedOff_k1_off3_lo (i : grid1.Coords) : ClosedOff (k1_off3 i 4294967295#32) := ⟨![0, 0, 128 * min ((i 0).val - 1) 36], k1_off3_lo i⟩
theorem k1_off4_lo : ∀ i : grid1.Coords, k1_off4 i 4294967295#32 = ![1, 0, 128 * min ((i 0).val - 1) 36] := by decide +kernel
instance closedOff_k1_off4_lo (i : grid1.Coords) : ClosedOff (k1_off4 i 4294967295#32) := ⟨![1, 0, 128 * min ((i 0).val - 1) 36], k1_off4_lo i⟩
theorem k1_off3_hi : ∀ i : grid1.Coords, k1_off3 i 0#32 = ![0, 0, 128 * min (i 0).val 36] := by decide +kernel
instance closedOff_k1_off3_hi (i : grid1.Coords) : ClosedOff (k1_off3 i 0#32) := ⟨![0, 0, 128 * min (i 0).val 36], k1_off3_hi i⟩
theorem k1_off4_hi : ∀ i : grid1.Coords, k1_off4 i 0#32 = ![1, 0, 128 * min (i 0).val 36] := by decide +kernel
instance closedOff_k1_off4_hi (i : grid1.Coords) : ClosedOff (k1_off4 i 0#32) := ⟨![1, 0, 128 * min (i 0).val 36], k1_off4_hi i⟩
theorem k1_off1_hi : ∀ i : grid1.Coords, k1_off1 i 2#32 = ![0, 0, 128 * min ((i 0).val + 2) 35] := by decide +kernel
instance closedOff_k1_off1_hi (i : grid1.Coords) : ClosedOff (k1_off1 i 2#32) := ⟨![0, 0, 128 * min ((i 0).val + 2) 35], k1_off1_hi i⟩
theorem k1_off2_hi : ∀ i : grid1.Coords, k1_off2 i 2#32 = ![1, 0, 128 * min ((i 0).val + 2) 35] := by decide +kernel
instance closedOff_k1_off2_hi (i : grid1.Coords) : ClosedOff (k1_off2 i 2#32) := ⟨![1, 0, 128 * min ((i 0).val + 2) 35], k1_off2_hi i⟩
/-- The block zeroed. -/
def stage0 (i : grid1.Coords) (x : Vec F S2x128x16 .f32) : Vec F S2x128x4913 .f32 := k1_pay3 (F := F)
/-- What accumulation 1 stores, from the contents before it. -/
def addend1 (i : grid1.Coords) (x : Vec F S2x128x16 .f32) (w : Vec F S1x128x433 .f32) : Vec F S1x128x433 .f32 :=
  (k1_pay6 (k1_pay2 (View.ld x rBand)) (k1_pay4 i) (k1_pay5 i (View.ld x rBand)) 4294967008#32 w)
/-- The block after accumulation 1. -/
def stage1 (i : grid1.Coords) (x : Vec F S2x128x16 .f32) : Vec F S2x128x4913 .f32 :=
  VecWindow.put (stage0 i x) (k1_off1 i 4294967293#32) S1x128x433.size (addend1 i x (VecWindow.window (stage0 i x) (k1_off1 i 4294967293#32) S1x128x433.size (k1_off1_inb i 1)))
/-- What accumulation 2 stores, from the contents before it. -/
def addend2 (i : grid1.Coords) (x : Vec F S2x128x16 .f32) (w : Vec F S1x128x433 .f32) : Vec F S1x128x433 .f32 :=
  (k1_pay8 (k1_pay2 (View.ld x rBand)) (k1_pay4 i) (k1_pay7 (k1_pay2 (View.ld x rBand)) (k1_pay4 i)) 4294967008#32 w)
/-- The block after accumulation 2. -/
def stage2 (i : grid1.Coords) (x : Vec F S2x128x16 .f32) : Vec F S2x128x4913 .f32 :=
  VecWindow.put (stage1 i x) (k1_off2 i 4294967293#32) S1x128x433.size (addend2 i x (VecWindow.window (stage1 i x) (k1_off2 i 4294967293#32) S1x128x433.size (k1_off2_inb i 1)))
/-- What accumulation 3 stores, from the contents before it. -/
def addend3 (i : grid1.Coords) (x : Vec F S2x128x16 .f32) (w : Vec F S1x128x305 .f32) : Vec F S1x128x305 .f32 :=
  (k1_pay13 (k1_pay2 (View.ld x rBand)) (k1_pay9 (BitVec.ofNat 32 (i 0).val) (Scalar.muli (BitVec.ofNat 32 (i 0).val) 128#32)) (k1_pay10 (BitVec.ofNat 32 (i 0).val) (Scalar.muli (BitVec.ofNat 32 (i 0).val) 128#32) (k1_pay2 (View.ld x rBand))) (k1_pay11 (BitVec.ofNat 32 (i 0).val) (Scalar.muli (BitVec.ofNat 32 (i 0).val) 128#32)) (k1_pay12 (k1_pay2 (View.ld x rBand))) w)
/-- The block after accumulation 3. -/
def stage3 (i : grid1.Coords) (x : Vec F S2x128x16 .f32) : Vec F S2x128x4913 .f32 :=
  VecWindow.put (stage2 i x) (k1_off3 i 4294967295#32) S1x128x305.size (addend3 i x (VecWindow.window (stage2 i x) (k1_off3 i 4294967295#32) S1x128x305.size (k1_off3_inb i 1)))
/-- What accumulation 4 stores, from the contents before it. -/
def addend4 (i : grid1.Coords) (x : Vec F S2x128x16 .f32) (w : Vec F S1x128x305 .f32) : Vec F S1x128x305 .f32 :=
  (k1_pay15 (k1_pay14 (k1_pay2 (View.ld x rBand)) (k1_pay9 (BitVec.ofNat 32 (i 0).val) (Scalar.muli (BitVec.ofNat 32 (i 0).val) 128#32))) w)
/-- The block after accumulation 4. -/
def stage4 (i : grid1.Coords) (x : Vec F S2x128x16 .f32) : Vec F S2x128x4913 .f32 :=
  VecWindow.put (stage3 i x) (k1_off4 i 4294967295#32) S1x128x305.size (addend4 i x (VecWindow.window (stage3 i x) (k1_off4 i 4294967295#32) S1x128x305.size (k1_off4_inb i 1)))
/-- What accumulation 5 stores, from the contents before it. -/
def addend5 (i : grid1.Coords) (x : Vec F S2x128x16 .f32) (w : Vec F S1x128x305 .f32) : Vec F S1x128x305 .f32 :=
  (k1_pay18 (k1_pay17 (BitVec.ofNat 32 (i 0).val) (Scalar.muli (BitVec.ofNat 32 (i 0).val) 128#32) (k1_pay2 (View.ld x rBand)) w))
/-- The block after accumulation 5. -/
def stage5 (i : grid1.Coords) (x : Vec F S2x128x16 .f32) : Vec F S2x128x4913 .f32 :=
  VecWindow.put (stage4 i x) (k1_off3 i 0#32) S1x128x305.size (addend5 i x (VecWindow.window (stage4 i x) (k1_off3 i 0#32) S1x128x305.size (k1_off3_inb i 0)))
/-- What accumulation 6 stores, from the contents before it. -/
def addend6 (i : grid1.Coords) (x : Vec F S2x128x16 .f32) (w : Vec F S1x128x305 .f32) : Vec F S1x128x305 .f32 :=
  (k1_pay19 (k1_pay2 (View.ld x rBand)) (k1_pay16 (BitVec.ofNat 32 (i 0).val) (Scalar.muli (BitVec.ofNat 32 (i 0).val) 128#32)) w)
/-- The block after accumulation 6. -/
def stage6 (i : grid1.Coords) (x : Vec F S2x128x16 .f32) : Vec F S2x128x4913 .f32 :=
  VecWindow.put (stage5 i x) (k1_off4 i 0#32) S1x128x305.size (addend6 i x (VecWindow.window (stage5 i x) (k1_off4 i 0#32) S1x128x305.size (k1_off4_inb i 0)))
/-- What accumulation 7 stores, from the contents before it. -/
def addend7 (i : grid1.Coords) (x : Vec F S2x128x16 .f32) (w : Vec F S1x128x433 .f32) : Vec F S1x128x433 .f32 :=
  (k1_pay23 (k1_pay22 (Scalar.muli (BitVec.ofNat 32 (i 0).val) 128#32) (k1_pay2 (View.ld x rBand)) (k1_pay20 (BitVec.ofNat 32 (i 0).val)) (iota .tc S128x433 32 [0] iota_S128x433_d0_w32) w))
/-- The block after accumulation 7. -/
def stage7 (i : grid1.Coords) (x : Vec F S2x128x16 .f32) : Vec F S2x128x4913 .f32 :=
  VecWindow.put (stage6 i x) (k1_off1 i 2#32) S1x128x433.size (addend7 i x (VecWindow.window (stage6 i x) (k1_off1 i 2#32) S1x128x433.size (k1_off1_inb i 0)))
/-- What accumulation 8 stores, from the contents before it. -/
def addend8 (i : grid1.Coords) (x : Vec F S2x128x16 .f32) (w : Vec F S1x128x433 .f32) : Vec F S1x128x433 .f32 :=
  (k1_pay1 (k1_pay24 (k1_pay2 (View.ld x rBand)) (k1_pay21 (Scalar.muli (BitVec.ofNat 32 (i 0).val) 128#32) (k1_pay20 (BitVec.ofNat 32 (i 0).val)) (iota .tc S128x433 32 [0] iota_S128x433_d0_w32)) w))
/-- The block after accumulation 8. -/
def stage8 (i : grid1.Coords) (x : Vec F S2x128x16 .f32) : Vec F S2x128x4913 .f32 :=
  VecWindow.put (stage7 i x) (k1_off2 i 2#32) S1x128x433.size (addend8 i x (VecWindow.window (stage7 i x) (k1_off2 i 2#32) S1x128x433.size (k1_off2_inb i 0)))

/-- One accumulation: a load of a window, then a store there of a function of what was loaded. -/
theorem read_accumulate {κ : Kind} {sp : Space} {s : Shape} {e : EltTy} (v : View sig κ sp s e) (f : v.ty.Contents (Elt F)) {off size : Fin s.rank → ℕ}
    (inb : ∀ a, off a + size a ≤ s.size a) (pay : ((Rect.unit off size inb).shape.Idx → Elt F e) → ((Rect.unit off size inb).shape.Idx → Elt F e))
    (L : List (View.Piece (Elt F) s e)) (S : s.Idx → Elt F e) (h : v.read (Elt F) (v.writes (Elt F) f L) = S) :
    v.read (Elt F) (v.writes (Elt F) f (⟨Rect.unit off size inb, pay (v.readAt (Elt F) (Rect.unit off size inb).toLoadRect (v.writes (Elt F) f L))⟩ :: L))
      = VecWindow.put S off size (pay (VecWindow.window S off size inb)) := by
  rw [View.read_writes_cons_put v f inb _ L rfl, View.readAt_unit v _ inb rfl inb, h]

set_option maxHeartbeats 4000000 in
/-- The body on whole staging buffers, the input's at contents `x0`, the output's at anything: it leaves the input as it
    was and the output at the block after its eight accumulations. -/
theorem run_body1 (c : Dev nD) (E : Set ℕ) (i : grid1.Coords) (arg1 : Memref sig .tc .vmem S2x128x16 .f32) (harg1 : arg1.IsWhole) (arg2 : Memref sig .tc .vmem S2x128x4913 .f32) (harg2 : arg2.IsWhole)
    (x0 : Vec F S2x128x16 .f32) (K : PUnit → sProp 𝕄) :
    iprop(owns (c : Thread nD τ) arg1 fullShare x0 ∗ (∃ d, owns (c : Thread nD τ) arg2 fullShare d)
        ∗ (iprop(owns (c : Thread nD τ) arg1 fullShare x0 ∗ owns (c : Thread nD τ) arg2 fullShare (stage8 i x0)) -∗ K ⟨⟩))
      ⊢ wp frame (wpE (defs₀ (F := F)) Variants.none c none) E (cc1__kernel_b i arg1 harg1 arg2 harg2) K := by
  simp only [cc1__kernel_b_eq_skeleton]; unfold cc1__kernel_b_skel
  unfold owns
  iintro ⟨⟨%f0, %hf0, H0⟩, ⟨%d1, %f1, -, H1⟩, Hk⟩
  subst hf0
  sl_exec
  sl_step
  iapply Hk
  isplitl [H0]
  · iexists f0; isplitr; · ipureintro; rfl
    iexact H0
  iexists _; isplitr
  swap; · iexact H1
  ipureintro
  generalize hx : View.read (Elt F) arg1.view f0 = x
  have hld : View.readAt (Elt F) arg1.view rBand.toLoadRect f0 = View.ld x rBand := by rw [← hx]; rfl
  have e0 : View.read (Elt F) arg2.view (arg2.view.writes (Elt F) arg2.view.junk (run_body1.sl.H1_1 (F := F))) = stage0 i x := View.read_writes_full _ _ _ _ _
  have e1 : View.read (Elt F) arg2.view (arg2.view.writes (Elt F) arg2.view.junk (run_body1.sl.H1_2 c i arg1 arg2 f0)) = stage1 i x := by
    delta run_body1.sl.H1_2
    iterate 4 try delta run_body1.sl.v0 run_body1.sl.v275 run_body1.sl.r run_body1.sl.r_1 run_body1.sl.r_2 run_body1.sl.r_3 run_body1.sl.r_4 run_body1.sl.r_5 run_body1.sl.r_6 run_body1.sl.r_7 run_body1.sl.r_8 run_body1.sl.r_9 run_body1.sl.r_10 run_body1.sl.r_11 run_body1.sl.r_12 run_body1.sl.r_13 run_body1.sl.v58
    dsimp only
    rw [hld]
    exact read_accumulate (off := k1_off1 i 4294967293#32) (size := S1x128x433.size) arg2.view _ (k1_off1_inb i 1) (addend1 i x) (run_body1.sl.H1_1) _ e0
  have e2 : View.read (Elt F) arg2.view (arg2.view.writes (Elt F) arg2.view.junk (run_body1.sl.H1_3 c i arg1 arg2 f0)) = stage2 i x := by
    delta run_body1.sl.H1_3
    iterate 4 try delta run_body1.sl.v0 run_body1.sl.v275 run_body1.sl.r run_body1.sl.r_1 run_body1.sl.r_2 run_body1.sl.r_3 run_body1.sl.r_4 run_body1.sl.r_5 run_body1.sl.r_6 run_body1.sl.r_7 run_body1.sl.r_8 run_body1.sl.r_9 run_body1.sl.r_10 run_body1.sl.r_11 run_body1.sl.r_12 run_body1.sl.r_13 run_body1.sl.v107
    dsimp only
    rw [hld]
    exact read_accumulate (off := k1_off2 i 4294967293#32) (size := S1x128x433.size) arg2.view _ (k1_off2_inb i 1) (addend2 i x) (run_body1.sl.H1_2 c i arg1 arg2 f0) _ e1
  have e3 : View.read (Elt F) arg2.view (arg2.view.writes (Elt F) arg2.view.junk (run_body1.sl.H1_4 c i arg1 arg2 f0)) = stage3 i x := by
    delta run_body1.sl.H1_4
    iterate 4 try delta run_body1.sl.v0 run_body1.sl.v275 run_body1.sl.r run_body1.sl.r_1 run_body1.sl.r_2 run_body1.sl.r_3 run_body1.sl.r_4 run_body1.sl.r_5 run_body1.sl.r_6 run_body1.sl.r_7 run_body1.sl.r_8 run_body1.sl.r_9 run_body1.sl.r_10 run_body1.sl.r_11 run_body1.sl.r_12 run_body1.sl.r_13 run_body1.sl.v151
    dsimp only
    rw [hld]
    exact read_accumulate (off := k1_off3 i 4294967295#32) (size := S1x128x305.size) arg2.view _ (k1_off3_inb i 1) (addend3 i x) (run_body1.sl.H1_3 c i arg1 arg2 f0) _ e2
  have e4 : View.read (Elt F) arg2.view (arg2.view.writes (Elt F) arg2.view.junk (run_body1.sl.H1_5 c i arg1 arg2 f0)) = stage4 i x := by
    delta run_body1.sl.H1_5
    iterate 4 try delta run_body1.sl.v0 run_body1.sl.v275 run_body1.sl.r run_body1.sl.r_1 run_body1.sl.r_2 run_body1.sl.r_3 run_body1.sl.r_4 run_body1.sl.r_5 run_body1.sl.r_6 run_body1.sl.r_7 run_body1.sl.r_8 run_body1.sl.r_9 run_body1.sl.r_10 run_body1.sl.r_11 run_body1.sl.r_12 run_body1.sl.r_13 run_body1.sl.v184
    dsimp only
    rw [hld]
    exact read_accumulate (off := k1_off4 i 4294967295#32) (size := S1x128x305.size) arg2.view _ (k1_off4_inb i 1) (addend4 i x) (run_body1.sl.H1_4 c i arg1 arg2 f0) _ e3
  have e5 : View.read (Elt F) arg2.view (arg2.view.writes (Elt F) arg2.view.junk (run_body1.sl.H1_6 c i arg1 arg2 f0)) = stage5 i x := by
    delta run_body1.sl.H1_6
    iterate 4 try delta run_body1.sl.v0 run_body1.sl.v275 run_body1.sl.r run_body1.sl.r_1 run_body1.sl.r_2 run_body1.sl.r_3 run_body1.sl.r_4 run_body1.sl.r_5 run_body1.sl.r_6 run_body1.sl.r_7 run_body1.sl.r_8 run_body1.sl.r_9 run_body1.sl.r_10 run_body1.sl.r_11 run_body1.sl.r_12 run_body1.sl.r_13 run_body1.sl.v228
    dsimp only
    rw [hld]
    exact read_accumulate (off := k1_off3 i 0#32) (size := S1x128x305.size) arg2.view _ (k1_off3_inb i 0) (addend5 i x) (run_body1.sl.H1_5 c i arg1 arg2 f0) _ e4
  have e6 : View.read (Elt F) arg2.view (arg2.view.writes (Elt F) arg2.view.junk (run_body1.sl.H1_7 c i arg1 arg2 f0)) = stage6 i x := by
    delta run_body1.sl.H1_7
    iterate 4 try delta run_body1.sl.v0 run_body1.sl.v275 run_body1.sl.r run_body1.sl.r_1 run_body1.sl.r_2 run_body1.sl.r_3 run_body1.sl.r_4 run_body1.sl.r_5 run_body1.sl.r_6 run_body1.sl.r_7 run_body1.sl.r_8 run_body1.sl.r_9 run_body1.sl.r_10 run_body1.sl.r_11 run_body1.sl.r_12 run_body1.sl.r_13 run_body1.sl.v261
    dsimp only
    rw [hld]
    exact read_accumulate (off := k1_off4 i 0#32) (size := S1x128x305.size) arg2.view _ (k1_off4_inb i 0) (addend6 i x) (run_body1.sl.H1_6 c i arg1 arg2 f0) _ e5
  have e7 : View.read (Elt F) arg2.view (arg2.view.writes (Elt F) arg2.view.junk (run_body1.sl.H1_8 c i arg1 arg2 f0)) = stage7 i x := by
    delta run_body1.sl.H1_8
    iterate 4 try delta run_body1.sl.v0 run_body1.sl.v275 run_body1.sl.r run_body1.sl.r_1 run_body1.sl.r_2 run_body1.sl.r_3 run_body1.sl.r_4 run_body1.sl.r_5 run_body1.sl.r_6 run_body1.sl.r_7 run_body1.sl.r_8 run_body1.sl.r_9 run_body1.sl.r_10 run_body1.sl.r_11 run_body1.sl.r_12 run_body1.sl.r_13 run_body1.sl.v321
    dsimp only
    rw [hld]
    exact read_accumulate (off := k1_off1 i 2#32) (size := S1x128x433.size) arg2.view _ (k1_off1_inb i 0) (addend7 i x) (run_body1.sl.H1_7 c i arg1 arg2 f0) _ e6
  have e8 : View.read (Elt F) arg2.view (arg2.view.writes (Elt F) arg2.view.junk (⟨Rect.unit (k1_off2 i 2#32) S1x128x433.size (k1_off2_inb i 0), k1_pay1 (run_body1.sl.r_13 c i arg1 arg2 f0)⟩ :: run_body1.sl.H1_8 c i arg1 arg2 f0)) = stage8 i x := by
    iterate 4 try delta run_body1.sl.v0 run_body1.sl.v275 run_body1.sl.r run_body1.sl.r_1 run_body1.sl.r_2 run_body1.sl.r_3 run_body1.sl.r_4 run_body1.sl.r_5 run_body1.sl.r_6 run_body1.sl.r_7 run_body1.sl.r_8 run_body1.sl.r_9 run_body1.sl.r_10 run_body1.sl.r_11 run_body1.sl.r_12 run_body1.sl.r_13 run_body1.sl.v370
    dsimp only
    rw [hld]
    exact read_accumulate (off := k1_off2 i 2#32) (size := S1x128x433.size) arg2.view _ (k1_off2_inb i 0) (addend8 i x) (run_body1.sl.H1_8 c i arg1 arg2 f0) _ e7
  exact e8

end Cert.KernelIdeal.Gen

end
-- ==== Proof.IdealStrips.lean ====
module

public import proofs.«01_k».proof.Proof.IdealBodyB
public import Idealize.ShloMosaic.Lib.Pointwise
public import Idealize.ShloMosaic.Lib.VecWindow

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! The row-block kernel's body read at an entry: each of its eight accumulations adds, inside its window of columns, the band entry of
    the row whose diagonal the column lies on. So an entry depends on its own row of the band alone. -/

theorem ld_rBand (x : Vec F S2x128x16 .f32) : View.ld x rBand = x := by
  funext y
  show x _ = x y
  congr 1
  funext a
  refine Fin.ext ?_
  fin_cases a <;> exact (Nat.zero_add _).trans (Nat.one_mul _)

/-- The band entry of row `r` for the diagonal at distance `δ`, of those listed; zero if it is none of them. -/
def stripAt (D : List (ℤ × Fin 16)) (x : Vec F S2x128x16 .f32) (n : Fin 2) (r : Fin 128) (δ : ℤ) : F .f32 :=
  D.foldl (fun acc p => if δ = p.1 then x (ix3 n r p.2) else acc) (Scalar.ofBits .f32 0x00000000#32)

theorem stripAt_congr (D : List (ℤ × Fin 16)) (x x' : Vec F S2x128x16 .f32) (n : Fin 2) (r : Fin 128) (δ : ℤ)
    (h : ∀ t, x (ix3 n r t) = x' (ix3 n r t)) : stripAt D x n r δ = stripAt D x' n r δ := by
  unfold stripAt
  simp only [h]

/-- The diagonals of each of the four strips, with their places in the band. -/
abbrev diagA : List (ℤ × Fin 16) := [(-306, 0), (-290, 1), (-289, 2), (-288, 3), (-272, 4)]
abbrev diagB : List (ℤ × Fin 16) := [(-17, 5), (-16, 6), (-1, 7)]
abbrev diagC : List (ℤ × Fin 16) := [(1, 8), (16, 9), (17, 10)]
abbrev diagD : List (ℤ × Fin 16) := [(272, 11), (288, 12), (289, 13), (290, 14), (306, 15)]

omit [FloatOps F] in
/-- The word test "column minus row is this diagonal" as a test of integers. -/
theorem select_diag {A B D : BitVec 32} {s w c r : ℕ} {d : ℤ} (hA : A = BitVec.ofNat 32 s) (hB : B = BitVec.ofNat 32 w) (hD : D = BitVec.ofInt 32 d)
    (hs : s < 10000) (hw : w < 10000) (hc : c < 1000) (hr : r < 1000) (hd : -1000 < d ∧ d < 1000) (a b : F .f32) :
    Scalar.select (IntOp.cmpi .eq (IntOp.subi (IntOp.addi A (BitVec.ofNat 32 c)) (IntOp.addi B (BitVec.ofNat 32 r))) D) a b
      = if ((s + c : ℕ) : ℤ) - ((w + r : ℕ) : ℤ) = d then a else b := by
  subst hA hB hD
  have e : (BitVec.ofNat 32 s + BitVec.ofNat 32 c - (BitVec.ofNat 32 w + BitVec.ofNat 32 r) = BitVec.ofInt 32 d)
      ↔ ((s + c : ℕ) : ℤ) - ((w + r : ℕ) : ℤ) = d := by
    have ti : ∀ n : ℕ, n < 20000 → (BitVec.ofNat 32 n).toInt = n := fun n hn => by
      have e0 : (BitVec.ofNat 32 n).toNat = n := by rw [BitVec.toNat_ofNat]; exact Nat.mod_eq_of_lt (by omega)
      rw [BitVec.toInt_eq_toNat_of_lt (by rw [e0]; omega), e0]
    rw [← BitVec.toInt_inj]
    simp only [BitVec.toInt_sub, BitVec.toInt_add, ti s (by omega), ti c (by omega), ti w (by omega), ti r (by omega), BitVec.toInt_ofInt]
    have bm : ∀ x : ℤ, -100000 < x → x < 100000 → x.bmod (2 ^ 32) = x := fun x h1 h2 =>
      Int.bmod_eq_of_le (by norm_num; omega) (by norm_num; omega)
    rw [bm ((s : ℤ) + c) (by omega) (by omega), bm ((w : ℤ) + r) (by omega) (by omega), bm d (by omega) (by omega), bm _ (by omega) (by omega)]
    push_cast
    rfl
  by_cases h : ((s + c : ℕ) : ℤ) - ((w + r : ℕ) : ℤ) = d
  · rw [if_pos h]
    have e' := e.mpr h
    show (if IntOp.cmpi .eq (BitVec.ofNat 32 s + BitVec.ofNat 32 c - (BitVec.ofNat 32 w + BitVec.ofNat 32 r)) (BitVec.ofInt 32 d) = 1 then a else b) = a
    rw [e']
    simp [IntOp.cmpi]
  · rw [if_neg h]
    have e' := mt e.mp h
    show (if IntOp.cmpi .eq (BitVec.ofNat 32 s + BitVec.ofNat 32 c - (BitVec.ofNat 32 w + BitVec.ofNat 32 r)) (BitVec.ofInt 32 d) = 1 then a else b) = b
    rw [if_neg]
    show ¬ BitVec.ofBool (BitVec.ofNat 32 s + BitVec.ofNat 32 c - (BitVec.ofNat 32 w + BitVec.ofNat 32 r) == BitVec.ofInt 32 d) = 1#1
    rw [beq_eq_false_iff_ne.mpr e']
    decide

/-! ## The words the strips' starts are computed with -/

theorem word_row : ∀ i : Fin 39, Scalar.muli (BitVec.ofNat 32 i.val) 128#32 = BitVec.ofNat 32 (128 * i.val) := by decide +kernel
theorem word_startA : ∀ i : Fin 39, Scalar.muli (128#32) (Scalar.minsi (35#32) (Scalar.maxsi (0#32) (Scalar.addi (BitVec.ofNat 32 i.val) 4294967293#32)))
    = BitVec.ofNat 32 (128 * min (i.val - 3) 35) := by decide +kernel
theorem word_startB : ∀ i : Fin 39, Scalar.muli (128#32) (Scalar.minsi (36#32) (Scalar.maxsi (0#32) (Scalar.addi (BitVec.ofNat 32 i.val) 4294967295#32)))
    = BitVec.ofNat 32 (128 * min (i.val - 1) 36) := by decide +kernel
theorem word_startC : ∀ i : Fin 39, Scalar.muli (128#32) (Scalar.minsi (36#32) (Scalar.maxsi (0#32) (Scalar.addi (BitVec.ofNat 32 i.val) 0#32)))
    = BitVec.ofNat 32 (128 * min i.val 36) := by decide +kernel
theorem word_startD : ∀ i : Fin 39, Scalar.muli (128#32) (Scalar.minsi (35#32) (Scalar.maxsi (0#32) (Scalar.addi (BitVec.ofNat 32 i.val) 2#32)))
    = BitVec.ofNat 32 (128 * min (i.val + 2) 35) := by decide +kernel

/-! ## Each accumulation's store at an entry -/

theorem addend1_apply (i : grid1.Coords) (x : Vec F S2x128x16 .f32) (w : Vec F S1x128x433 .f32) (r : Fin 128) (c : Fin 433) :
    addend1 i x w (ix3 0 r c) = FloatOps.addf (w (ix3 0 r c)) (stripAt diagA x 0 r (((128 * min ((i 0).val - 3) 35 + c.val : ℕ) : ℤ) - ((128 * (i 0).val + r.val : ℕ) : ℤ))) := by
  have hi : (i 0).val < 39 := (i 0).isLt
  have hc := c.isLt
  have hr := r.isLt
  have e (d : ℤ) (D : BitVec 32) (hD : D = BitVec.ofInt 32 d) (hd : -1000 < d ∧ d < 1000) (a b : F .f32) := select_diag (word_startA (i 0)) (word_row (i 0)) hD
    (c := c.val) (r := r.val) (by omega) (by omega) (by omega) (by omega) hd a b
  unfold addend1
  rw [ld_rBand]
  pointwise [k1_pay6, k1_pay5, k1_pay4, k1_pay2]
  rw [e (-272) 4294967024#32 (by decide) (by decide), e (-288) 4294967008#32 (by decide) (by decide), e (-289) 4294967007#32 (by decide) (by decide), e (-290) 4294967006#32 (by decide) (by decide), e (-306) 4294966990#32 (by decide) (by decide)]
  rfl

theorem addend2_apply (i : grid1.Coords) (x : Vec F S2x128x16 .f32) (w : Vec F S1x128x433 .f32) (r : Fin 128) (c : Fin 433) :
    addend2 i x w (ix3 0 r c) = FloatOps.addf (w (ix3 0 r c)) (stripAt diagA x 1 r (((128 * min ((i 0).val - 3) 35 + c.val : ℕ) : ℤ) - ((128 * (i 0).val + r.val : ℕ) : ℤ))) := by
  have hi : (i 0).val < 39 := (i 0).isLt
  have hc := c.isLt
  have hr := r.isLt
  have e (d : ℤ) (D : BitVec 32) (hD : D = BitVec.ofInt 32 d) (hd : -1000 < d ∧ d < 1000) (a b : F .f32) := select_diag (word_startA (i 0)) (word_row (i 0)) hD
    (c := c.val) (r := r.val) (by omega) (by omega) (by omega) (by omega) hd a b
  unfold addend2
  rw [ld_rBand]
  pointwise [k1_pay8, k1_pay7, k1_pay4, k1_pay2]
  rw [e (-272) 4294967024#32 (by decide) (by decide), e (-288) 4294967008#32 (by decide) (by decide), e (-289) 4294967007#32 (by decide) (by decide), e (-290) 4294967006#32 (by decide) (by decide), e (-306) 4294966990#32 (by decide) (by decide)]
  rfl

theorem addend3_apply (i : grid1.Coords) (x : Vec F S2x128x16 .f32) (w : Vec F S1x128x305 .f32) (r : Fin 128) (c : Fin 305) :
    addend3 i x w (ix3 0 r c) = FloatOps.addf (w (ix3 0 r c)) (stripAt diagB x 0 r (((128 * min ((i 0).val - 1) 36 + c.val : ℕ) : ℤ) - ((128 * (i 0).val + r.val : ℕ) : ℤ))) := by
  have hi : (i 0).val < 39 := (i 0).isLt
  have hc := c.isLt
  have hr := r.isLt
  have e (d : ℤ) (D : BitVec 32) (hD : D = BitVec.ofInt 32 d) (hd : -1000 < d ∧ d < 1000) (a b : F .f32) := select_diag (word_startB (i 0)) (word_row (i 0)) hD
    (c := c.val) (r := r.val) (by omega) (by omega) (by omega) (by omega) hd a b
  unfold addend3
  rw [ld_rBand]
  pointwise [k1_pay13, k1_pay9, k1_pay10, k1_pay11, k1_pay12, k1_pay2]
  rw [e (-1) 4294967295#32 (by decide) (by decide), e (-16) 4294967280#32 (by decide) (by decide), e (-17) 4294967279#32 (by decide) (by decide)]
  rfl

theorem addend4_apply (i : grid1.Coords) (x : Vec F S2x128x16 .f32) (w : Vec F S1x128x305 .f32) (r : Fin 128) (c : Fin 305) :
    addend4 i x w (ix3 0 r c) = FloatOps.addf (w (ix3 0 r c)) (stripAt diagB x 1 r (((128 * min ((i 0).val - 1) 36 + c.val : ℕ) : ℤ) - ((128 * (i 0).val + r.val : ℕ) : ℤ))) := by
  have hi : (i 0).val < 39 := (i 0).isLt
  have hc := c.isLt
  have hr := r.isLt
  have e (d : ℤ) (D : BitVec 32) (hD : D = BitVec.ofInt 32 d) (hd : -1000 < d ∧ d < 1000) (a b : F .f32) := select_diag (word_startB (i 0)) (word_row (i 0)) hD
    (c := c.val) (r := r.val) (by omega) (by omega) (by omega) (by omega) hd a b
  unfold addend4
  rw [ld_rBand]
  pointwise [k1_pay15, k1_pay14, k1_pay9, k1_pay2]
  rw [e (-1) 4294967295#32 (by decide) (by decide), e (-16) 4294967280#32 (by decide) (by decide), e (-17) 4294967279#32 (by decide) (by decide)]
  rfl

theorem addend5_apply (i : grid1.Coords) (x : Vec F S2x128x16 .f32) (w : Vec F S1x128x305 .f32) (r : Fin 128) (c : Fin 305) :
    addend5 i x w (ix3 0 r c) = FloatOps.addf (w (ix3 0 r c)) (stripAt diagC x 0 r (((128 * min (i 0).val 36 + c.val : ℕ) : ℤ) - ((128 * (i 0).val + r.val : ℕ) : ℤ))) := by
  have hi : (i 0).val < 39 := (i 0).isLt
  have hc := c.isLt
  have hr := r.isLt
  have e (d : ℤ) (D : BitVec 32) (hD : D = BitVec.ofInt 32 d) (hd : -1000 < d ∧ d < 1000) (a b : F .f32) := select_diag (word_startC (i 0)) (word_row (i 0)) hD
    (c := c.val) (r := r.val) (by omega) (by omega) (by omega) (by omega) hd a b
  unfold addend5
  rw [ld_rBand]
  pointwise [k1_pay18, k1_pay17, k1_pay16, k1_pay2]
  rw [e (17) 17#32 (by decide) (by decide), e (16) 16#32 (by decide) (by decide), e (1) 1#32 (by decide) (by decide)]
  rfl

theorem addend6_apply (i : grid1.Coords) (x : Vec F S2x128x16 .f32) (w : Vec F S1x128x305 .f32) (r : Fin 128) (c : Fin 305) :
    addend6 i x w (ix3 0 r c) = FloatOps.addf (w (ix3 0 r c)) (stripAt diagC x 1 r (((128 * min (i 0).val 36 + c.val : ℕ) : ℤ) - ((128 * (i 0).val + r.val : ℕ) : ℤ))) := by
  have hi : (i 0).val < 39 := (i 0).isLt
  have hc := c.isLt
  have hr := r.isLt
  have e (d : ℤ) (D : BitVec 32) (hD : D = BitVec.ofInt 32 d) (hd : -1000 < d ∧ d < 1000) (a b : F .f32) := select_diag (word_startC (i 0)) (word_row (i 0)) hD
    (c := c.val) (r := r.val) (by omega) (by omega) (by omega) (by omega) hd a b
  unfold addend6
  rw [ld_rBand]
  pointwise [k1_pay19, k1_pay16, k1_pay2]
  rw [e (17) 17#32 (by decide) (by decide), e (16) 16#32 (by decide) (by decide), e (1) 1#32 (by decide) (by decide)]
  rfl

theorem addend7_apply (i : grid1.Coords) (x : Vec F S2x128x16 .f32) (w : Vec F S1x128x433 .f32) (r : Fin 128) (c : Fin 433) :
    addend7 i x w (ix3 0 r c) = FloatOps.addf (w (ix3 0 r c)) (stripAt diagD x 0 r (((128 * min ((i 0).val + 2) 35 + c.val : ℕ) : ℤ) - ((128 * (i 0).val + r.val : ℕ) : ℤ))) := by
  have hi : (i 0).val < 39 := (i 0).isLt
  have hc := c.isLt
  have hr := r.isLt
  have e (d : ℤ) (D : BitVec 32) (hD : D = BitVec.ofInt 32 d) (hd : -1000 < d ∧ d < 1000) (a b : F .f32) := select_diag (word_startD (i 0)) (word_row (i 0)) hD
    (c := c.val) (r := r.val) (by omega) (by omega) (by omega) (by omega) hd a b
  unfold addend7
  rw [ld_rBand]
  pointwise [k1_pay23, k1_pay22, k1_pay21, k1_pay20, k1_pay2]
  rw [e (306) 306#32 (by decide) (by decide), e (290) 290#32 (by decide) (by decide), e (289) 289#32 (by decide) (by decide), e (288) 288#32 (by decide) (by decide), e (272) 272#32 (by decide) (by decide)]
  rfl

theorem addend8_apply (i : grid1.Coords) (x : Vec F S2x128x16 .f32) (w : Vec F S1x128x433 .f32) (r : Fin 128) (c : Fin 433) :
    addend8 i x w (ix3 0 r c) = FloatOps.addf (w (ix3 0 r c)) (stripAt diagD x 1 r (((128 * min ((i 0).val + 2) 35 + c.val : ℕ) : ℤ) - ((128 * (i 0).val + r.val : ℕ) : ℤ))) := by
  have hi : (i 0).val < 39 := (i 0).isLt
  have hc := c.isLt
  have hr := r.isLt
  have e (d : ℤ) (D : BitVec 32) (hD : D = BitVec.ofInt 32 d) (hd : -1000 < d ∧ d < 1000) (a b : F .f32) := select_diag (word_startD (i 0)) (word_row (i 0)) hD
    (c := c.val) (r := r.val) (by omega) (by omega) (by omega) (by omega) hd a b
  unfold addend8
  rw [ld_rBand]
  pointwise [k1_pay1, k1_pay24, k1_pay21, k1_pay20, k1_pay2]
  rw [e (306) 306#32 (by decide) (by decide), e (290) 290#32 (by decide) (by decide), e (289) 289#32 (by decide) (by decide), e (288) 288#32 (by decide) (by decide), e (272) 272#32 (by decide) (by decide)]
  rfl

/-! ## The block after each accumulation, at an entry -/

omit [FloatOps F] in
/-- A put of a function of the window it is put over, of one sample's columns from `s` on, at an entry. -/
theorem put_window_apply {X : Vec F S2x128x4913 .f32} {off : Fin 3 → ℕ} {sz : ℕ} (inb : ∀ a, off a + ![1, 128, sz] a ≤ S2x128x4913.size a)
    {n₀ : Fin 2} {s : ℕ} (hoff : off = ![n₀.val, 0, s]) (A : Vec F ⟨3, ![1, 128, sz]⟩ .f32 → Vec F ⟨3, ![1, 128, sz]⟩ .f32)
    (f : Fin 128 → ℕ → F .f32 → F .f32) (hA : ∀ w (r : Fin 128) (c : Fin sz), A w (ix3 0 r c) = f r (s + c.val) (w (ix3 0 r c)))
    (n : Fin 2) (r : Fin 128) (c : Fin 4913) :
    VecWindow.put X off ![1, 128, sz] (A (VecWindow.window X off ![1, 128, sz] inb)) (ix3 n r c)
      = if n = n₀ ∧ s ≤ c.val ∧ c.val < s + sz then f r c.val (X (ix3 n r c)) else X (ix3 n r c) := by
  subst hoff
  unfold VecWindow.put
  by_cases h : n = n₀ ∧ s ≤ c.val ∧ c.val < s + sz
  · obtain ⟨rfl, h1, h2⟩ := h
    rw [if_pos ⟨rfl, h1, h2⟩]
    have hh : ∀ a : Fin 3, (![n.val, 0, s] : Fin 3 → ℕ) a ≤ ((ix3 n r c : S2x128x4913.Idx) a).val ∧ ((ix3 n r c : S2x128x4913.Idx) a).val < (![n.val, 0, s] : Fin 3 → ℕ) a + (![1, 128, sz] : Fin 3 → ℕ) a := by
      have hr := r.isLt
      intro a; fin_cases a
      · show n.val ≤ n.val ∧ n.val < n.val + 1; omega
      · show 0 ≤ r.val ∧ r.val < 0 + 128; omega
      · show s ≤ c.val ∧ c.val < s + sz; omega
    rw [dif_pos hh]
    have e : (Rect.unitLocal (s := S2x128x4913) (off := ![n.val, 0, s]) (size := ![1, 128, sz]) (ix3 n r c) hh)
        = ix3 (0 : Fin 1) r (⟨c.val - s, by omega⟩ : Fin sz) := by
      funext a; refine Fin.ext ?_; fin_cases a
      · show n.val - n.val = 0; omega
      · show r.val - 0 = r.val; omega
      · rfl
    rw [e, hA]
    have e2 : VecWindow.window X ![n.val, 0, s] ![1, 128, sz] inb (ix3 (0 : Fin 1) r (⟨c.val - s, by omega⟩ : Fin sz)) = X (ix3 n r c) := by
      unfold VecWindow.window
      congr 1
      funext a; refine Fin.ext ?_; fin_cases a
      · show n.val + 1 * 0 = n.val; omega
      · show 0 + 1 * r.val = r.val; omega
      · show s + 1 * (c.val - s) = c.val; omega
    rw [e2]
    congr 1
    show s + (c.val - s) = c.val
    omega
  · rw [if_neg h, dif_neg]
    intro hh
    refine h ?_
    have h0 := hh 0
    have h2 := hh 2
    have h0' : n₀.val ≤ n.val ∧ n.val < n₀.val + 1 := h0
    have h2' : s ≤ c.val ∧ c.val < s + sz := h2
    exact ⟨Fin.ext (by omega), h2'⟩

theorem stage0_apply (i : grid1.Coords) (x : Vec F S2x128x16 .f32) (j : S2x128x4913.Idx) : stage0 i x j = Scalar.ofBits .f32 0x00000000#32 := rfl

theorem stage1_apply (i : grid1.Coords) (x : Vec F S2x128x16 .f32) (n : Fin 2) (r : Fin 128) (c : Fin 4913) :
    stage1 i x (ix3 n r c) = if n = 0 ∧ 128 * min ((i 0).val - 3) 35 ≤ c.val ∧ c.val < 128 * min ((i 0).val - 3) 35 + 433
      then FloatOps.addf (stage0 i x (ix3 n r c)) (stripAt diagA x 0 r ((c.val : ℤ) - ((128 * (i 0).val + r.val : ℕ) : ℤ))) else stage0 i x (ix3 n r c) :=
  put_window_apply (sz := 433) (k1_off1_inb i 1) (n₀ := 0) (k1_off1_lo i) (addend1 i x)
    (fun r c v => FloatOps.addf v (stripAt diagA x 0 r ((c : ℤ) - ((128 * (i 0).val + r.val : ℕ) : ℤ)))) (addend1_apply i x) n r c

theorem stage2_apply (i : grid1.Coords) (x : Vec F S2x128x16 .f32) (n : Fin 2) (r : Fin 128) (c : Fin 4913) :
    stage2 i x (ix3 n r c) = if n = 1 ∧ 128 * min ((i 0).val - 3) 35 ≤ c.val ∧ c.val < 128 * min ((i 0).val - 3) 35 + 433
      then FloatOps.addf (stage1 i x (ix3 n r c)) (stripAt diagA x 1 r ((c.val : ℤ) - ((128 * (i 0).val + r.val : ℕ) : ℤ))) else stage1 i x (ix3 n r c) :=
  put_window_apply (sz := 433) (k1_off2_inb i 1) (n₀ := 1) (k1_off2_lo i) (addend2 i x)
    (fun r c v => FloatOps.addf v (stripAt diagA x 1 r ((c : ℤ) - ((128 * (i 0).val + r.val : ℕ) : ℤ)))) (addend2_apply i x) n r c

theorem stage3_apply (i : grid1.Coords) (x : Vec F S2x128x16 .f32) (n : Fin 2) (r : Fin 128) (c : Fin 4913) :
    stage3 i x (ix3 n r c) = if n = 0 ∧ 128 * min ((i 0).val - 1) 36 ≤ c.val ∧ c.val < 128 * min ((i 0).val - 1) 36 + 305
      then FloatOps.addf (stage2 i x (ix3 n r c)) (stripAt diagB x 0 r ((c.val : ℤ) - ((128 * (i 0).val + r.val : ℕ) : ℤ))) else stage2 i x (ix3 n r c) :=
  put_window_apply (sz := 305) (k1_off3_inb i 1) (n₀ := 0) (k1_off3_lo i) (addend3 i x)
    (fun r c v => FloatOps.addf v (stripAt diagB x 0 r ((c : ℤ) - ((128 * (i 0).val + r.val : ℕ) : ℤ)))) (addend3_apply i x) n r c

theorem stage4_apply (i : grid1.Coords) (x : Vec F S2x128x16 .f32) (n : Fin 2) (r : Fin 128) (c : Fin 4913) :
    stage4 i x (ix3 n r c) = if n = 1 ∧ 128 * min ((i 0).val - 1) 36 ≤ c.val ∧ c.val < 128 * min ((i 0).val - 1) 36 + 305
      then FloatOps.addf (stage3 i x (ix3 n r c)) (stripAt diagB x 1 r ((c.val : ℤ) - ((128 * (i 0).val + r.val : ℕ) : ℤ))) else stage3 i x (ix3 n r c) :=
  put_window_apply (sz := 305) (k1_off4_inb i 1) (n₀ := 1) (k1_off4_lo i) (addend4 i x)
    (fun r c v => FloatOps.addf v (stripAt diagB x 1 r ((c : ℤ) - ((128 * (i 0).val + r.val : ℕ) : ℤ)))) (addend4_apply i x) n r c

theorem stage5_apply (i : grid1.Coords) (x : Vec F S2x128x16 .f32) (n : Fin 2) (r : Fin 128) (c : Fin 4913) :
    stage5 i x (ix3 n r c) = if n = 0 ∧ 128 * min (i 0).val 36 ≤ c.val ∧ c.val < 128 * min (i 0).val 36 + 305
      then FloatOps.addf (stage4 i x (ix3 n r c)) (stripAt diagC x 0 r ((c.val : ℤ) - ((128 * (i 0).val + r.val : ℕ) : ℤ))) else stage4 i x (ix3 n r c) :=
  put_window_apply (sz := 305) (k1_off3_inb i 0) (n₀ := 0) (k1_off3_hi i) (addend5 i x)
    (fun r c v => FloatOps.addf v (stripAt diagC x 0 r ((c : ℤ) - ((128 * (i 0).val + r.val : ℕ) : ℤ)))) (addend5_apply i x) n r c

theorem stage6_apply (i : grid1.Coords) (x : Vec F S2x128x16 .f32) (n : Fin 2) (r : Fin 128) (c : Fin 4913) :
    stage6 i x (ix3 n r c) = if n = 1 ∧ 128 * min (i 0).val 36 ≤ c.val ∧ c.val < 128 * min (i 0).val 36 + 305
      then FloatOps.addf (stage5 i x (ix3 n r c)) (stripAt diagC x 1 r ((c.val : ℤ) - ((128 * (i 0).val + r.val : ℕ) : ℤ))) else stage5 i x (ix3 n r c) :=
  put_window_apply (sz := 305) (k1_off4_inb i 0) (n₀ := 1) (k1_off4_hi i) (addend6 i x)
    (fun r c v => FloatOps.addf v (stripAt diagC x 1 r ((c : ℤ) - ((128 * (i 0).val + r.val : ℕ) : ℤ)))) (addend6_apply i x) n r c

theorem stage7_apply (i : grid1.Coords) (x : Vec F S2x128x16 .f32) (n : Fin 2) (r : Fin 128) (c : Fin 4913) :
    stage7 i x (ix3 n r c) = if n = 0 ∧ 128 * min ((i 0).val + 2) 35 ≤ c.val ∧ c.val < 128 * min ((i 0).val + 2) 35 + 433
      then FloatOps.addf (stage6 i x (ix3 n r c)) (stripAt diagD x 0 r ((c.val : ℤ) - ((128 * (i 0).val + r.val : ℕ) : ℤ))) else stage6 i x (ix3 n r c) :=
  put_window_apply (sz := 433) (k1_off1_inb i 0) (n₀ := 0) (k1_off1_hi i) (addend7 i x)
    (fun r c v => FloatOps.addf v (stripAt diagD x 0 r ((c : ℤ) - ((128 * (i 0).val + r.val : ℕ) : ℤ)))) (addend7_apply i x) n r c

theorem stage8_apply (i : grid1.Coords) (x : Vec F S2x128x16 .f32) (n : Fin 2) (r : Fin 128) (c : Fin 4913) :
    stage8 i x (ix3 n r c) = if n = 1 ∧ 128 * min ((i 0).val + 2) 35 ≤ c.val ∧ c.val < 128 * min ((i 0).val + 2) 35 + 433
      then FloatOps.addf (stage7 i x (ix3 n r c)) (stripAt diagD x 1 r ((c.val : ℤ) - ((128 * (i 0).val + r.val : ℕ) : ℤ))) else stage7 i x (ix3 n r c) :=
  put_window_apply (sz := 433) (k1_off2_inb i 0) (n₀ := 1) (k1_off2_hi i) (addend8 i x)
    (fun r c v => FloatOps.addf v (stripAt diagD x 1 r ((c : ℤ) - ((128 * (i 0).val + r.val : ℕ) : ℤ)))) (addend8_apply i x) n r c

/-- An entry of the block depends on its own row of the band block alone. -/
theorem stage8_congr (i : grid1.Coords) (x x' : Vec F S2x128x16 .f32) (r : Fin 128) (h : ∀ n t, x (ix3 n r t) = x' (ix3 n r t)) (n : Fin 2) (c : Fin 4913) :
    stage8 i x (ix3 n r c) = stage8 i x' (ix3 n r c) := by
  have e (D : List (ℤ × Fin 16)) (m : Fin 2) (δ : ℤ) := stripAt_congr D x x' m r δ (h m)
  simp only [stage8_apply, stage7_apply, stage6_apply, stage5_apply, stage4_apply, stage3_apply, stage2_apply, stage1_apply, stage0_apply, e]

end Cert.KernelIdeal.Gen

end
-- ==== Proof.IdealRegion1.lean ====
module

public import proofs.«01_k».proof.Proof.IdealRegion0
public import proofs.«01_k».proof.Proof.IdealStrips

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! The row-block kernel as a pipeline: its blocks of 128 rows overhang the array at the last point, where only the rows inside are moved.
    An entry of what the body makes depends on its own row of the input alone, so what is written back does not depend on what the rows
    outside held. -/

variable (V : (c : Dev nD) → (b : Ref sig .tc) → Buf (Elt F) ((c : Thread nD τ).loc b))

/-- Window `w`'s block at point `t`, the part inside the array, as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The band's rows at point `t`, zero outside the array. -/
def rows1 (c : Dev nD) (t : Fin cfg1.N) : Vec F S2x128x16 .f32 :=
  (cfg1.win 0).fill (cfg1.grid.coords t) (fun _ => Scalar.ofBits .f32 0x00000000#32) (iblk1 V c 0 t)

/-- The pipeline's proof data: after the body at point `t` the input's buffer at its rows, the output's at what the body makes of them. -/
def dat1 (c : Dev nD) : Dat τ (Elt F) Unit ℕ (UR sig nD τ) ℕ cfg1 c where
  A w := V c (Pipeline.arrRef spec1 w)
  after w t := match w with
    | ⟨0, _⟩ => rows1 V c t
    | ⟨1, _⟩ => stage8 (grid1.coords t) (rows1 V c t)
  Φ _ := Pipeline.ΦA spec1 c
  q _ := fullShare
  owed _ := 0

theorem A_eq1 (c : Dev nD) (w : Fin cfg1.W) : (dat1 V c).A w = V c (Pipeline.arrRef spec1 w) := by dsimp only [dat1]
theorem after1_0 (c : Dev nD) (t : Fin cfg1.N) : (dat1 V c).after 0 t = rows1 V c t := by dsimp only [dat1]
theorem after1_1 (c : Dev nD) (t : Fin cfg1.N) : (dat1 V c).after 1 t = stage8 (grid1.coords t) (rows1 V c t) := by dsimp only [dat1]

/-- The input is fetched at every point: its buffer holds the rows inside the array over what it held. -/
theorem before1_0 (c : Dev nD) (t : Fin cfg1.N) (d) : (dat1 V c).before 0 t d = (cfg1.win 0).fill (cfg1.grid.coords t) d (iblk1 V c 0 t) := by
  have e : (dat1 V c).before 0 t d = (dat1 V c).fetched 0 t d := by
    rw [Dat.before]; rw [if_pos (fetch1_0 t)]
  rw [e]
  unfold Dat.fetched Dat.blockOf iblk1
  rw [A_eq1]

/-- The input's rows and the output's are cut at the same row, and the input's other axes are whole. -/
theorem xsize1 : ∀ i : grid1.Coords, (cfg1.win 0).xsize i 1 = (cfg1.win 1).xsize i 1 ∧ (cfg1.win 0).xsize i 0 = 2 ∧ (cfg1.win 0).xsize i 2 = 16 := by
  decide +kernel

/-- What the body writes back does not depend on what its input's buffer held outside the array. -/
theorem cut_stage8 (i : grid1.Coords) (d d' : Vec F S2x128x16 .f32) (g : ((cfg1.win 0).xblock i).Idx → F .f32) :
    (cfg1.win 1).cut i (stage8 i ((cfg1.win 0).fill i d g)) = (cfg1.win 1).cut i (stage8 i ((cfg1.win 0).fill i d' g)) := by
  funext y
  obtain ⟨h1, h0, h2⟩ := xsize1 i
  have hy : ((y 1).val : ℕ) < (cfg1.win 1).xsize i 1 := (y 1).isLt
  generalize hj : (cfg1.win 1).xinj i y = j
  show stage8 i _ ((cfg1.win 1).xinj i y) = stage8 i _ ((cfg1.win 1).xinj i y)
  rw [hj]
  have hj1 : ((j : S2x128x4913.Idx) 1).val = (y 1).val := by rw [← hj]
  have ej : (j : S2x128x4913.Idx) = ix3 (j 0) (j 1) (j 2) := eq_ix3 (n0 := 2) (n1 := 128) (n2 := 4913) j
  rw [ej]
  refine stage8_congr i _ _ _ (fun n t => ?_) _ _
  have hm : (cfg1.win 0).moved i (ix3 n (j 1) t : S2x128x16.Idx) = true := by
    rw [(cfg1.win 0).moved_iff]
    intro a
    have hn := n.isLt
    have ht := t.isLt
    fin_cases a
    · show n.val < (cfg1.win 0).xsize i 0
      rw [h0]; exact hn
    · show ((j : S2x128x4913.Idx) 1).val < (cfg1.win 0).xsize i 1
      rw [h1, hj1]; exact hy
    · show t.val < (cfg1.win 0).xsize i 2
      rw [h2]; exact ht
  unfold Pipeline.Window.fill
  rw [dif_pos hm, dif_pos hm]

/-! ## The body obligation -/

def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d)))

def bodyPost1 (c : Dev nD) (t : Fin cfg1.N) : sProp 𝕄 :=
  iprop((dat1 V c).Φ t.succ ∗ (dat1 V c).owesAt () t.succ
    ∗ (∃ d, owns (c : Thread nD τ) (st1_0 t) fullShare ((cfg1.win 0).fill (cfg1.grid.coords t) d ((cfg1.win 0).cut (cfg1.grid.coords t) ((dat1 V c).after 0 t))))
    ∗ (∃ d, owns (c : Thread nD τ) (st1_1 t) fullShare ((cfg1.win 1).fill (cfg1.grid.coords t) d ((cfg1.win 1).cut (cfg1.grid.coords t) ((dat1 V c).after 1 t)))))

/-- The body at any point. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0]
  rw [show (dat1 V c).Φ t.succ = (dat1 V c).Φ t.castSucc from rfl,
    show (dat1 V c).owesAt () t.succ = (dat1 V c).owesAt () t.castSucc from rfl,
    after1_0, after1_1]
  iintro ⟨HΦ, Ho, ⟨%d0, H0⟩, ⟨%d1, H1⟩⟩
  iapply (run_body1 c Set.univ (grid1.coords t) _ _ _ _ ((cfg1.win 0).fill (cfg1.grid.coords t) d0 (iblk1 V c 0 t)) _)
  isplitl [H0]; · iexact H0
  isplitl [H1]; · iexists _; iexact H1
  iintro ⟨H0, H1⟩
  isplitl [HΦ]; · iexact HΦ
  isplitl [Ho]; · iexact Ho
  isplitl [H0]
  · iexists d0
    rw [show (cfg1.win 0).cut (cfg1.grid.coords t) (rows1 V c t) = iblk1 V c 0 t from (cfg1.win 0).cut_fill _ _ _]
    iexact H0
  iexists (stage8 (grid1.coords t) ((cfg1.win 0).fill (cfg1.grid.coords t) d0 (iblk1 V c 0 t)))
  have e : (win1 1).fill (grid1.coords t) (stage8 (grid1.coords t) ((cfg1.win 0).fill (cfg1.grid.coords t) d0 (iblk1 V c 0 t)))
      ((win1 1).cut (grid1.coords t) (stage8 (grid1.coords t) (rows1 V c t))) = stage8 (grid1.coords t) ((cfg1.win 0).fill (cfg1.grid.coords t) d0 (iblk1 V c 0 t)) :=
    (cfg1.win 1).fill_congr_cut (cfg1.grid.coords t) (cut_stage8 (grid1.coords t) d0 (fun _ => Scalar.ofBits .f32 0x00000000#32) (iblk1 V c 0 t))
  rw [e]
  iexact H1

theorem defs₀_row1 (t : Fin cfg1.N) :
    defs₀ (F := F) .tc cfg1.body (cfg1.bodyArgs t (cfg1.slots t)) = bodyAt1 t := by
  unfold defs₀; rw [Defs.onTc_tc]

/-- The body's obligation at every point, on the part of the blocks inside the arrays. -/
theorem body_obligation1 (c : Dev nD) : Pipeline.BodyObligationLoose (dat1 (F := F) V c) (defs₀ (F := F)) Variants.none () Set.univ := fun t => by
  rw [bigSep_W1, bigSep_W1, defs₀_row1]
  exact triple_restated (sound_body1 V c t) rfl .rfl fun _ => .rfl

end Cert.KernelIdeal.Gen

end
-- ==== Proof.IdealRun.lean ====
module

public import proofs.«01_k».proof.Proof.IdealRegion1

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The host stretches -/

abbrev argRefs : List (Ref sig .tc) := [main_arg0]

theorem stretch0_fresh : (hostOps0 : List (HloOp τ sig (Elt F))).Forall fun op => op.fresh = ∅ := by
  simp only [List.Forall]; repeat' constructor
abbrev stretch0_W : List (Ref sig .tc) := [main_call0_c]
theorem stretch0_writes : (hostOps0 : List (HloOp τ sig (Elt F))).Forall fun op => op.writes ⊆ (stretch0_W.map (Proc.devRef (τ := τ) .tc)).toFinset :=
  StableHlo.forall_writes_sub_of_map rfl
theorem stretch0_args : ∀ a ∈ argRefs, a ∉ stretch0_W := ListAll.forall_mem_of_all_decide (by decide +kernel)

theorem stretch1_fresh : (hostOps1 : List (HloOp τ sig (Elt F))).Forall fun op => op.fresh = ∅ := by
  simp only [List.Forall]; repeat' constructor
abbrev stretch1_W : List (Ref sig .tc) := [main_call0_v1, main_call0_v2]
theorem stretch1_writes : (hostOps1 : List (HloOp τ sig (Elt F))).Forall fun op => op.writes ⊆ (stretch1_W.map (Proc.devRef (τ := τ) .tc)).toFinset :=
  StableHlo.forall_writes_sub_of_map rfl
theorem stretch1_args : ∀ a ∈ argRefs, a ∉ stretch1_W := ListAll.forall_mem_of_all_decide (by decide +kernel)

theorem stretch2_fresh : (hostOps2 : List (HloOp τ sig (Elt F))).Forall fun op => op.fresh = ∅ := by
  simp only [List.Forall]; repeat' constructor
abbrev stretch2_W : List (Ref sig .tc) := [main_call0_v4, main_call0_v5, main_v0_0, main_call0_v7, main_call0_v8, main_v0_1, main_call0_v10, main_v0_2, main_call0_v12, main_v0_4]
theorem stretch2_writes : (hostOps2 : List (HloOp τ sig (Elt F))).Forall fun op => op.writes ⊆ (stretch2_W.map (Proc.devRef (τ := τ) .tc)).toFinset :=
  StableHlo.forall_writes_sub_of_map rfl
theorem stretch2_args : ∀ a ∈ argRefs, a ∉ stretch2_W := ListAll.forall_mem_of_all_decide (by decide +kernel)

/-! ## The buffer contents at each segment boundary: a fold through @main, and what each item leaves unchanged -/

/-- Core `c`'s buffers at launch. -/
abbrev W0 : Dev nD → Valuation τ sig (Elt F) := fun c b => (s₀ m ρ).mem ((c : Dev nD), b)
theorem W0_args (c : Dev nD) : ∀ a ∈ argRefs, W0 m ρ c (Proc.devRef .tc a) = m ((c : Thread nD τ).loc a) := fun _ _ => rfl
/-- After `hostOps0` (region 0's entry). -/
abbrev W1 : Dev nD → Valuation τ sig (Elt F) := fun c => StableHlo.after hostOps0 (W0 m ρ c)
theorem W1_of (c : Dev nD) (r : Ref sig .tc) (h : r ∉ stretch0_W) : W1 m ρ c (Proc.devRef .tc r) = W0 m ρ c (Proc.devRef .tc r) :=
  StableHlo.after_of_writes_sub hostOps0 _ stretch0_writes h
theorem W1_args (c : Dev nD) : ∀ a ∈ argRefs, W1 m ρ c (Proc.devRef .tc a) = m ((c : Thread nD τ).loc a) :=
  fun a ha => (W1_of m ρ c a (stretch0_args a ha)).trans (W0_args m ρ c a ha)
/-- The same read at the TensorCore's references (what region 0's proof data take). -/
abbrev V1 : (c : Dev nD) → (b : Ref sig .tc) → Buf (Elt F) ((c : Thread nD τ).loc b) := fun c b => W1 m ρ c b
/-- At region 0's exit: its arrays at what the pipeline leaves (the inputs as entered, each output's write-backs
    folded: `Dat.arrAt … N`), every other buffer as entered (Lib/Pipeline/FrameSuffix.lean `withArrays`). -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
/-- A reference that is none of region 0's OUTPUT arrays keeps its entry contents across it: an input window's
    array is never written back (`Dat.arrAt_in`, `A_eq0`); any other buffer is left as is. -/
theorem W2_of (c : Dev nD) (r : Ref sig .tc) (h : ∀ w : Fin cfg0.W, Pipeline.arrRef spec0 w = r → (cfg0.win w).isOut = false) :
    W2 m ρ c (Proc.devRef .tc r) = W1 m ρ c (Proc.devRef .tc r) := by
  by_cases hw : ∃ w : Fin cfg0.W, Pipeline.arrRef spec0 w = r
  · obtain ⟨w, rfl⟩ := hw
    exact (W2_arr m ρ c w).trans (((dat0 (V1 m ρ) c).arrAt_in w (h w rfl) _).trans (A_eq0 (V1 m ρ) c w))
  · exact W2_of_ne m ρ c r fun w e => hw ⟨w, e⟩
/-- Every argument among region 0's arrays is an input window's (checked: each argument against each window). -/
theorem argsIn0 : ∀ a ∈ argRefs, ∀ w : Fin cfg0.W, Pipeline.arrRef spec0 w = a → (cfg0.win w).isOut = false :=
  ListAll.forall_mem_of_all_decide (by decide +kernel)
theorem W2_args (c : Dev nD) : ∀ a ∈ argRefs, W2 m ρ c (Proc.devRef .tc a) = m ((c : Thread nD τ).loc a) :=
  fun a ha => (W2_of m ρ c a (argsIn0 a ha)).trans (W1_args m ρ c a ha)
/-- The same read at the TensorCore's references (region 0's exit contents). -/
abbrev V2 : (c : Dev nD) → (b : Ref sig .tc) → Buf (Elt F) ((c : Thread nD τ).loc b) := fun c b => W2 m ρ c b
/-- At region 0's exit each of its arrays holds what the pipeline leaves (`hF0`) and every other buffer what it
    held at entry (`hrest0`): the two hypotheses of Lib/Pipeline/RegionsLoop.lean `unscopedBufs_of_arrays`. -/
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- After `hostOps1` (region 1's entry). -/
abbrev W3 : Dev nD → Valuation τ sig (Elt F) := fun c => StableHlo.after hostOps1 (W2 m ρ c)
/-- A reference `hostOps1` does not write keeps its contents across it. -/
theorem W3_of (c : Dev nD) (r : Ref sig .tc) (h : r ∉ stretch1_W) : W3 m ρ c (Proc.devRef .tc r) = W2 m ρ c (Proc.devRef .tc r) :=
  StableHlo.after_of_writes_sub hostOps1 _ stretch1_writes h
theorem W3_args (c : Dev nD) : ∀ a ∈ argRefs, W3 m ρ c (Proc.devRef .tc a) = m ((c : Thread nD τ).loc a) :=
  fun a ha => (W3_of m ρ c a (stretch1_args a ha)).trans (W2_args m ρ c a ha)
/-- The same read at the TensorCore's references (what region 1's proof data take). -/
abbrev V3 : (c : Dev nD) → (b : Ref sig .tc) → Buf (Elt F) ((c : Thread nD τ).loc b) := fun c b => W3 m ρ c b
/-- At region 1's exit: its arrays at what the pipeline leaves (the inputs as entered, each output's write-backs
    folded: `Dat.arrAt … N`), every other buffer as entered (Lib/Pipeline/FrameSuffix.lean `withArrays`). -/
def W4 (c : Dev nD) : Valuation τ sig (Elt F) :=
  Pipeline.withArrays spec1 c (W3 m ρ c) fun w => (dat1 (V3 m ρ) c).arrAt w cfg1.N
theorem W4_arr (c : Dev nD) (w : Fin cfg1.W) :
    W4 m ρ c (Proc.devRef .tc (Pipeline.arrRef spec1 w)) = (dat1 (V3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
/-- A reference that is none of region 1's OUTPUT arrays keeps its entry contents across it: an input window's
    array is never written back (`Dat.arrAt_in`, `A_eq1`); any other buffer is left as is. -/
theorem W4_of (c : Dev nD) (r : Ref sig .tc) (h : ∀ w : Fin cfg1.W, Pipeline.arrRef spec1 w = r → (cfg1.win w).isOut = false) :
    W4 m ρ c (Proc.devRef .tc r) = W3 m ρ c (Proc.devRef .tc r) := by
  by_cases hw : ∃ w : Fin cfg1.W, Pipeline.arrRef spec1 w = r
  · obtain ⟨w, rfl⟩ := hw
    exact (W4_arr m ρ c w).trans (((dat1 (V3 m ρ) c).arrAt_in w (h w rfl) _).trans (A_eq1 (V3 m ρ) c w))
  · exact W4_of_ne m ρ c r fun w e => hw ⟨w, e⟩
/-- Every argument among region 1's arrays is an input window's (checked: each argument against each window). -/
theorem argsIn1 : ∀ a ∈ argRefs, ∀ w : Fin cfg1.W, Pipeline.arrRef spec1 w = a → (cfg1.win w).isOut = false :=
  ListAll.forall_mem_of_all_decide (by decide +kernel)
theorem W4_args (c : Dev nD) : ∀ a ∈ argRefs, W4 m ρ c (Proc.devRef .tc a) = m ((c : Thread nD τ).loc a) :=
  fun a ha => (W4_of m ρ c a (argsIn1 a ha)).trans (W3_args m ρ c a ha)
/-- The same read at the TensorCore's references (region 1's exit contents). -/
abbrev V4 : (c : Dev nD) → (b : Ref sig .tc) → Buf (Elt F) ((c : Thread nD τ).loc b) := fun c b => W4 m ρ c b
/-- At region 1's exit each of its arrays holds what the pipeline leaves (`hF1`) and every other buffer what it
    held at entry (`hrest1`): the two hypotheses of Lib/Pipeline/RegionsLoop.lean `unscopedBufs_of_arrays`. -/
theorem hF1 (c : Dev nD) (w : Fin cfg1.W) : (dat1 (V3 m ρ) c).arrAt w cfg1.N = V4 m ρ c (Pipeline.arrRef spec1 w) :=
  (W4_arr m ρ c w).symm
theorem hrest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)

/-- After `hostOps2`. -/
abbrev W5 : Dev nD → Valuation τ sig (Elt F) := fun c => StableHlo.after hostOps2 (W4 m ρ c)
/-- A reference `hostOps2` does not write keeps its contents across it. -/
theorem W5_of (c : Dev nD) (r : Ref sig .tc) (h : r ∉ stretch2_W) : W5 m ρ c (Proc.devRef .tc r) = W4 m ρ c (Proc.devRef .tc r) :=
  StableHlo.after_of_writes_sub hostOps2 _ stretch2_writes h
theorem W5_args (c : Dev nD) : ∀ a ∈ argRefs, W5 m ρ c (Proc.devRef .tc a) = m ((c : Thread nD τ).loc a) :=
  fun a ha => (W5_of m ρ c a (stretch2_args a ha)).trans (W4_args m ρ c a ha)

/-! ### The arguments end as launched: no host stretch writes one and no region may change one (a region reads it
    through an input window or bypasses it) -/

theorem W5_main_arg0 (c : Dev nD) : W5 m ρ c (Proc.devRef .tc main_arg0) = m ((c : Thread nD τ).loc main_arg0) :=
  W5_args m ρ c main_arg0 (by decide)

/-! ## The proof data family and the thread state -/

/-- The prefetched tables' admissible contents: no pipeline has a table. -/
abbrev adm : (p : Fin 2) → (pcfgs (F := F) p).Adm := fun p => (cfgs p).toPCfg_adm
/-- Every pipeline's proof data, each at its region's entry contents — a literal `match`, so that the kit's
    `Pipeline.pin pcfgs adm p` at a numeral reduces to the printed configuration. -/
def pdats : (p : Fin 2) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ) c
/-- The same read relationally, the counts' window held to its predicate: what the regions are run at. -/
def rdats : (p : Fin 2) → (c : Dev nD) → Pipeline.RDat τ (Elt F) Unit ℕ (UR sig nD τ) ℕ (Pipeline.pin (pcfgs (F := F)) adm p) c
  | ⟨0, _⟩ => fun c => rdat0 (V1 m ρ) c
  | ⟨1, _⟩ => fun c => (dat1 (V3 m ρ) c).toR
/-- After every write-back each region's arrays are as the exact data says. -/
theorem arraysAt0 (c : Dev nD) : (rdats m ρ 0 c).arraysAt cfg0.N ⊢ ((dat0 (V1 m ρ) c).arrays ((dat0 (V1 m ρ) c).arrAt · cfg0.N) : sProp 𝕄) :=
  toRRel_arraysAt_of_forced (dat0 (V1 m ρ) c) (forced0 (V1 m ρ) c) cfg0.N
theorem arraysAt1 (c : Dev nD) : (rdats m ρ 1 c).arraysAt cfg1.N ⊢ ((dat1 (V3 m ρ) c).arrays ((dat1 (V3 m ρ) c).arrAt · cfg1.N) : sProp 𝕄) :=
  (dat1 (V3 m ρ) c).toR_arraysAt_post cfg1.N
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state (the class-A
    invariant takes it in and gives it back) and its `owes`, at nothing. -/
abbrev R (c : Dev nD) : sProp 𝕄 := iprop((∃ r, prngReg c r) ∗ ∃ W, owes (c : Thread nD τ) (0 : CellTallies nD τ sig Unit) W)
/-- A host stretch as a segment: `HostSeg.ofOps` over the unscoped references from the contents `W`, `R` riding along
    (its `post` is then those references at `StableHlo.after ops (W c)`: the next boundary's contents by name). -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes` (the kit's chain ends at it BESIDE the core owing nothing): every unscoped
    buffer at the last boundary's contents `W5`, the generator register at some state. -/
abbrev Tₙ (c : Dev nD) : sProp 𝕄 := iprop(StableHlo.held (c : Thread nD τ) (Pipeline.ucRefs τ sig) (W5 m ρ c) ∗ ∃ r, prngReg c r)

/-! ## The regions as segments -/

-- `iapply` of a library lemma stated over `pin pcs a p` unifies with the pinned configuration only when unification may
-- unfold plain definitions in a metavariable's type
set_option backward.isDefEq.respectTransparency.types false in
/-- REGION 0 (custom_call 0) over the thread state: entered from every unscoped buffer at `W1`, left at `W2`
    (what the next segment is entered from). Its arrays split out of the unscoped buffers
    (`arrays_of_unscopedBufs`) and put back at the exit contents (`unscopedBufs_of_arrays`); the generator register into the
    class invariant `ΦA` and out; nothing owed; no semaphore of the kernel's own. -/
def reg0 : Pipeline.RDat.RegionSeg (pcfgs (F := F)) adm (rdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).toRRel
  hwaits := Pipeline.RDat.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) (A_eq0 (V1 m ρ) c)
    rw [Pipeline.unscopedBufs_held] at hsplit
    iintro ⟨⟨Hub, Hp, HO⟩, -, -⟩
    ihave H := hsplit $$ Hub
    icases H with ⟨Ha, Hrest⟩
    imodintro
    have hA : ((pdats m ρ 0 c).arrays fun x => (pdats m ρ 0 c).arrAt x 0) ⊢ ((rdats m ρ 0 c).arrays (rdats m ρ 0 c).A : sProp 𝕄) := by exact .rfl
    isplitl [Ha]; · iapply hA; iexact Ha
    isplitr; · unfold Pipeline.prefHeld; rw [show (Finset.univ : Finset (Fin 0)) = ∅ from rfl, BI.bigSep_empty]; iempintro
    isplitl [HO]
    · unfold Pipeline.RDat.owesAt Pipeline.owesWithin
      icases HO with ⟨%W, HO⟩; iexists W; isplitr; · ipureintro; exact fun _ _ => Or.inl trivial
      iexact HO
    isplitl [Hp]; · iexact Hp
    iexact Hrest
  hin c := by
    rw [show (rdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (rdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    have hread := arraysAt0 m ρ c
    iintro ⟨Ha, HO, HY, Hrest⟩
    imodintro
    isplitl [Ha Hrest]
    · iapply hjoin; isplitl [Ha]
      · iapply hread; iexact Ha
      · iexact Hrest
    isplitl [HY]; · iexact HY
    unfold Pipeline.RDat.owesAt Pipeline.owesWithin
    icases HO with ⟨%W, -, HO⟩; iexists W; iexact HO

-- `iapply` of a library lemma stated over `pin pcs a p` unifies with the pinned configuration only when unification may
-- unfold plain definitions in a metavariable's type
set_option backward.isDefEq.respectTransparency.types false in
/-- REGION 1 (custom_call 1) over the thread state: entered from every unscoped buffer at `W3`, left at `W4`
    (what the next segment is entered from). Its arrays split out of the unscoped buffers
    (`arrays_of_unscopedBufs`) and put back at the exit contents (`unscopedBufs_of_arrays`); the generator register into the
    class invariant `ΦA` and out; nothing owed; no semaphore of the kernel's own. -/
def reg1 : Pipeline.RDat.RegionSeg (pcfgs (F := F)) adm (rdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m ρ) c).toR
  hwaits := Pipeline.RDat.hwaits_of_owed_zero _ _ _ _ L lv 1 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V3 m ρ c) (A_eq1 (V3 m ρ) c)
    rw [Pipeline.unscopedBufs_held] at hsplit
    iintro ⟨⟨Hub, Hp, HO⟩, -, -⟩
    ihave H := hsplit $$ Hub
    icases H with ⟨Ha, Hrest⟩
    imodintro
    have hA : ((pdats m ρ 1 c).arrays fun x => (pdats m ρ 1 c).arrAt x 0) ⊢ ((rdats m ρ 1 c).arrays (rdats m ρ 1 c).A : sProp 𝕄) := by exact .rfl
    isplitl [Ha]; · iapply hA; iexact Ha
    isplitr; · unfold Pipeline.prefHeld; rw [show (Finset.univ : Finset (Fin 0)) = ∅ from rfl, BI.bigSep_empty]; iempintro
    isplitl [HO]
    · unfold Pipeline.RDat.owesAt Pipeline.owesWithin
      icases HO with ⟨%W, HO⟩; iexists W; isplitr; · ipureintro; exact fun _ _ => Or.inl trivial
      iexact HO
    isplitl [Hp]; · iexact Hp
    iexact Hrest
  hin c := by
    rw [show (rdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (rdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V3 m ρ c) (V4 m ρ c) ((pdats m ρ 1 c).arrAt · cfg1.N) (hF1 m ρ c) (hrest1 m ρ c)
    rw [Pipeline.unscopedBufs_held] at hjoin
    have hread := arraysAt1 m ρ c
    iintro ⟨Ha, HO, HY, Hrest⟩
    imodintro
    isplitl [Ha Hrest]
    · iapply hjoin; isplitl [Ha]
      · iapply hread; iexact Ha
      · iexact Hrest
    isplitl [HY]; · iexact HY
    unfold Pipeline.RDat.owesAt Pipeline.owesWithin
    icases HO with ⟨%W, -, HO⟩; iexists W; iexact HO

/-! ## @main as segments, and the launch -/

/-- @main's 4 segments in order: a host segment per stretch from its boundary's contents, a region per pallas_call. -/
abbrev segs : List (Pipeline.RDat.Seg (pcfgs (F := F)) adm (rdats m ρ) () defs₀ 𝒱₀ L lv) :=
  [ .host (hseg hostOps0 hostOps0_sub stretch0_fresh (W0 m ρ)),
    .region (reg0 m ρ),
    .host (hseg hostOps1 hostOps1_sub stretch1_fresh (W2 m ρ)),
    .region (reg1 m ρ),
    .host (hseg hostOps2 hostOps2_sub stretch2_fresh (W4 m ρ)) ]
/-- @main IS the run of the segments: `Gen.main_chain`, then the segments' run against that chain by the kernel's
    definitional check (`chain_rfl`). -/
theorem main_run (c : Dev nD) : main (F := F) c = Pipeline.RDat.Seg.run (segs m ρ) := (main_chain c).trans (by chain_rfl)

/-- The TensorCore has no unscoped semaphore. -/
theorem no_unscoped : ∀ sm : SemLoc sig, sm.isScoped .tc = true := by decide

-- `θ_run_regions_kit_sems`'s implicit arguments are found by unifying its conclusion with this one, which takes unfolding
-- plain definitions in a metavariable's type
set_option backward.isDefEq.respectTransparency.types false in
/-- The run: from any memory with zero counters every weakly fair execution of @main on the TensorCores terminates, nothing
    faulting, and every final state has each unscoped buffer at the last boundary's contents and every semaphore counter at zero. -/
theorem run_all : θ_run defs (onTc (τ := τ) (main (F := F))) ⟨m, fun _ => 0, ρ⟩ (fun r => (∀ c : Dev nD,
      ∀ b ∈ Pipeline.ucRefs τ sig, r.2.mem (((c : Thread nD τ)).1, b) = W5 m ρ c b) ∧ r.2.sem = fun _ => 0) :=
  Pipeline.RDat.θ_run_regions_kit_sems (pcfgs (F := F)) adm (rdats m ρ) () cellOf_inj emb₁ defs₀ 𝒱₀ L lv m ρ main (segs m ρ)
    (fun c Q => by rw [main_run m ρ c])
    (by simp only [segs, Pipeline.RDat.Seg.pipes_host, Pipeline.RDat.Seg.pipes_region, Pipeline.RDat.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun c => by
      dsimp only [Pipeline.RDat.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h hz => ⟨h, funext fun g => hz g (.inr (no_unscoped g.2))⟩)

/-- The frame claim's statement: the argument array ends as launched, every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0))
      ∧ r.2.sem = fun _ => 0) :=
  (θ_run _ _ _).mono (fun r h => ⟨fun c => (h.1 c _ (mem_uc main_arg0 (by decide))).trans (W5_main_arg0 m ρ c), h.2⟩) (run_all m ρ)

end Cert.KernelIdeal.Gen

end
-- ==== Proof.Model.lean ====
module

public import Idealize.ShloMosaic.Lib.Pointwise

@[expose] public section

noncomputable section

namespace Cert.Voxel

open Idealize.ShloMosaic

/-- The extended real `e` is one where `p` holds and zero where it does not. -/
def Is (e : EReal) (p : Prop) : Prop := (p → e = 1) ∧ (¬ p → e = 0)

theorem Is.congr {e : EReal} {p q : Prop} (h : Is e p) (hpq : p ↔ q) : Is e q :=
  ⟨fun hq => h.1 (hpq.2 hq), fun hq => h.2 fun hp => hq (hpq.1 hp)⟩

theorem Is.of_eq {e f : EReal} {p : Prop} (h : Is f p) (he : e = f) : Is e p := he ▸ h

/-- Two indicators of one statement are equal. -/
theorem Is.eq {e f : EReal} {p : Prop} (h : Is e p) (h' : Is f p) : e = f := by
  by_cases hp : p
  · rw [h.1 hp, h'.1 hp]
  · rw [h.2 hp, h'.2 hp]

theorem Is.zero : Is 0 False := ⟨fun h => h.elim, fun _ => rfl⟩

theorem Is.max {e f : EReal} {p q : Prop} (h : Is e p) (h' : Is f q) : Is (max e f) (p ∨ q) := by
  by_cases hp : p <;> by_cases hq : q <;> simp [Is, h.1, h.2, h'.1, h'.2, hp, hq]

theorem Is.add {e f : EReal} {p q : Prop} (h : Is e p) (h' : Is f q) (hn : ¬ (p ∧ q)) : Is (e + f) (p ∨ q) := by
  by_cases hp : p <;> by_cases hq : q
  · exact absurd ⟨hp, hq⟩ hn
  all_goals simp [Is, h.1, h.2, h'.1, h'.2, hp, hq]

theorem Is.mul_not {e f : EReal} {p q : Prop} (h : Is e p) (h' : Is f q) : Is (e * (1 - f)) (p ∧ ¬ q) := by
  have h11 : (1 : EReal) - 1 = 0 := by
    rw [show (1 : EReal) = ((1 : ℝ) : EReal) from rfl, ← EReal.coe_sub]; simp
  by_cases hp : p <;> by_cases hq : q <;> simp [Is, h.1, h.2, h'.1, h'.2, hp, hq, h11]

theorem Is.dite_then {a : Prop} [Decidable a] {e : a → EReal} {p : a → Prop} (h : ∀ ha, Is (e ha) (p ha)) :
    Is (if ha : a then e ha else 0) (∃ ha : a, p ha) := by
  by_cases ha : a
  · rw [dif_pos ha]; exact (h ha).congr ⟨fun hp => ⟨ha, hp⟩, fun ⟨_, hp⟩ => hp⟩
  · rw [dif_neg ha]; exact Is.zero.congr ⟨fun hp => hp.elim, fun ⟨h', _⟩ => ha h'⟩

theorem Is.dite_else {a : Prop} [Decidable a] {e : ¬ a → EReal} {p : ¬ a → Prop} (h : ∀ ha, Is (e ha) (p ha)) :
    Is (if ha : a then 0 else e ha) (∃ ha : ¬ a, p ha) := by
  by_cases ha : a
  · rw [dif_pos ha]; exact Is.zero.congr ⟨fun hp => hp.elim, fun ⟨h', _⟩ => h' ha⟩
  · rw [dif_neg ha]; exact (h ha).congr ⟨fun hp => ⟨ha, hp⟩, fun ⟨_, hp⟩ => hp⟩

/-- Sixteen values put at the places 0 to 15 of seventeen, zero at the last place. -/
def lo (g : Fin 16 → EReal) (c : Fin 17) : EReal := if h : c.val < 16 then g ⟨c.val, h⟩ else 0
/-- Sixteen values put at the places 1 to 16 of seventeen, zero at the first place. -/
def hi (g : Fin 16 → EReal) (c : Fin 17) : EReal := if h : c.val < 1 then 0 else g ⟨c.val - 1, by omega⟩

theorem Is.lo {g : Fin 16 → EReal} {Q : Fin 16 → Prop} (h : ∀ x, Is (g x) (Q x)) (c : Fin 17) :
    Is (lo g c) (∃ x : Fin 16, Q x ∧ c.val = x.val + 0) :=
  (Is.dite_then fun _ => h _).congr
    ⟨fun ⟨ha, hq⟩ => ⟨_, hq, rfl⟩, fun ⟨x, hq, hc⟩ => ⟨by omega, by
      have : (⟨c.val, by omega⟩ : Fin 16) = x := Fin.ext (by simpa using hc)
      rw [this]; exact hq⟩⟩

theorem Is.hi {g : Fin 16 → EReal} {Q : Fin 16 → Prop} (h : ∀ x, Is (g x) (Q x)) (c : Fin 17) :
    Is (hi g c) (∃ x : Fin 16, Q x ∧ c.val = x.val + 1) :=
  (Is.dite_else fun _ => h _).congr
    ⟨fun ⟨ha, hq⟩ => ⟨_, hq, by show c.val = c.val - 1 + 1; omega⟩, fun ⟨x, hq, hc⟩ => ⟨by omega, by
      have : (⟨c.val - 1, by omega⟩ : Fin 16) = x := Fin.ext (by show c.val - 1 = x.val; omega)
      rw [this]; exact hq⟩⟩

/-- The values of one sample's voxels. -/
abbrev Field := Fin 16 → Fin 16 → Fin 16 → EReal

/-- The threshold one half. -/
abbrev half : EReal := Ideal.ofBits .f32 1056964608#32

/-- A voxel is occupied where its value is above the threshold. -/
def occ (q : Field) (z y x : Fin 16) : Prop := half < q z y x

/-- The neighbour in direction `k` (z-, z+, y-, y+, x-, x+) is in the grid and occupied. -/
def nbr (q : Field) : Fin 6 → Fin 16 → Fin 16 → Fin 16 → Prop
  | 0, z, y, x => ∃ _ : ¬ z.val < 1, occ q ⟨z.val - 1, by omega⟩ y x
  | 1, z, y, x => ∃ _ : z.val < 15, occ q ⟨1 + z.val, by omega⟩ y x
  | 2, z, y, x => ∃ _ : ¬ y.val < 1, occ q z ⟨y.val - 1, by omega⟩ x
  | 3, z, y, x => ∃ _ : y.val < 15, occ q z ⟨1 + y.val, by omega⟩ x
  | 4, z, y, x => ∃ _ : ¬ x.val < 1, occ q z y ⟨x.val - 1, by omega⟩
  | 5, z, y, x => ∃ _ : x.val < 15, occ q z y ⟨1 + x.val, by omega⟩

/-- The face of a voxel in direction `k` is exposed: the voxel is occupied and its neighbour is not. -/
def exposed (q : Field) (k : Fin 6) (z y x : Fin 16) : Prop := occ q z y x ∧ ¬ nbr q k z y x

/-- The z, y and x offsets of corner `c` of face `k`. -/
def off : Fin 6 → Fin 4 → ℕ × ℕ × ℕ :=
  ![![(0, 0, 0), (0, 0, 1), (0, 1, 0), (0, 1, 1)], ![(1, 0, 0), (1, 0, 1), (1, 1, 0), (1, 1, 1)],
    ![(1, 0, 0), (1, 0, 1), (0, 0, 0), (0, 0, 1)], ![(0, 1, 0), (0, 1, 1), (1, 1, 0), (1, 1, 1)],
    ![(1, 0, 0), (0, 0, 0), (1, 1, 0), (0, 1, 0)], ![(0, 0, 1), (1, 0, 1), (0, 1, 1), (1, 1, 1)]]

/-- A voxel's exposed face `k`, moved by the offset `o`, falls on the vertex `a`, `b`, `c`. -/
def Placed (m : Fin 6 → Fin 16 → Fin 16 → Fin 16 → Prop) (o : (ℕ × ℕ × ℕ) × Fin 6) (a b c : ℕ) : Prop :=
  ∃ x : Fin 16, (∃ y : Fin 16, (∃ z : Fin 16, m o.2 z y x ∧ a = z.val + o.1.1) ∧ b = y.val + o.1.2.1) ∧ c = x.val + o.1.2.2

/-- The offsets and faces by which a vertex is used. -/
def usedPlan : List ((ℕ × ℕ × ℕ) × Fin 6) := [((0, 0, 0), 0), ((0, 0, 0), 2), ((0, 0, 0), 4), ((0, 0, 1), 0), ((0, 0, 1), 2), ((0, 0, 1), 5), ((0, 1, 0), 0), ((0, 1, 0), 3), ((0, 1, 0), 4), ((0, 1, 1), 0), ((0, 1, 1), 3), ((0, 1, 1), 5), ((1, 0, 0), 1), ((1, 0, 0), 2), ((1, 0, 0), 4), ((1, 0, 1), 1), ((1, 0, 1), 2), ((1, 0, 1), 5), ((1, 1, 0), 1), ((1, 1, 0), 3), ((1, 1, 0), 4), ((1, 1, 1), 1), ((1, 1, 1), 3), ((1, 1, 1), 5)]

/-- The differences of vertex numbers along an edge. -/
def diag : Fin 16 → ℤ := ![-306, -290, -289, -288, -272, -17, -16, -1, 1, 16, 17, 272, 288, 289, 290, 306]

/-- The offsets and faces by which an edge with each of the sixteen differences arises. -/
def plan : Fin 16 → List ((ℕ × ℕ × ℕ) × Fin 6) := ![
  [((1, 1, 0), 4)],
  [((1, 0, 1), 2)],
  [((1, 0, 0), 2), ((1, 0, 0), 4), ((1, 0, 1), 2), ((1, 0, 1), 5), ((1, 1, 0), 3), ((1, 1, 0), 4), ((1, 1, 1), 3), ((1, 1, 1), 5)],
  [((1, 1, 0), 3)],
  [((1, 0, 1), 5)],
  [((0, 1, 0), 0), ((0, 1, 0), 4), ((0, 1, 1), 0), ((0, 1, 1), 5), ((1, 1, 0), 1), ((1, 1, 0), 4), ((1, 1, 1), 1), ((1, 1, 1), 5)],
  [((0, 1, 0), 0), ((1, 1, 0), 1)],
  [((0, 0, 1), 0), ((0, 0, 1), 2), ((0, 1, 1), 0), ((0, 1, 1), 3), ((1, 0, 1), 1), ((1, 0, 1), 2), ((1, 1, 1), 1), ((1, 1, 1), 3)],
  [((0, 0, 0), 0), ((0, 0, 0), 2), ((0, 1, 0), 0), ((0, 1, 0), 3), ((1, 0, 0), 1), ((1, 0, 0), 2), ((1, 1, 0), 1), ((1, 1, 0), 3)],
  [((0, 0, 1), 0), ((1, 0, 1), 1)],
  [((0, 0, 0), 0), ((0, 0, 0), 4), ((0, 0, 1), 0), ((0, 0, 1), 5), ((1, 0, 0), 1), ((1, 0, 0), 4), ((1, 0, 1), 1), ((1, 0, 1), 5)],
  [((0, 1, 1), 5)],
  [((0, 1, 1), 3)],
  [((0, 0, 0), 2), ((0, 0, 0), 4), ((0, 0, 1), 2), ((0, 0, 1), 5), ((0, 1, 0), 3), ((0, 1, 0), 4), ((0, 1, 1), 3), ((0, 1, 1), 5)],
  [((0, 0, 0), 2)],
  [((0, 0, 0), 4)]]

/-- The difference of vertex numbers that an offset makes. -/
def lin (o : ℕ × ℕ × ℕ) : ℕ := o.1 * 289 + o.2.1 * 17 + o.2.2

/-- The number of corner `c` of face `k` of a voxel. -/
def vert (k : Fin 6) (z y x : Fin 16) (c : Fin 4) : ℕ :=
  (z.val + (off k c).1) * 289 + (y.val + (off k c).2.1) * 17 + (x.val + (off k c).2.2)

/-- The corners at the two ends of directed edge `e` of triangle `t`. -/
def ea (t : Fin 2) (e : Fin 6) : Fin 4 := ![![0, 0, 2, 2, 1, 1], ![1, 1, 3, 3, 2, 2]] t e
def eb (t : Fin 2) (e : Fin 6) : Fin 4 := ![![1, 2, 0, 1, 0, 2], ![2, 3, 1, 2, 1, 3]] t e

theorem off_le (k : Fin 6) (c : Fin 4) : (off k c).1 ≤ 1 ∧ (off k c).2.1 ≤ 1 ∧ (off k c).2.2 ≤ 1 := by
  revert k c; decide

theorem vert_lt (k : Fin 6) (z y x : Fin 16) (c : Fin 4) : vert k z y x c < 4913 := by
  have := off_le k c
  unfold vert; omega

/-- Every directed edge is in the plan of its difference. -/
theorem plan_of_edge (k : Fin 6) (t : Fin 2) (e : Fin 6) :
    ∃ d : Fin 16, (lin (off k (eb t e)) : ℤ) - lin (off k (ea t e)) = diag d ∧ (off k (ea t e), k) ∈ plan d := by
  revert k t e; decide

/-- Every entry of the plan is a directed edge. -/
theorem edge_of_plan (d : Fin 16) : ∀ ok ∈ plan d,
    ∃ (t : Fin 2) (e : Fin 6), off ok.2 (ea t e) = ok.1 ∧ (lin (off ok.2 (eb t e)) : ℤ) - lin (off ok.2 (ea t e)) = diag d := by
  revert d; decide

/-- The used plan holds the corners of the faces. -/
theorem usedPlan_of (k : Fin 6) (c : Fin 4) : (off k c, k) ∈ usedPlan := by
  revert k c; decide

theorem of_usedPlan : ∀ ok ∈ usedPlan, ∃ c : Fin 4, off ok.2 c = ok.1 := by
  decide

theorem diag_injective (s t : Fin 16) (h : diag s = diag t) : s = t := by
  revert s t; decide

end Cert.Voxel

end
-- ==== Proof.RefFaces.lean ====
module

public import proofs.«01_k».proof.Proof.Gen.ReferenceIdeal.Run
public import proofs.«01_k».proof.Proof.Model
public import Idealize.ShloMosaic.Lib.Pointwise
public import Idealize.ShloMosaic.Lib.Routing.OpsPair

@[expose] public section

set_option maxRecDepth 16384

noncomputable section

namespace Cert.ReferenceIdeal.Value

open Cert.ReferenceIdeal Cert.ReferenceIdeal.Gen Idealize.ShloMosaic Idealize.ShloMosaic.TcCoe Idealize.SL.Sem Idealize.ShloMosaic.StableHlo
open Cert.Voxel

/-- One sample of the reference's argument. -/
def field (V0 : Valuation τ sig (Elt Ideal)) (n : Fin 2) : Field :=
  fun z y x => (V0 (Proc.devRef .tc main_arg0) : S2x16x16x16.Idx → EReal) (ix4 n z y x)

/-- A bit read as a number, where the bit says `p` and not `q`. -/
theorem is_and_not (p q : Prop) [Decidable p] (w : BitVec 1) (hw : w = 1#1 ↔ q) :
    Is (FloatOps.uitofp (F := Ideal) FTy.f32 (IntOp.andi (BitVec.ofBool (decide p)) (~~~ w))) (p ∧ ¬ q) := by
  have h1 : (FloatOps.uitofp (F := Ideal) FTy.f32 (1#1) : EReal) = 1 := by
    show (((1 : ℕ) : ℝ) : EReal) = 1; simp
  have h0 : (FloatOps.uitofp (F := Ideal) FTy.f32 (0#1) : EReal) = 0 := by
    show (((0 : ℕ) : ℝ) : EReal) = 0; simp
  have hw' : w = 1#1 ∨ w = 0#1 := by
    rcases BitVec.eq_zero_or_eq_one w with h | h
    · exact .inr h
    · exact .inl h
  by_cases hp : p <;> rcases hw' with h | h
  · have hq := hw.1 h
    rw [decide_eq_true hp, h]
    exact ⟨fun h' => absurd hq h'.2, fun _ => h0⟩
  · have hq : ¬ q := fun hq => by rw [hw.2 hq] at h; exact absurd h (by decide)
    rw [decide_eq_true hp, h]
    exact ⟨fun _ => h1, fun h' => absurd ⟨hp, hq⟩ h'⟩
  · rw [decide_eq_false hp, h]
    exact ⟨fun h' => absurd h'.1 hp, fun _ => h0⟩
  · rw [decide_eq_false hp, h]
    exact ⟨fun h' => absurd h'.1 hp, fun _ => h0⟩

theorem ofBool_one (p : Prop) [Decidable p] : BitVec.ofBool (decide p) = 1#1 ↔ p := by
  by_cases hp : p
  · rw [decide_eq_true hp]; exact ⟨fun _ => hp, fun _ => rfl⟩
  · rw [decide_eq_false hp]; exact ⟨fun h => absurd h (by decide), fun h => absurd h hp⟩

/-- A padded bit is one where the place is in the array and the array's bit is one. -/
theorem padded_bit {C : Prop} [Decidable C] {f : C → BitVec 1} {w : BitVec 1} (hw : w = 0#1) {a : Prop} (ha : C ↔ a)
    {p : a → Prop} (hf : ∀ h h', f h = 1#1 ↔ p h') : (if h : C then f h else w) = 1#1 ↔ ∃ h : a, p h := by
  by_cases hC : C
  · rw [dif_pos hC, hf hC (ha.1 hC)]
    exact ⟨fun h => ⟨ha.1 hC, h⟩, fun ⟨_, h⟩ => h⟩
  · rw [dif_neg hC, hw]
    exact ⟨fun h => absurd h (by decide), fun ⟨h, _⟩ => absurd (ha.2 h) hC⟩

theorem v25_face0 (V0 : Valuation τ sig (Elt Ideal)) (n : Fin 2) (a b c : Fin 16) :
    Is ((res_main_v25 (F := Ideal) V0 : S2x6x16x16x16.Idx → EReal) (ix5 n 0 a b c)) (exposed (field V0 n) 0 a b c) := by
  pointwise [res_main_v25, res_main_v1]
  refine is_and_not _ (nbr (field V0 n) 0 a b c) _
    (padded_bit (a := ¬ a.val < 1) (by rfl) ?_ (p := fun h => occ (field V0 n) ⟨a.val - 1, by omega⟩ b c) fun _ _ => ofBool_one _)
  constructor
  · intro h
    have h0 : 1 ≤ a.val ∧ (a.val - 1) % (0 + 1) = 0 ∧ (a.val - 1) / (0 + 1) < 16 := h (1 : Fin 4)
    omega
  · intro h i
    have hi : i = (0 : Fin 4) ∨ i = (1 : Fin 4) ∨ i = (2 : Fin 4) ∨ i = (3 : Fin 4) := by
      revert i; decide
    rcases hi with rfl | rfl | rfl | rfl
    · exact (show 0 ≤ n.val ∧ (n.val - 0) % (0 + 1) = 0 ∧ (n.val - 0) / (0 + 1) < 2 by omega)
    · exact (show 1 ≤ a.val ∧ (a.val - 1) % (0 + 1) = 0 ∧ (a.val - 1) / (0 + 1) < 16 by omega)
    · exact (show 0 ≤ b.val ∧ (b.val - 0) % (0 + 1) = 0 ∧ (b.val - 0) / (0 + 1) < 16 by omega)
    · exact (show 0 ≤ c.val ∧ (c.val - 0) % (0 + 1) = 0 ∧ (c.val - 0) / (0 + 1) < 16 by omega)

theorem v25_face1 (V0 : Valuation τ sig (Elt Ideal)) (n : Fin 2) (a b c : Fin 16) :
    Is ((res_main_v25 (F := Ideal) V0 : S2x6x16x16x16.Idx → EReal) (ix5 n 1 a b c)) (exposed (field V0 n) 1 a b c) := by
  pointwise [res_main_v25, res_main_v1]
  refine is_and_not _ (nbr (field V0 n) 1 a b c) _
    (padded_bit (a := a.val < 15) (by rfl) ?_ (p := fun h => occ (field V0 n) ⟨1 + a.val, by omega⟩ b c) fun _ _ => ofBool_one _)
  constructor
  · intro h
    have h0 : 0 ≤ 1 + a.val ∧ (1 + a.val - 0) % (0 + 1) = 0 ∧ (1 + a.val - 0) / (0 + 1) < 16 := h (1 : Fin 4)
    omega
  · intro h i
    have hi : i = (0 : Fin 4) ∨ i = (1 : Fin 4) ∨ i = (2 : Fin 4) ∨ i = (3 : Fin 4) := by
      revert i; decide
    rcases hi with rfl | rfl | rfl | rfl
    · exact (show 0 ≤ n.val ∧ (n.val - 0) % (0 + 1) = 0 ∧ (n.val - 0) / (0 + 1) < 2 by omega)
    · exact (show 0 ≤ 1 + a.val ∧ (1 + a.val - 0) % (0 + 1) = 0 ∧ (1 + a.val - 0) / (0 + 1) < 16 by omega)
    · exact (show 0 ≤ b.val ∧ (b.val - 0) % (0 + 1) = 0 ∧ (b.val - 0) / (0 + 1) < 16 by omega)
    · exact (show 0 ≤ c.val ∧ (c.val - 0) % (0 + 1) = 0 ∧ (c.val - 0) / (0 + 1) < 16 by omega)

theorem v25_face2 (V0 : Valuation τ sig (Elt Ideal)) (n : Fin 2) (a b c : Fin 16) :
    Is ((res_main_v25 (F := Ideal) V0 : S2x6x16x16x16.Idx → EReal) (ix5 n 2 a b c)) (exposed (field V0 n) 2 a b c) := by
  pointwise [res_main_v25, res_main_v1]
  refine is_and_not _ (nbr (field V0 n) 2 a b c) _
    (padded_bit (a := ¬ b.val < 1) (by rfl) ?_ (p := fun h => occ (field V0 n) a ⟨b.val - 1, by omega⟩ c) fun _ _ => ofBool_one _)
  constructor
  · intro h
    have h0 : 1 ≤ b.val ∧ (b.val - 1) % (0 + 1) = 0 ∧ (b.val - 1) / (0 + 1) < 16 := h (2 : Fin 4)
    omega
  · intro h i
    have hi : i = (0 : Fin 4) ∨ i = (1 : Fin 4) ∨ i = (2 : Fin 4) ∨ i = (3 : Fin 4) := by
      revert i; decide
    rcases hi with rfl | rfl | rfl | rfl
    · exact (show 0 ≤ n.val ∧ (n.val - 0) % (0 + 1) = 0 ∧ (n.val - 0) / (0 + 1) < 2 by omega)
    · exact (show 0 ≤ a.val ∧ (a.val - 0) % (0 + 1) = 0 ∧ (a.val - 0) / (0 + 1) < 16 by omega)
    · exact (show 1 ≤ b.val ∧ (b.val - 1) % (0 + 1) = 0 ∧ (b.val - 1) / (0 + 1) < 16 by omega)
    · exact (show 0 ≤ c.val ∧ (c.val - 0) % (0 + 1) = 0 ∧ (c.val - 0) / (0 + 1) < 16 by omega)

theorem v25_face3 (V0 : Valuation τ sig (Elt Ideal)) (n : Fin 2) (a b c : Fin 16) :
    Is ((res_main_v25 (F := Ideal) V0 : S2x6x16x16x16.Idx → EReal) (ix5 n 3 a b c)) (exposed (field V0 n) 3 a b c) := by
  pointwise [res_main_v25, res_main_v1]
  refine is_and_not _ (nbr (field V0 n) 3 a b c) _
    (padded_bit (a := b.val < 15) (by rfl) ?_ (p := fun h => occ (field V0 n) a ⟨1 + b.val, by omega⟩ c) fun _ _ => ofBool_one _)
  constructor
  · intro h
    have h0 : 0 ≤ 1 + b.val ∧ (1 + b.val - 0) % (0 + 1) = 0 ∧ (1 + b.val - 0) / (0 + 1) < 16 := h (2 : Fin 4)
    omega
  · intro h i
    have hi : i = (0 : Fin 4) ∨ i = (1 : Fin 4) ∨ i = (2 : Fin 4) ∨ i = (3 : Fin 4) := by
      revert i; decide
    rcases hi with rfl | rfl | rfl | rfl
    · exact (show 0 ≤ n.val ∧ (n.val - 0) % (0 + 1) = 0 ∧ (n.val - 0) / (0 + 1) < 2 by omega)
    · exact (show 0 ≤ a.val ∧ (a.val - 0) % (0 + 1) = 0 ∧ (a.val - 0) / (0 + 1) < 16 by omega)
    · exact (show 0 ≤ 1 + b.val ∧ (1 + b.val - 0) % (0 + 1) = 0 ∧ (1 + b.val - 0) / (0 + 1) < 16 by omega)
    · exact (show 0 ≤ c.val ∧ (c.val - 0) % (0 + 1) = 0 ∧ (c.val - 0) / (0 + 1) < 16 by omega)

theorem v25_face4 (V0 : Valuation τ sig (Elt Ideal)) (n : Fin 2) (a b c : Fin 16) :
    Is ((res_main_v25 (F := Ideal) V0 : S2x6x16x16x16.Idx → EReal) (ix5 n 4 a b c)) (exposed (field V0 n) 4 a b c) := by
  pointwise [res_main_v25, res_main_v1]
  refine is_and_not _ (nbr (field V0 n) 4 a b c) _
    (padded_bit (a := ¬ c.val < 1) (by rfl) ?_ (p := fun h => occ (field V0 n) a b ⟨c.val - 1, by omega⟩) fun _ _ => ofBool_one _)
  constructor
  · intro h
    have h0 : 1 ≤ c.val ∧ (c.val - 1) % (0 + 1) = 0 ∧ (c.val - 1) / (0 + 1) < 16 := h (3 : Fin 4)
    omega
  · intro h i
    have hi : i = (0 : Fin 4) ∨ i = (1 : Fin 4) ∨ i = (2 : Fin 4) ∨ i = (3 : Fin 4) := by
      revert i; decide
    rcases hi with rfl | rfl | rfl | rfl
    · exact (show 0 ≤ n.val ∧ (n.val - 0) % (0 + 1) = 0 ∧ (n.val - 0) / (0 + 1) < 2 by omega)
    · exact (show 0 ≤ a.val ∧ (a.val - 0) % (0 + 1) = 0 ∧ (a.val - 0) / (0 + 1) < 16 by omega)
    · exact (show 0 ≤ b.val ∧ (b.val - 0) % (0 + 1) = 0 ∧ (b.val - 0) / (0 + 1) < 16 by omega)
    · exact (show 1 ≤ c.val ∧ (c.val - 1) % (0 + 1) = 0 ∧ (c.val - 1) / (0 + 1) < 16 by omega)

theorem v25_face5 (V0 : Valuation τ sig (Elt Ideal)) (n : Fin 2) (a b c : Fin 16) :
    Is ((res_main_v25 (F := Ideal) V0 : S2x6x16x16x16.Idx → EReal) (ix5 n 5 a b c)) (exposed (field V0 n) 5 a b c) := by
  pointwise [res_main_v25, res_main_v1]
  refine is_and_not _ (nbr (field V0 n) 5 a b c) _
    (padded_bit (a := c.val < 15) (by rfl) ?_ (p := fun h => occ (field V0 n) a b ⟨1 + c.val, by omega⟩) fun _ _ => ofBool_one _)
  constructor
  · intro h
    have h0 : 0 ≤ 1 + c.val ∧ (1 + c.val - 0) % (0 + 1) = 0 ∧ (1 + c.val - 0) / (0 + 1) < 16 := h (3 : Fin 4)
    omega
  · intro h i
    have hi : i = (0 : Fin 4) ∨ i = (1 : Fin 4) ∨ i = (2 : Fin 4) ∨ i = (3 : Fin 4) := by
      revert i; decide
    rcases hi with rfl | rfl | rfl | rfl
    · exact (show 0 ≤ n.val ∧ (n.val - 0) % (0 + 1) = 0 ∧ (n.val - 0) / (0 + 1) < 2 by omega)
    · exact (show 0 ≤ a.val ∧ (a.val - 0) % (0 + 1) = 0 ∧ (a.val - 0) / (0 + 1) < 16 by omega)
    · exact (show 0 ≤ b.val ∧ (b.val - 0) % (0 + 1) = 0 ∧ (b.val - 0) / (0 + 1) < 16 by omega)
    · exact (show 0 ≤ 1 + c.val ∧ (1 + c.val - 0) % (0 + 1) = 0 ∧ (1 + c.val - 0) / (0 + 1) < 16 by omega)

/-- The reference's face masks are the indicators of the exposed faces. -/
theorem v25_is (V0 : Valuation τ sig (Elt Ideal)) (n : Fin 2) (k : Fin 6) (a b c : Fin 16) :
    Is ((res_main_v25 (F := Ideal) V0 : S2x6x16x16x16.Idx → EReal) (ix5 n k a b c)) (exposed (field V0 n) k a b c) := by
  match k with
  | 0 => exact v25_face0 V0 n a b c
  | 1 => exact v25_face1 V0 n a b c
  | 2 => exact v25_face2 V0 n a b c
  | 3 => exact v25_face3 V0 n a b c
  | 4 => exact v25_face4 V0 n a b c
  | 5 => exact v25_face5 V0 n a b c

/-- The reference's table of offsets. -/
theorem lit_off (k : Fin 6) (c : Fin 4) :
    lit0 (S6x4x3.rowMajor (ix3 k c 0)) = BitVec.ofNat 32 (off k c).1 ∧
      lit0 (S6x4x3.rowMajor (ix3 k c 1)) = BitVec.ofNat 32 (off k c).2.1 ∧
      lit0 (S6x4x3.rowMajor (ix3 k c 2)) = BitVec.ofNat 32 (off k c).2.2 := by
  revert k c; decide +kernel

/-- The reference's vertex numbers. -/
theorem v47_eq (V0 : Valuation τ sig (Elt Ideal)) (k : Fin 6) (z y x : Fin 16) (c : Fin 4) :
    (res_main_v47 (F := Ideal) V0 : S6x16x16x16x4.Idx → BitVec 32) (ix5 k z y x c) = BitVec.ofNat 32 (vert k z y x c) := by
  pointwise [res_main_v47, res_main_v26]
  obtain ⟨h0, h1, h2⟩ := lit_off k c
  rw [h0, h1, h2]
  simp only [IntOp.addi, IntOp.muli, vert, BitVec.ofNat_add, BitVec.ofNat_mul]

/-- The reference's triangles. -/
theorem v52_eq (V0 : Valuation τ sig (Elt Ideal)) (k : Fin 6) (z y x : Fin 16) (t : Fin 2) (d : Fin 3) :
    (res_main_v52 (F := Ideal) V0 : S6x16x16x16x2x3.Idx → BitVec 32) (ix6 k z y x t d) =
      BitVec.ofNat 32 (vert k z y x ⟨t.val + d.val, by omega⟩) := by
  pointwise [res_main_v52]
  split
  · rw [v47_eq]; congr 2; exact Fin.ext (by show d.val = t.val + d.val; omega)
  · rw [v47_eq]; congr 2; exact Fin.ext (by show 1 + d.val = t.val + d.val; omega)

/-- The first ends of the reference's directed edges. -/
theorem v113_eq (V0 : Valuation τ sig (Elt Ideal)) (k : Fin 6) (z y x : Fin 16) (t : Fin 2) (e : Fin 6) :
    (res_main_v113 (F := Ideal) V0 : S6x16x16x16x2x6.Idx → BitVec 32) (ix6 k z y x t e) =
      BitVec.ofNat 32 (vert k z y x (ea t e)) := by
  match e with
  | 0 | 1 | 2 | 3 | 4 | 5 =>
    pointwise [res_main_v113]
    rw [v52_eq]
    congr 2
    revert t; decide

/-- The second ends of the reference's directed edges. -/
theorem v132_eq (V0 : Valuation τ sig (Elt Ideal)) (k : Fin 6) (z y x : Fin 16) (t : Fin 2) (e : Fin 6) :
    (res_main_v132 (F := Ideal) V0 : S6x16x16x16x2x6.Idx → BitVec 32) (ix6 k z y x t e) =
      BitVec.ofNat 32 (vert k z y x (eb t e)) := by
  match e with
  | 0 | 1 | 2 | 3 | 4 | 5 =>
    pointwise [res_main_v132]
    rw [v52_eq]
    congr 2
    revert t; decide

end Cert.ReferenceIdeal.Value

end
-- ==== Proof.RefScatter.lean ====
module

public import proofs.«01_k».proof.Proof.RefFaces

@[expose] public section

set_option maxRecDepth 16384

noncomputable section

namespace Cert.ReferenceIdeal.Value

open Cert.ReferenceIdeal Cert.ReferenceIdeal.Gen Idealize.ShloMosaic Idealize.ShloMosaic.TcCoe Idealize.SL.Sem Idealize.ShloMosaic.StableHlo
open Cert.Voxel

/-- Where a count lands. -/
theorem lands_count (idx : IVec S6x16x16x16x4x1 32) (n0 : Fin 2) (k : Fin 6) (z y x : Fin 16) (c : Fin 4) (n : Fin 2) (a : Fin 4913) :
    scatter_S2x4913_S6x16x16x16x4x1_S2x6x16x16x16x4_0_1_1_5.resultIdx? (ix6 n0 k z y x c) idx = some (ix2 n a) ↔
      n0 = n ∧ (idx (ix6 k z y x c 0)).toInt = a.val := by
  rw [Routing.resultIdx?_eq_some]
  have w0 : scatter_S2x4913_S6x16x16x16x4x1_S2x6x16x16x16x4_0_1_1_5.window (ix6 n0 k z y x c) 0 = n0.val := rfl
  have w1 : scatter_S2x4913_S6x16x16x16x4x1_S2x6x16x16x16x4_0_1_1_5.window (ix6 n0 k z y x c) 1 = 0 := rfl
  have s0 : scatter_S2x4913_S6x16x16x16x4x1_S2x6x16x16x16x4_0_1_1_5.start (ix6 n0 k z y x c) idx 0 = 0 := rfl
  have s1 : scatter_S2x4913_S6x16x16x16x4x1_S2x6x16x16x16x4_0_1_1_5.start (ix6 n0 k z y x c) idx 1 = (idx (ix6 k z y x c 0)).toInt := by
    refine congrArg (fun i => (idx i).toInt) (funext fun b => ?_)
    match b with
    | 0 | 1 | 2 | 3 | 4 | 5 => rfl
  constructor
  · intro h
    have h0 := h 0
    have h1 := h 1
    rw [w0, s0] at h0
    rw [w1, s1] at h1
    have e0 : ((ix2 n a : S2x4913.Idx) 0).val = n.val := rfl
    have e1 : ((ix2 n a : S2x4913.Idx) 1).val = a.val := rfl
    rw [e0] at h0
    rw [e1] at h1
    exact ⟨Fin.ext (by omega), by omega⟩
  · rintro ⟨rfl, h1⟩ b
    match b with
    | 0 => rw [w0, s0]; exact Int.zero_add _
    | 1 => rw [w1, s1, h1]; exact Int.add_zero _

/-- Where an edge's mark lands. -/
theorem lands_edge (idx : IVec S6x16x16x16x2x6x2 32) (n0 : Fin 2) (k : Fin 6) (z y x : Fin 16) (t : Fin 2) (e : Fin 6) (n : Fin 2) (r s : Fin 4913) :
    scatter_S2x4913x4913_S6x16x16x16x2x6x2_S2x6x16x16x16x2x6_0_12_12_6.resultIdx? (ix7 n0 k z y x t e) idx = some (ix3 n r s) ↔
      n0 = n ∧ (idx (ix7 k z y x t e 0)).toInt = r.val ∧ (idx (ix7 k z y x t e 1)).toInt = s.val := by
  rw [Routing.resultIdx?_eq_some]
  have w0 : scatter_S2x4913x4913_S6x16x16x16x2x6x2_S2x6x16x16x16x2x6_0_12_12_6.window (ix7 n0 k z y x t e) 0 = n0.val := rfl
  have w1 : scatter_S2x4913x4913_S6x16x16x16x2x6x2_S2x6x16x16x16x2x6_0_12_12_6.window (ix7 n0 k z y x t e) 1 = 0 := rfl
  have w2 : scatter_S2x4913x4913_S6x16x16x16x2x6x2_S2x6x16x16x16x2x6_0_12_12_6.window (ix7 n0 k z y x t e) 2 = 0 := rfl
  have s0 : scatter_S2x4913x4913_S6x16x16x16x2x6x2_S2x6x16x16x16x2x6_0_12_12_6.start (ix7 n0 k z y x t e) idx 0 = 0 := rfl
  have s1 : scatter_S2x4913x4913_S6x16x16x16x2x6x2_S2x6x16x16x16x2x6_0_12_12_6.start (ix7 n0 k z y x t e) idx 1 = (idx (ix7 k z y x t e 0)).toInt := by
    refine congrArg (fun i => (idx i).toInt) (funext fun b => ?_)
    match b with
    | 0 | 1 | 2 | 3 | 4 | 5 | 6 => rfl
  have s2 : scatter_S2x4913x4913_S6x16x16x16x2x6x2_S2x6x16x16x16x2x6_0_12_12_6.start (ix7 n0 k z y x t e) idx 2 = (idx (ix7 k z y x t e 1)).toInt := by
    refine congrArg (fun i => (idx i).toInt) (funext fun b => ?_)
    match b with
    | 0 | 1 | 2 | 3 | 4 | 5 | 6 => rfl
  constructor
  · intro h
    have h0 := h 0
    have h1 := h 1
    have h2 := h 2
    rw [w0, s0] at h0
    rw [w1, s1] at h1
    rw [w2, s2] at h2
    have e0 : ((ix3 n r s : S2x4913x4913.Idx) 0).val = n.val := rfl
    have e1 : ((ix3 n r s : S2x4913x4913.Idx) 1).val = r.val := rfl
    have e2 : ((ix3 n r s : S2x4913x4913.Idx) 2).val = s.val := rfl
    rw [e0] at h0
    rw [e1] at h1
    rw [e2] at h2
    exact ⟨Fin.ext (by omega), by omega, by omega⟩
  · rintro ⟨rfl, h1, h2⟩ b
    match b with
    | 0 => rw [w0, s0]; exact Int.zero_add _
    | 1 => rw [w1, s1, h1]; exact Int.add_zero _
    | 2 => rw [w2, s2, h2]; exact Int.add_zero _

/-- A vertex number is not negative, so the reference's wrapping leaves it. -/
theorem wrap_toInt (v : ℕ) (hv : v < 4913) :
    (if (BitVec.ofBool ((BitVec.ofNat 32 v).slt 0#32)) = 1#1 then BitVec.ofNat 32 v + 4913#32 else BitVec.ofNat 32 v).toInt = (v : ℤ) := by
  have hn : (BitVec.ofNat 32 v).toNat = v := by rw [BitVec.toNat_ofNat]; omega
  have ht : (BitVec.ofNat 32 v).toInt = (v : ℤ) := by
    rw [BitVec.toInt_eq_toNat_of_lt (by omega), hn]
  have hs : (BitVec.ofNat 32 v).slt 0#32 = false := by
    rw [BitVec.slt, ht]; simp
  rw [hs, if_neg (by decide), ht]

/-- The largest of some marks is one where one of those that land is one. -/
theorem foldl_max {α : Type} (P : α → Prop) [DecidablePred P] (Q : α → Prop) (u : α → BitVec 32)
    (hu : ∀ n, (Q n → u n = 1#32) ∧ (¬ Q n → u n = 0#32)) (l : List α) (a0 : BitVec 32) (q : Prop)
    (h0 : (q → a0 = 1#32) ∧ (¬ q → a0 = 0#32)) :
    ((q ∨ ∃ n ∈ l, P n ∧ Q n) → l.foldl (fun a n => if P n then IntOp.maxsi a (u n) else a) a0 = 1#32) ∧
      (¬ (q ∨ ∃ n ∈ l, P n ∧ Q n) → l.foldl (fun a n => if P n then IntOp.maxsi a (u n) else a) a0 = 0#32) := by
  induction l generalizing a0 q with
  | nil => simpa using h0
  | cons b l ih =>
    have hstep : ((q ∨ (P b ∧ Q b)) → (if P b then IntOp.maxsi a0 (u b) else a0) = 1#32) ∧
        (¬ (q ∨ (P b ∧ Q b)) → (if P b then IntOp.maxsi a0 (u b) else a0) = 0#32) := by
      by_cases hp : P b
      · rw [if_pos hp]
        by_cases hq : q <;> by_cases hb : Q b
        · rw [h0.1 hq, (hu b).1 hb]; exact ⟨fun _ => by decide, fun h => absurd (Or.inl hq) h⟩
        · rw [h0.1 hq, (hu b).2 hb]; exact ⟨fun _ => by decide, fun h => absurd (Or.inl hq) h⟩
        · rw [h0.2 hq, (hu b).1 hb]; exact ⟨fun _ => by decide, fun h => absurd (Or.inr ⟨hp, hb⟩) h⟩
        · rw [h0.2 hq, (hu b).2 hb]; exact ⟨fun h => by rcases h with h | h; exacts [absurd h hq, absurd h.2 hb], fun _ => by decide⟩
      · rw [if_neg hp]
        exact ⟨fun h => h0.1 (by rcases h with h | h; exacts [h, absurd h.1 hp]), fun h => h0.2 fun hq => h (.inl hq)⟩
    have := ih _ _ hstep
    rw [List.foldl_cons]
    refine ⟨fun h => this.1 ?_, fun h => this.2 fun h' => h ?_⟩
    · rcases h with h | ⟨n, hn, hpq⟩
      · exact .inl (.inl h)
      · rcases List.mem_cons.1 hn with rfl | hn
        · exact .inl (.inr hpq)
        · exact .inr ⟨n, hn, hpq⟩
    · rcases h' with (h' | h') | ⟨n, hn, hpq⟩
      · exact .inl h'
      · exact .inr ⟨b, List.mem_cons_self, h'⟩
      · exact .inr ⟨n, List.mem_cons_of_mem _ hn, hpq⟩

/-- A sum of marks is positive where one of them is one. -/
theorem sum_is {α : Type} (s : Finset α) (f : α → EReal) (Q : α → Prop) (h : ∀ i, Is (f i) (Q i)) :
    0 < ∑ i ∈ s, f i ↔ ∃ i ∈ s, Q i := by
  have hn : ∀ i, 0 ≤ f i := fun i => by
    by_cases hq : Q i
    · rw [(h i).1 hq]; exact zero_le_one
    · rw [(h i).2 hq]
  constructor
  · intro hs
    by_contra hne
    have : ∑ i ∈ s, f i = 0 := Finset.sum_eq_zero fun i hi => (h i).2 fun hq => hne ⟨i, hi, hq⟩
    rw [this] at hs
    exact lt_irrefl _ hs
  · rintro ⟨i, hi, hq⟩
    have h1 : f i ≤ ∑ i ∈ s, f i := Finset.single_le_sum (fun j _ => hn j) hi
    rw [(h i).1 hq] at h1
    exact lt_of_lt_of_le zero_lt_one h1

/-- The comparison with nought, read as a number. -/
theorem is_pos (e : EReal) (p : Prop) (h : 0 < e ↔ p) :
    Is (FloatOps.uitofp (F := Ideal) FTy.f32 (BitVec.ofBool (decide (0 < e)))) p := by
  by_cases hp : 0 < e
  · rw [decide_eq_true hp]
    exact ⟨fun _ => by show (((1 : ℕ) : ℝ) : EReal) = 1; simp, fun hn => absurd (h.1 hp) hn⟩
  · rw [decide_eq_false hp]
    exact ⟨fun h' => absurd (h.2 h') hp, fun _ => by show (((0 : ℕ) : ℝ) : EReal) = 0; simp⟩

theorem count_pos (q : Fin 2 → Field) (x0 : S2x4913.Idx → EReal) (idx : IVec S6x16x16x16x4x1 32) (upd : S2x6x16x16x16x4.Idx → EReal)
    (n : Fin 2) (a : Fin 4913) (hx : x0 (ix2 n a) = 0)
    (hidx : ∀ k z y x c, (idx (ix6 k z y x c 0)).toInt = (vert k z y x c : ℤ))
    (hupd : ∀ n k z y x c, Is (upd (ix6 n k z y x c)) (exposed (q n) k z y x)) :
    (0 : EReal) < Host.scatterAdd (F := Ideal) (φ := .f32) scatter_S2x4913_S6x16x16x16x4x1_S2x6x16x16x16x4_0_1_1_5 x0 idx upd (ix2 n a) ↔
      ∃ k z y x c, exposed (q n) k z y x ∧ a.val = vert k z y x c := by
  show (0 : EReal) < x0 (ix2 n a) + ∑ j ∈ Finset.univ.filter (fun j =>
    scatter_S2x4913_S6x16x16x16x4x1_S2x6x16x16x16x4_0_1_1_5.resultIdx? j idx = some (ix2 n a)), upd j ↔ _
  rw [hx, zero_add, sum_is _ upd (fun i => exposed (q (i 0)) (i 1) (i 2) (i 3) (i 4)) fun i => by
    have := hupd (i 0) (i 1) (i 2) (i 3) (i 4) (i 5)
    rwa [← eq_ix6 i] at this]
  constructor
  · rintro ⟨i, hi, he⟩
    have hl := (Finset.mem_filter.1 hi).2
    obtain ⟨n0, k, z, y, x, c, rfl⟩ : ∃ (n0 : Fin 2) (k : Fin 6) (z y x : Fin 16) (c : Fin 4), i = ix6 n0 k z y x c :=
      ⟨i 0, i 1, i 2, i 3, i 4, i 5, eq_ix6 i⟩
    obtain ⟨h0, h1⟩ := (lands_count idx _ _ _ _ _ _ _ _).1 hl
    rw [hidx] at h1
    refine ⟨k, z, y, x, c, ?_, by exact_mod_cast h1.symm⟩
    rw [← h0]; exact he
  · rintro ⟨k, z, y, x, c, he, ha⟩
    refine ⟨ix6 n k z y x c, Finset.mem_filter.2 ⟨Finset.mem_univ _, ?_⟩, he⟩
    rw [lands_count, hidx, ha]
    exact ⟨rfl, rfl⟩

/-- The vertices the reference marks as used. -/
theorem v65_is (V0 : Valuation τ sig (Elt Ideal)) (n : Fin 2) (a : Fin 4913) :
    Is ((res_main_v65 (F := Ideal) V0 : S2x4913.Idx → EReal) (ix2 n a))
      (∃ k z y x c, exposed (field V0 n) k z y x ∧ a.val = vert k z y x c) := by
  pointwise [res_main_v65]
  refine is_pos _ _ (count_pos (field V0) _ _ _ n a ?_ (fun k z y x c => ?_) fun n k z y x c => ?_)
  · pointwise []
  · pointwise []
    rw [v47_eq]
    exact wrap_toInt _ (vert_lt k z y x c)
  · pointwise []
    exact v25_is V0 n k z y x

theorem marks_is (q : Fin 2 → Field) (x0 : IVec S2x4913x4913 32) (idx : IVec S6x16x16x16x2x6x2 32) (upd : IVec S2x6x16x16x16x2x6 32)
    (n : Fin 2) (r s : Fin 4913) (hx : x0 (ix3 n r s) = 0#32)
    (hr : ∀ k z y x t e, (idx (ix7 k z y x t e 0)).toInt = (vert k z y x (ea t e) : ℤ))
    (hs : ∀ k z y x t e, (idx (ix7 k z y x t e 1)).toInt = (vert k z y x (eb t e) : ℤ))
    (hupd : ∀ n k z y x t e, (exposed (q n) k z y x → upd (ix7 n k z y x t e) = 1#32) ∧ (¬ exposed (q n) k z y x → upd (ix7 n k z y x t e) = 0#32)) :
    Is (FloatOps.sitofp (F := Ideal) FTy.f32 (Host.scatter scatter_S2x4913x4913_S6x16x16x16x2x6x2_S2x6x16x16x16x2x6_0_12_12_6 IntOp.maxsi x0 idx upd (ix3 n r s)))
      (∃ k z y x t e, exposed (q n) k z y x ∧ r.val = vert k z y x (ea t e) ∧ s.val = vert k z y x (eb t e)) := by
  rw [Routing.scatter_at, hx]
  have key := foldl_max (fun m => scatter_S2x4913x4913_S6x16x16x16x2x6x2_S2x6x16x16x16x2x6_0_12_12_6.resultIdx? (S2x6x16x16x16x2x6.rowMajor.symm m) idx = some (ix3 n r s))
    (fun m => exposed (q ((S2x6x16x16x16x2x6.rowMajor.symm m) 0)) ((S2x6x16x16x16x2x6.rowMajor.symm m) 1) ((S2x6x16x16x16x2x6.rowMajor.symm m) 2)
      ((S2x6x16x16x16x2x6.rowMajor.symm m) 3) ((S2x6x16x16x16x2x6.rowMajor.symm m) 4))
    (fun m => upd (S2x6x16x16x16x2x6.rowMajor.symm m)) (fun m => by
      generalize S2x6x16x16x16x2x6.rowMajor.symm m = i
      have := hupd (i 0) (i 1) (i 2) (i 3) (i 4) (i 5) (i 6)
      rwa [← eq_ix7 i] at this)
    (List.finRange S2x6x16x16x16x2x6.numel) 0#32 False ⟨fun h => h.elim, fun _ => rfl⟩
  generalize hv : (List.finRange S2x6x16x16x16x2x6.numel).foldl _ 0#32 = v
  rw [hv] at key
  have hiff : (False ∨ ∃ m ∈ List.finRange S2x6x16x16x16x2x6.numel,
      scatter_S2x4913x4913_S6x16x16x16x2x6x2_S2x6x16x16x16x2x6_0_12_12_6.resultIdx? (S2x6x16x16x16x2x6.rowMajor.symm m) idx = some (ix3 n r s) ∧
      exposed (q ((S2x6x16x16x16x2x6.rowMajor.symm m) 0)) ((S2x6x16x16x16x2x6.rowMajor.symm m) 1) ((S2x6x16x16x16x2x6.rowMajor.symm m) 2)
      ((S2x6x16x16x16x2x6.rowMajor.symm m) 3) ((S2x6x16x16x16x2x6.rowMajor.symm m) 4)) ↔
      ∃ k z y x t e, exposed (q n) k z y x ∧ r.val = vert k z y x (ea t e) ∧ s.val = vert k z y x (eb t e) := by
    constructor
    · rintro (h | ⟨m, -, hl, he⟩)
      · exact h.elim
      · revert hl he
        generalize S2x6x16x16x16x2x6.rowMajor.symm m = i
        intro hl he
        obtain ⟨n0, k, z, y, x, t, e, rfl⟩ : ∃ (n0 : Fin 2) (k : Fin 6) (z y x : Fin 16) (t : Fin 2) (e : Fin 6), i = ix7 n0 k z y x t e :=
          ⟨i 0, i 1, i 2, i 3, i 4, i 5, i 6, eq_ix7 i⟩
        obtain ⟨h0, h1, h2⟩ := (lands_edge idx _ _ _ _ _ _ _ _ _ _).1 hl
        rw [hr] at h1
        rw [hs] at h2
        refine ⟨k, z, y, x, t, e, ?_, by exact_mod_cast h1.symm, by exact_mod_cast h2.symm⟩
        rw [← h0]; exact he
    · rintro ⟨k, z, y, x, t, e, he, h1, h2⟩
      refine .inr ⟨S2x6x16x16x16x2x6.rowMajor (ix7 n k z y x t e), List.mem_finRange _, ?_⟩
      rw [Equiv.symm_apply_apply, lands_edge, hr, hs, h1, h2]
      exact ⟨⟨rfl, rfl, rfl⟩, he⟩
  constructor
  · intro h
    rw [key.1 (hiff.2 h)]
    show (((1#32 : BitVec 32).toInt : ℝ) : EReal) = 1
    simp
  · intro h
    rw [key.2 fun h' => h (hiff.1 h')]
    show (((0#32 : BitVec 32).toInt : ℝ) : EReal) = 0
    simp

theorem fptosi_is (e : EReal) (p : Prop) (h : Is e p) :
    (p → FloatOps.fptosi (F := Ideal) (φ := FTy.f32) 32 e = 1#32) ∧ (¬ p → FloatOps.fptosi (F := Ideal) (φ := FTy.f32) 32 e = 0#32) := by
  constructor
  · intro hp
    rw [h.1 hp]
    show BitVec.ofInt 32 (max (-(2 ^ (32 - 1) : ℕ) : ℤ) (min ((2 ^ (32 - 1) : ℕ) - 1 : ℤ) (if (0 : ℝ) ≤ 1 then ⌊(1 : ℝ)⌋ else ⌈(1 : ℝ)⌉))) = 1#32
    simp
  · intro hp
    rw [h.2 hp]
    show BitVec.ofInt 32 (max (-(2 ^ (32 - 1) : ℕ) : ℤ) (min ((2 ^ (32 - 1) : ℕ) - 1 : ℤ) (if (0 : ℝ) ≤ 0 then ⌊(0 : ℝ)⌋ else ⌈(0 : ℝ)⌉))) = 0#32
    simp

/-- The reference's adjacency marks. -/
def adjRef (V0 : Valuation τ sig (Elt Ideal)) : (Proc.devRef .tc main_v151 : DevRef τ sig).ty.Contents (Elt Ideal) :=
  sitofp (F := Ideal) .f32 (Host.scatter scatter_S2x4913x4913_S6x16x16x16x2x6x2_S2x6x16x16x16x2x6_0_12_12_6 IntOp.maxsi (broadcastInDim S2x4913x4913 ![] bcast_S_S2x4913x4913 (constantI S_ 32 0#32)) (concatenate S6x16x16x16x2x6x2 6 [⟨S6x16x16x16x2x6x1, (broadcastInDim S6x16x16x16x2x6x1 ![0, 1, 2, 3, 4, 5] bcast_S6x16x16x16x2x6_S6x16x16x16x2x6x1_0_1_2_3_4_5 (select (cmpi .slt (res_main_v113 V0) (broadcastInDim S6x16x16x16x2x6 ![] bcast_S_S6x16x16x16x2x6 (constantI S_ 32 0#32))) (addi (res_main_v113 V0) (broadcastInDim S6x16x16x16x2x6 ![] bcast_S_S6x16x16x16x2x6 (constantI S_ 32 4913#32))) (res_main_v113 V0)))⟩, ⟨S6x16x16x16x2x6x1, (broadcastInDim S6x16x16x16x2x6x1 ![0, 1, 2, 3, 4, 5] bcast_S6x16x16x16x2x6_S6x16x16x16x2x6x1_0_1_2_3_4_5 (select (cmpi .slt (res_main_v132 V0) (broadcastInDim S6x16x16x16x2x6 ![] bcast_S_S6x16x16x16x2x6 (constantI S_ 32 0#32))) (addi (res_main_v132 V0) (broadcastInDim S6x16x16x16x2x6 ![] bcast_S_S6x16x16x16x2x6 (constantI S_ 32 4913#32))) (res_main_v132 V0)))⟩] concatenates_S6x16x16x16x2x6x1_S6x16x16x16x2x6x1_S6x16x16x16x2x6x2_d6) (broadcastInDim S2x6x16x16x16x2x6 ![0, 1, 2, 3, 4, 5, 6] bcast_S2x6x16x16x16x1x1_S2x6x16x16x16x2x6_0_1_2_3_4_5_6 (fptosi 32 (broadcastInDim S2x6x16x16x16x1x1 ![0, 1, 2, 3, 4] bcast_S2x6x16x16x16_S2x6x16x16x16x1x1_0_1_2_3_4 (res_main_v25 V0)))))

theorem adjRef_is (V0 : Valuation τ sig (Elt Ideal)) (n : Fin 2) (r s : Fin 4913) :
    Is ((adjRef V0 : S2x4913x4913.Idx → EReal) (ix3 n r s))
      (∃ k z y x t e, exposed (field V0 n) k z y x ∧ r.val = vert k z y x (ea t e) ∧ s.val = vert k z y x (eb t e)) := by
  pointwise [adjRef]
  refine marks_is (field V0) _ _ _ n r s ?_ (fun k z y x t e => ?_) (fun k z y x t e => ?_) fun n k z y x t e => ?_
  · pointwise []
  · pointwise []
    rw [v113_eq]
    exact wrap_toInt _ (vert_lt k z y x _)
  · pointwise []
    rw [v132_eq]
    exact wrap_toInt _ (vert_lt k z y x _)
  · pointwise []
    exact fptosi_is _ _ (v25_is V0 n k z y x)

end Cert.ReferenceIdeal.Value

end
-- ==== Proof.Geometry.lean ====
module

public import proofs.«01_k».proof.Proof.Model

@[expose] public section

noncomputable section

namespace Cert.Voxel

open Idealize.ShloMosaic
open scoped BigOperators

/-! The two ways of saying which vertices are used and which edges there are: by the corners of the exposed faces, and by the plan read
    at a vertex. -/

theorem vert_eq (k : Fin 6) (z y x : Fin 16) (c : Fin 4) : vert k z y x c = z.val * 289 + y.val * 17 + x.val + lin (off k c) := by
  unfold vert lin; omega

/-- A vertex number determines its coordinates. -/
theorem placed_of_vert (m : Fin 6 → Fin 16 → Fin 16 → Fin 16 → Prop) (k : Fin 6) (z y x : Fin 16) (c : Fin 4) (h : m k z y x) (a b d : ℕ)
    (hb : b < 17) (hd : d < 17) (e : a * 289 + b * 17 + d = vert k z y x c) : Placed m (off k c, k) a b d := by
  obtain ⟨h1, h2, h3⟩ := off_le k c
  unfold vert at e
  have hz := z.isLt
  have hy := y.isLt
  have hx := x.isLt
  refine ⟨x, ⟨y, ⟨z, h, ?_⟩, ?_⟩, ?_⟩ <;> dsimp only <;> omega

theorem used_iff (m : Fin 6 → Fin 16 → Fin 16 → Fin 16 → Prop) (a b d : ℕ) (hb : b < 17) (hd : d < 17) :
    (∃ k z y x c, m k z y x ∧ a * 289 + b * 17 + d = vert k z y x c) ↔ ∃ ok ∈ usedPlan, Placed m ok a b d := by
  constructor
  · rintro ⟨k, z, y, x, c, h, e⟩
    exact ⟨_, usedPlan_of k c, placed_of_vert m k z y x c h a b d hb hd e⟩
  · rintro ⟨ok, hok, x, ⟨y, ⟨z, h, ha⟩, hb'⟩, hd'⟩
    obtain ⟨c, hc⟩ := of_usedPlan ok hok
    refine ⟨ok.2, z, y, x, c, h, ?_⟩
    unfold vert
    rw [hc]
    omega

theorem edge_iff (m : Fin 6 → Fin 16 → Fin 16 → Fin 16 → Prop) (a b d s : ℕ) (hb : b < 17) (hd : d < 17) :
    (∃ k z y x t e, m k z y x ∧ a * 289 + b * 17 + d = vert k z y x (ea t e) ∧ s = vert k z y x (eb t e)) ↔
      ∃ t, (s : ℤ) - ((a * 289 + b * 17 + d : ℕ) : ℤ) = diag t ∧ ∃ ok ∈ plan t, Placed m ok a b d := by
  constructor
  · rintro ⟨k, z, y, x, t, e, h, hr, hs⟩
    obtain ⟨g, hg, hp⟩ := plan_of_edge k t e
    refine ⟨g, ?_, _, hp, placed_of_vert m k z y x _ h a b d hb hd hr⟩
    rw [hr, hs, vert_eq, vert_eq, ← hg]
    push_cast
    ring
  · rintro ⟨g, hg, ok, hok, x, ⟨y, ⟨z, h, ha⟩, hb'⟩, hd'⟩
    obtain ⟨t, e, ho, hl⟩ := edge_of_plan g ok hok
    have hr : a * 289 + b * 17 + d = vert ok.2 z y x (ea t e) := by
      unfold vert
      rw [ho]
      omega
    refine ⟨ok.2, z, y, x, t, e, h, hr, ?_⟩
    rw [hr, ← hl, vert_eq] at hg
    rw [vert_eq]
    push_cast at hg
    omega

/-- A sum over the vertices is a sum over their coordinates. -/
theorem sum_vertices (g : Fin 4913 → EReal) :
    ∑ R, g R = ∑ a : Fin 17, ∑ b : Fin 17, ∑ d : Fin 17, g ⟨a.val * 289 + b.val * 17 + d.val, by omega⟩ := by
  have h1 : ∑ R, g R = ∑ p : Fin 17 × Fin 289, g (finProdFinEquiv p) := (Equiv.sum_comp (finProdFinEquiv (m := 17) (n := 289)) g).symm
  rw [h1, Fintype.sum_prod_type]
  refine Finset.sum_congr rfl fun a _ => ?_
  have h2 : ∑ q : Fin 289, g (finProdFinEquiv (a, q)) = ∑ p : Fin 17 × Fin 17, g (finProdFinEquiv (a, finProdFinEquiv p)) :=
    (Equiv.sum_comp (finProdFinEquiv (m := 17) (n := 17)) fun q : Fin 289 => g (finProdFinEquiv (a, q))).symm
  rw [h2, Fintype.sum_prod_type]
  refine Finset.sum_congr rfl fun b _ => Finset.sum_congr rfl fun d _ => ?_
  refine congrArg g (Fin.ext ?_)
  simp only [finProdFinEquiv_apply_val]
  omega

end Cert.Voxel

end
-- ==== Proof.RefValue.lean ====
module

public import proofs.«01_k».proof.Proof.RefScatter
public import proofs.«01_k».proof.Proof.Geometry
public import Idealize.ShloMosaic.Lib.Pipeline.Value
public import Idealize.ShloMosaic.Lib.IdealHost

@[expose] public section

set_option maxRecDepth 16384

noncomputable section

namespace Cert.ReferenceIdeal.Value

open Cert.ReferenceIdeal Cert.ReferenceIdeal.Gen Idealize.ShloMosaic Idealize.ShloMosaic.TcCoe Idealize.SL.Sem Idealize.ShloMosaic.StableHlo
open Cert.Voxel

/-! The reference's other results, read: the two counts as sums, a vertex's position, a face's vertex number. -/

variable (V0 : Valuation τ sig (Elt Ideal))

theorem v84_eq : (fptosi 32 (Host.reduceAdd (res_main_v65 V0) (constant S_ .f32 0x00000000#32) reducesTo_S2x4913_S2_d1 h_S_) : S2.Idx → BitVec 32) =
    fptosi (F := Ideal) (φ := .f32) 32 (fun i : S2.Idx => ∑ R : Fin 4913, (res_main_v65 (F := Ideal) V0 : S2x4913.Idx → EReal) (ix2 (i 0) R) : S2.Idx → EReal) := by
  refine congrArg (fptosi (F := Ideal) (φ := .f32) 32) (funext fun i => ?_)
  obtain ⟨n, rfl⟩ : ∃ n : Fin 2, i = (ix1 n : S2.Idx) := ⟨i 0, eq_ix1 i⟩
  pointwise []
  first | done | rw [zero_add]

theorem total5 (w : S2x6x16x16x16.Idx → EReal) (n : Fin 2) :
    Ideal.hostReduceAdd reducesTo_S2x6x16x16x16_S2_d1_2_3_4 w 0 (ix1 n) = ∑ k : Fin 6, ∑ z : Fin 16, ∑ y : Fin 16, ∑ x : Fin 16, w (ix5 n k z y x) := by
  show 0 + ∑ i ∈ Finset.univ.filter (fun i => reducesTo_S2x6x16x16x16_S2_d1_2_3_4.drop i = ix1 n), w i = _
  have hd : ∀ (n' : Fin 2) (k : Fin 6) (z y x : Fin 16), (reducesTo_S2x6x16x16x16_S2_d1_2_3_4.drop (ix5 n' k z y x : S2x6x16x16x16.Idx) = (ix1 n : S2.Idx)) ↔ n' = n := by
    intro n' k z y x
    have e : reducesTo_S2x6x16x16x16_S2_d1_2_3_4.drop (ix5 n' k z y x : S2x6x16x16x16.Idx) = (ix1 n' : S2.Idx) := by
      rw [eq_ix1 (reducesTo_S2x6x16x16x16_S2_d1_2_3_4.drop (ix5 n' k z y x : S2x6x16x16x16.Idx))]
      rfl
    rw [e]
    exact ⟨fun h => congrFun h 0, fun h => h ▸ rfl⟩
  rw [zero_add, Finset.sum_filter, sum_idx5]
  simp only [hd]
  rw [Finset.sum_eq_single n (fun n' _ h => by simp [h]) (fun h => absurd (Finset.mem_univ n) h)]
  simp

theorem v88_eq : (fptosi 32 (mulf (broadcastInDim S2 ![] bcast_S_S2 (constant S_ .f32 0x40000000#32)) (Host.reduceAdd (res_main_v25 V0) (constant S_ .f32 0x00000000#32) reducesTo_S2x6x16x16x16_S2_d1_2_3_4 h_S_)) : S2.Idx → BitVec 32) =
    fptosi (F := Ideal) (φ := .f32) 32 (fun i : S2.Idx => FloatOps.mulf (F := Ideal) (φ := .f32) (Ideal.ofBits .f32 0x40000000#32)
      (∑ k : Fin 6, ∑ z : Fin 16, ∑ y : Fin 16, ∑ x : Fin 16, (res_main_v25 (F := Ideal) V0 : S2x6x16x16x16.Idx → EReal) (ix5 (i 0) k z y x)) : S2.Idx → EReal) := by
  refine congrArg (fptosi (F := Ideal) (φ := .f32) 32) (funext fun i => ?_)
  obtain ⟨n, rfl⟩ : ∃ n : Fin 2, i = (ix1 n : S2.Idx) := ⟨i 0, eq_ix1 i⟩
  pointwise []
  rw [total5]

/-- The vertex positions, as the reference computes them. -/
def posRef : S9826x3.Idx → EReal :=
  shapeCast _ (mulf (broadcastInDim S2x4913x3 ![0, 1, 2] bcast_S1x4913x3_S2x4913x3_0_1_2 (broadcastInDim S1x4913x3 ![1, 2] bcast_S4913x3_S1x4913x3_1_2 (subf (sitofp (F := Ideal) .f32 (shapeCast _ ((concatenate S17x17x17x3 3 [⟨S17x17x17x1, ((broadcastInDim S17x17x17x1 ![0, 1, 2] bcast_S17x17x17_S17x17x17x1_0_1_2 (iotaInDim S17x17x17 32 0)) : (⟨S17x17x17x1, .i32⟩ : BufTy).Contents (Elt Ideal))⟩, ⟨S17x17x17x1, ((broadcastInDim S17x17x17x1 ![0, 1, 2] bcast_S17x17x17_S17x17x17x1_0_1_2 (iotaInDim S17x17x17 32 1)) : (⟨S17x17x17x1, .i32⟩ : BufTy).Contents (Elt Ideal))⟩, ⟨S17x17x17x1, ((broadcastInDim S17x17x17x1 ![0, 1, 2] bcast_S17x17x17_S17x17x17x1_0_1_2 (iotaInDim S17x17x17 32 2)) : (⟨S17x17x17x1, .i32⟩ : BufTy).Contents (Elt Ideal))⟩] concatenates_S17x17x17x1_S17x17x17x1_S17x17x17x1_S17x17x17x3_d3 : (⟨S17x17x17x3, .i32⟩ : BufTy).Contents (Elt Ideal))) shapeCasts_S17x17x17x3_S4913x3)) (broadcastInDim S4913x3 ![] bcast_S_S4913x3 (constant S_ .f32 0x3F000000#32))))) (broadcastInDim S2x4913x3 ![0, 1, 2] bcast_S2x4913x1_S2x4913x3_0_1_2 (broadcastInDim S2x4913x1 ![0, 1] bcast_S2x4913_S2x4913x1_0_1 (res_main_v65 (F := Ideal) V0)))) shapeCasts_S2x4913x3_S9826x3

/-- The reference's vertex coordinates. -/
theorem coord_at (a b c : Fin 17) (p : Fin 3) (R : Fin 4913) (h : R.val = a.val * 289 + b.val * 17 + c.val) :
    (shapeCast S4913x3 ((concatenate S17x17x17x3 3 [⟨S17x17x17x1, ((broadcastInDim S17x17x17x1 ![0, 1, 2] bcast_S17x17x17_S17x17x17x1_0_1_2 (iotaInDim S17x17x17 32 0)) : (⟨S17x17x17x1, .i32⟩ : BufTy).Contents (Elt Ideal))⟩, ⟨S17x17x17x1, ((broadcastInDim S17x17x17x1 ![0, 1, 2] bcast_S17x17x17_S17x17x17x1_0_1_2 (iotaInDim S17x17x17 32 1)) : (⟨S17x17x17x1, .i32⟩ : BufTy).Contents (Elt Ideal))⟩, ⟨S17x17x17x1, ((broadcastInDim S17x17x17x1 ![0, 1, 2] bcast_S17x17x17_S17x17x17x1_0_1_2 (iotaInDim S17x17x17 32 2)) : (⟨S17x17x17x1, .i32⟩ : BufTy).Contents (Elt Ideal))⟩] concatenates_S17x17x17x1_S17x17x17x1_S17x17x17x1_S17x17x17x3_d3 : (⟨S17x17x17x3, .i32⟩ : BufTy).Contents (Elt Ideal))) shapeCasts_S17x17x17x3_S4913x3 : S4913x3.Idx → BitVec 32) (ix2 R p) = BitVec.ofNat 32 ((![a, b, c] p : Fin 17)).val := by
  rw [shapeCast_apply _ _ (ix2 R p : S4913x3.Idx) (ix4 a b c p : S17x17x17x3.Idx)
    (by rw [Shape.rowMajor_val_four, Shape.rowMajor_val_two]
        show ((a.val * 17 + b.val) * 17 + c.val) * 3 + p.val = R.val * 3 + p.val
        omega)]
  match p with
  | 0 => pointwise []
  | 1 => pointwise []
  | 2 => pointwise []

theorem posRef_at (n : Fin 2) (a b c : Fin 17) (p : Fin 3) (R' : Fin 9826) (h : R'.val = n.val * 4913 + a.val * 289 + b.val * 17 + c.val) :
    posRef V0 (ix2 R' p) = FloatOps.mulf (F := Ideal) (φ := .f32)
      (FloatOps.subf (F := Ideal) (φ := .f32) (FloatOps.sitofp (F := Ideal) FTy.f32 (BitVec.ofNat 32 ((![a, b, c] p : Fin 17)).val)) half)
      ((res_main_v65 (F := Ideal) V0 : S2x4913.Idx → EReal) (ix2 n ⟨a.val * 289 + b.val * 17 + c.val, by omega⟩)) := by
  unfold posRef
  rw [shapeCast_apply _ _ (ix2 R' p : S9826x3.Idx) (ix3 n ⟨a.val * 289 + b.val * 17 + c.val, by omega⟩ p : S2x4913x3.Idx)
    (by rw [Shape.rowMajor_val_three, Shape.rowMajor_val_two]
        show (n.val * 4913 + (a.val * 289 + b.val * 17 + c.val)) * 3 + p.val = R'.val * 3 + p.val
        omega)]
  have e := coord_at a b c p ⟨a.val * 289 + b.val * 17 + c.val, by omega⟩ rfl
  revert e
  generalize shapeCast S4913x3 _ shapeCasts_S17x17x17x3_S4913x3 = X
  intro e
  rw [← e]
  pointwise []

/-- The faces' vertex numbers before they are laid out in a list, as the reference computes them. -/
def facesRef : S2x6x16x16x16x2x3.Idx → BitVec 32 :=
  select (broadcastInDim S2x6x16x16x16x2x3 ![0, 1, 2, 3, 4, 5, 6] bcast_S2x6x16x16x16x1x1_S2x6x16x16x16x2x3_0_1_2_3_4_5_6 (cmpf (F := Ideal) (φ := .f32) .ogt (broadcastInDim S2x6x16x16x16x1x1 ![0, 1, 2, 3, 4] bcast_S2x6x16x16x16_S2x6x16x16x16x1x1_0_1_2_3_4 (res_main_v25 (F := Ideal) V0)) (broadcastInDim S2x6x16x16x16x1x1 ![] bcast_S_S2x6x16x16x16x1x1 (constant S_ .f32 0x00000000#32)))) (broadcastInDim S2x6x16x16x16x2x3 ![0, 1, 2, 3, 4, 5, 6] bcast_S1x6x16x16x16x2x3_S2x6x16x16x16x2x3_0_1_2_3_4_5_6 (broadcastInDim S1x6x16x16x16x2x3 ![1, 2, 3, 4, 5, 6] bcast_S6x16x16x16x2x3_S1x6x16x16x16x2x3_1_2_3_4_5_6 (res_main_v52 (F := Ideal) V0))) (broadcastInDim S2x6x16x16x16x2x3 ![] bcast_S_S2x6x16x16x16x2x3 (constantI S_ 32 4294967295#32))

theorem facesRef_at (n : Fin 2) (k : Fin 6) (z y x : Fin 16) (t : Fin 2) (d : Fin 3) :
    facesRef V0 (ix7 n k z y x t d) = if (0 : EReal) < (res_main_v25 (F := Ideal) V0 : S2x6x16x16x16.Idx → EReal) (ix5 n k z y x)
      then BitVec.ofNat 32 (vert k z y x ⟨t.val + d.val, by omega⟩) else 4294967295#32 := by
  pointwise [facesRef]
  rw [v52_eq]

end Cert.ReferenceIdeal.Value

end
-- ==== Proof.IdealFaces.lean ====
module

public import proofs.«01_k».proof.Proof.IdealBodyA
public import proofs.«01_k».proof.Proof.Model
public import Idealize.ShloMosaic.Lib.Pointwise
public import Idealize.ShloMosaic.Lib.Pipeline.Value

@[expose] public section

set_option maxRecDepth 16384

noncomputable section

namespace Cert.KernelIdeal.Gen

open Idealize.ShloMosaic Idealize.ShloMosaic.TcCoe Idealize.SL.Sem
open Cert.KernelIdeal Cert.Voxel

/-- A comparison's bit, read as a number, is the indicator of the comparison. -/
theorem is_bit (p : Prop) [Decidable p] :
    Is (FloatOps.sitofp (F := Ideal) FTy.f32 (BitVec.setWidth 32 (BitVec.ofBool (decide p)))) p := by
  by_cases h : p
  · refine ⟨fun _ => ?_, fun hn => absurd h hn⟩
    rw [decide_eq_true h]; show (((1 : ℤ) : ℝ) : EReal) = 1; simp
  · refine ⟨fun hp => absurd hp h, fun _ => ?_⟩
    rw [decide_eq_false h]; show (((0 : ℤ) : ℝ) : EReal) = 0; simp

/-- Face 0's mask of a loaded block is the indicator of the exposed faces. -/
theorem pay_face0 (x : Vec Ideal S1x16x16x16 .f32) (a b c : Fin 16) :
    Is (k0_pay3 x (ix3 a b c)) (exposed (fun z y w => x (ix4 0 z y w)) 0 a b c) := by
  pointwise [k0_pay3, k0_pay2]
  exact Is.mul_not (is_bit _) (Is.dite_else fun _ => is_bit _)

/-- Face 1's mask of a loaded block is the indicator of the exposed faces. -/
theorem pay_face1 (x : Vec Ideal S1x16x16x16 .f32) (a b c : Fin 16) :
    Is (k0_pay4 x (ix3 a b c)) (exposed (fun z y w => x (ix4 0 z y w)) 1 a b c) := by
  pointwise [k0_pay4, k0_pay2]
  exact Is.mul_not (is_bit _) (Is.dite_then fun _ => is_bit _)

/-- Face 2's mask of a loaded block is the indicator of the exposed faces. -/
theorem pay_face2 (x : Vec Ideal S1x16x16x16 .f32) (a b c : Fin 16) :
    Is (k0_pay5 x (ix3 a b c)) (exposed (fun z y w => x (ix4 0 z y w)) 2 a b c) := by
  pointwise [k0_pay5, k0_pay2]
  exact Is.mul_not (is_bit _) (Is.dite_else fun _ => is_bit _)

/-- Face 3's mask of a loaded block is the indicator of the exposed faces. -/
theorem pay_face3 (x : Vec Ideal S1x16x16x16 .f32) (a b c : Fin 16) :
    Is (k0_pay6 x (ix3 a b c)) (exposed (fun z y w => x (ix4 0 z y w)) 3 a b c) := by
  pointwise [k0_pay6, k0_pay2]
  exact Is.mul_not (is_bit _) (Is.dite_then fun _ => is_bit _)

/-- Face 4's mask of a loaded block is the indicator of the exposed faces. -/
theorem pay_face4 (x : Vec Ideal S1x16x16x16 .f32) (a b c : Fin 16) :
    Is (k0_pay7 x (ix3 a b c)) (exposed (fun z y w => x (ix4 0 z y w)) 4 a b c) := by
  pointwise [k0_pay7, k0_pay2]
  exact Is.mul_not (is_bit _) (Is.dite_else fun _ => is_bit _)

/-- Face 5's mask of a loaded block is the indicator of the exposed faces. -/
theorem pay_face5 (x : Vec Ideal S1x16x16x16 .f32) (a b c : Fin 16) :
    Is (k0_pay8 x (ix3 a b c)) (exposed (fun z y w => x (ix4 0 z y w)) 5 a b c) := by
  pointwise [k0_pay8, k0_pay2]
  exact Is.mul_not (is_bit _) (Is.dite_then fun _ => is_bit _)

set_option maxHeartbeats 1000000 in
/-- The used vertices of a block, as moved arrays. -/
theorem used_eq (f0 f1 f2 f3 f4 f5 : FVec Ideal S16x16x16 .f32) (a b c : Fin 17) :
    k0_pay14 f1 f3 f5 (k0_pay12 f0 f1 f2 f3 f4 f5 (k0_pay10 f0 f2 f4) (k0_pay11 f0 f2 f5)) (k0_pay13 f1 f3 f4) (ix3 a b c) =
      max (max (max (max (max (max (max (max (0 : EReal) (lo (fun x => lo (fun y => lo (fun z => max (max (f0 (ix3 z y x)) (f2 (ix3 z y x))) (f4 (ix3 z y x))) a) b) c)) (hi (fun x => lo (fun y => lo (fun z => max (max (f0 (ix3 z y x)) (f2 (ix3 z y x))) (f5 (ix3 z y x))) a) b) c)) (lo (fun x => hi (fun y => lo (fun z => max (max (f0 (ix3 z y x)) (f3 (ix3 z y x))) (f4 (ix3 z y x))) a) b) c)) (hi (fun x => hi (fun y => lo (fun z => max (max (f0 (ix3 z y x)) (f3 (ix3 z y x))) (f5 (ix3 z y x))) a) b) c)) (lo (fun x => lo (fun y => hi (fun z => max (max (f1 (ix3 z y x)) (f2 (ix3 z y x))) (f4 (ix3 z y x))) a) b) c)) (hi (fun x => lo (fun y => hi (fun z => max (max (f1 (ix3 z y x)) (f2 (ix3 z y x))) (f5 (ix3 z y x))) a) b) c)) (lo (fun x => hi (fun y => hi (fun z => max (max (f1 (ix3 z y x)) (f3 (ix3 z y x))) (f4 (ix3 z y x))) a) b) c)) (hi (fun x => hi (fun y => hi (fun z => max (max (f1 (ix3 z y x)) (f3 (ix3 z y x))) (f5 (ix3 z y x))) a) b) c) := by
  pointwise [k0_pay14, k0_pay13, k0_pay12, k0_pay11, k0_pay10, lo, hi]

set_option maxHeartbeats 1000000 in
/-- The used vertices of a block: the indicator of the plan's faces. -/
theorem used_is {m : Fin 6 → Fin 16 → Fin 16 → Fin 16 → Prop} (f0 f1 f2 f3 f4 f5 : FVec Ideal S16x16x16 .f32)
    (h0 : ∀ z y x, Is (f0 (ix3 z y x)) (m 0 z y x)) (h1 : ∀ z y x, Is (f1 (ix3 z y x)) (m 1 z y x)) (h2 : ∀ z y x, Is (f2 (ix3 z y x)) (m 2 z y x)) (h3 : ∀ z y x, Is (f3 (ix3 z y x)) (m 3 z y x)) (h4 : ∀ z y x, Is (f4 (ix3 z y x)) (m 4 z y x)) (h5 : ∀ z y x, Is (f5 (ix3 z y x)) (m 5 z y x)) (a b c : Fin 17) :
    Is (k0_pay14 f1 f3 f5 (k0_pay12 f0 f1 f2 f3 f4 f5 (k0_pay10 f0 f2 f4) (k0_pay11 f0 f2 f5)) (k0_pay13 f1 f3 f4) (ix3 a b c)) (∃ ok ∈ usedPlan, Placed m ok a.val b.val c.val) := by
  refine Is.of_eq (Is.congr (Is.max (Is.max (Is.max (Is.max (Is.max (Is.max (Is.max (Is.max Is.zero (Is.lo (fun x => Is.lo (fun y => Is.lo (fun z => (Is.max (Is.max (h0 z y x) (h2 z y x)) (h4 z y x))) a) b) c)) (Is.hi (fun x => Is.lo (fun y => Is.lo (fun z => (Is.max (Is.max (h0 z y x) (h2 z y x)) (h5 z y x))) a) b) c)) (Is.lo (fun x => Is.hi (fun y => Is.lo (fun z => (Is.max (Is.max (h0 z y x) (h3 z y x)) (h4 z y x))) a) b) c)) (Is.hi (fun x => Is.hi (fun y => Is.lo (fun z => (Is.max (Is.max (h0 z y x) (h3 z y x)) (h5 z y x))) a) b) c)) (Is.lo (fun x => Is.lo (fun y => Is.hi (fun z => (Is.max (Is.max (h1 z y x) (h2 z y x)) (h4 z y x))) a) b) c)) (Is.hi (fun x => Is.lo (fun y => Is.hi (fun z => (Is.max (Is.max (h1 z y x) (h2 z y x)) (h5 z y x))) a) b) c)) (Is.lo (fun x => Is.hi (fun y => Is.hi (fun z => (Is.max (Is.max (h1 z y x) (h3 z y x)) (h4 z y x))) a) b) c)) (Is.hi (fun x => Is.hi (fun y => Is.hi (fun z => (Is.max (Is.max (h1 z y x) (h3 z y x)) (h5 z y x))) a) b) c)) ?_) (used_eq f0 f1 f2 f3 f4 f5 a b c)
  simp only [usedPlan, Placed, List.mem_cons, List.not_mem_nil, or_false, false_or, exists_eq_or_imp, exists_eq_left,
    or_and_right, exists_or, or_assoc, Matrix.cons_val]

set_option maxHeartbeats 1000000 in
/-- Band 0 of a block, as moved arrays. -/
theorem band0_eq (f4 : FVec Ideal S16x16x16 .f32) (a b c : Fin 17) :
    (k0_pay20 f4) (ix5 0 0 a b c) =
      max (0 : EReal) (lo (fun x => hi (fun y => hi (fun z => f4 (ix3 z y x)) a) b) c) := by
  pointwise [k0_pay20, lo, hi]

set_option maxHeartbeats 1000000 in
/-- Band 0 of a block: the indicator of the plan's faces. -/
theorem band0_is {m : Fin 6 → Fin 16 → Fin 16 → Fin 16 → Prop} (f4 : FVec Ideal S16x16x16 .f32)
    (h4 : ∀ z y x, Is (f4 (ix3 z y x)) (m 4 z y x)) (a b c : Fin 17) :
    Is ((k0_pay20 f4) (ix5 0 0 a b c)) (∃ ok ∈ plan 0, Placed m ok a.val b.val c.val) := by
  refine Is.of_eq (Is.congr (Is.max Is.zero (Is.lo (fun x => Is.hi (fun y => Is.hi (fun z => (h4 z y x)) a) b) c)) ?_) (band0_eq f4 a b c)
  simp only [plan, Placed, List.mem_cons, List.not_mem_nil, or_false, false_or, exists_eq_or_imp, exists_eq_left,
    or_and_right, exists_or, or_assoc, Matrix.cons_val]

set_option maxHeartbeats 1000000 in
/-- Band 1 of a block, as moved arrays. -/
theorem band1_eq (f2 : FVec Ideal S16x16x16 .f32) (a b c : Fin 17) :
    (k0_pay22 (k0_pay21 f2)) (ix5 0 0 a b c) =
      max (0 : EReal) (hi (fun x => lo (fun y => hi (fun z => f2 (ix3 z y x)) a) b) c) := by
  pointwise [k0_pay22, k0_pay21, lo, hi]

set_option maxHeartbeats 1000000 in
/-- Band 1 of a block: the indicator of the plan's faces. -/
theorem band1_is {m : Fin 6 → Fin 16 → Fin 16 → Fin 16 → Prop} (f2 : FVec Ideal S16x16x16 .f32)
    (h2 : ∀ z y x, Is (f2 (ix3 z y x)) (m 2 z y x)) (a b c : Fin 17) :
    Is ((k0_pay22 (k0_pay21 f2)) (ix5 0 0 a b c)) (∃ ok ∈ plan 1, Placed m ok a.val b.val c.val) := by
  refine Is.of_eq (Is.congr (Is.max Is.zero (Is.hi (fun x => Is.lo (fun y => Is.hi (fun z => (h2 z y x)) a) b) c)) ?_) (band1_eq f2 a b c)
  simp only [plan, Placed, List.mem_cons, List.not_mem_nil, or_false, false_or, exists_eq_or_imp, exists_eq_left,
    or_and_right, exists_or, or_assoc, Matrix.cons_val]

set_option maxHeartbeats 1000000 in
/-- Band 2 of a block, as moved arrays. -/
theorem band2_eq (f2 f3 f4 f5 : FVec Ideal S16x16x16 .f32) (a b c : Fin 17) :
    (k0_pay23 f2 f3 f4 f5) (ix5 0 0 a b c) =
      max (max (max (max (0 : EReal) (lo (fun x => lo (fun y => hi (fun z => max (f2 (ix3 z y x)) (f4 (ix3 z y x))) a) b) c)) (hi (fun x => lo (fun y => hi (fun z => max (f2 (ix3 z y x)) (f5 (ix3 z y x))) a) b) c)) (lo (fun x => hi (fun y => hi (fun z => max (f3 (ix3 z y x)) (f4 (ix3 z y x))) a) b) c)) (hi (fun x => hi (fun y => hi (fun z => max (f3 (ix3 z y x)) (f5 (ix3 z y x))) a) b) c) := by
  pointwise [k0_pay23, lo, hi]

set_option maxHeartbeats 1000000 in
/-- Band 2 of a block: the indicator of the plan's faces. -/
theorem band2_is {m : Fin 6 → Fin 16 → Fin 16 → Fin 16 → Prop} (f2 f3 f4 f5 : FVec Ideal S16x16x16 .f32)
    (h2 : ∀ z y x, Is (f2 (ix3 z y x)) (m 2 z y x)) (h3 : ∀ z y x, Is (f3 (ix3 z y x)) (m 3 z y x)) (h4 : ∀ z y x, Is (f4 (ix3 z y x)) (m 4 z y x)) (h5 : ∀ z y x, Is (f5 (ix3 z y x)) (m 5 z y x)) (a b c : Fin 17) :
    Is ((k0_pay23 f2 f3 f4 f5) (ix5 0 0 a b c)) (∃ ok ∈ plan 2, Placed m ok a.val b.val c.val) := by
  refine Is.of_eq (Is.congr (Is.max (Is.max (Is.max (Is.max Is.zero (Is.lo (fun x => Is.lo (fun y => Is.hi (fun z => (Is.max (h2 z y x) (h4 z y x))) a) b) c)) (Is.hi (fun x => Is.lo (fun y => Is.hi (fun z => (Is.max (h2 z y x) (h5 z y x))) a) b) c)) (Is.lo (fun x => Is.hi (fun y => Is.hi (fun z => (Is.max (h3 z y x) (h4 z y x))) a) b) c)) (Is.hi (fun x => Is.hi (fun y => Is.hi (fun z => (Is.max (h3 z y x) (h5 z y x))) a) b) c)) ?_) (band2_eq f2 f3 f4 f5 a b c)
  simp only [plan, Placed, List.mem_cons, List.not_mem_nil, or_false, false_or, exists_eq_or_imp, exists_eq_left,
    or_and_right, exists_or, or_assoc, Matrix.cons_val]

set_option maxHeartbeats 1000000 in
/-- Band 3 of a block, as moved arrays. -/
theorem band3_eq (f3 : FVec Ideal S16x16x16 .f32) (a b c : Fin 17) :
    (k0_pay24 f3 (Scalar.ofBits .f32 0x00000000#32)) (ix5 0 0 a b c) =
      max (0 : EReal) (lo (fun x => hi (fun y => hi (fun z => f3 (ix3 z y x)) a) b) c) := by
  pointwise [k0_pay24, lo, hi]

set_option maxHeartbeats 1000000 in
/-- Band 3 of a block: the indicator of the plan's faces. -/
theorem band3_is {m : Fin 6 → Fin 16 → Fin 16 → Fin 16 → Prop} (f3 : FVec Ideal S16x16x16 .f32)
    (h3 : ∀ z y x, Is (f3 (ix3 z y x)) (m 3 z y x)) (a b c : Fin 17) :
    Is ((k0_pay24 f3 (Scalar.ofBits .f32 0x00000000#32)) (ix5 0 0 a b c)) (∃ ok ∈ plan 3, Placed m ok a.val b.val c.val) := by
  refine Is.of_eq (Is.congr (Is.max Is.zero (Is.lo (fun x => Is.hi (fun y => Is.hi (fun z => (h3 z y x)) a) b) c)) ?_) (band3_eq f3 a b c)
  simp only [plan, Placed, List.mem_cons, List.not_mem_nil, or_false, false_or, exists_eq_or_imp, exists_eq_left,
    or_and_right, exists_or, or_assoc, Matrix.cons_val]

set_option maxHeartbeats 1000000 in
/-- Band 4 of a block, as moved arrays. -/
theorem band4_eq (f5 : FVec Ideal S16x16x16 .f32) (a b c : Fin 17) :
    (k0_pay25 f5) (ix5 0 0 a b c) =
      max (0 : EReal) (hi (fun x => lo (fun y => hi (fun z => f5 (ix3 z y x)) a) b) c) := by
  pointwise [k0_pay25, lo, hi]

set_option maxHeartbeats 1000000 in
/-- Band 4 of a block: the indicator of the plan's faces. -/
theorem band4_is {m : Fin 6 → Fin 16 → Fin 16 → Fin 16 → Prop} (f5 : FVec Ideal S16x16x16 .f32)
    (h5 : ∀ z y x, Is (f5 (ix3 z y x)) (m 5 z y x)) (a b c : Fin 17) :
    Is ((k0_pay25 f5) (ix5 0 0 a b c)) (∃ ok ∈ plan 4, Placed m ok a.val b.val c.val) := by
  refine Is.of_eq (Is.congr (Is.max Is.zero (Is.hi (fun x => Is.lo (fun y => Is.hi (fun z => (h5 z y x)) a) b) c)) ?_) (band4_eq f5 a b c)
  simp only [plan, Placed, List.mem_cons, List.not_mem_nil, or_false, false_or, exists_eq_or_imp, exists_eq_left,
    or_and_right, exists_or, or_assoc, Matrix.cons_val]

set_option maxHeartbeats 1000000 in
/-- Band 5 of a block, as moved arrays. -/
theorem band5_eq (f0 f1 f4 f5 : FVec Ideal S16x16x16 .f32) (a b c : Fin 17) :
    (k0_pay29 f1 f4 f5 (k0_pay26 f0 f4) (k0_pay27 f0 f5) (k0_pay28 (F := Ideal))) (ix5 0 0 a b c) =
      max (max (max (max (0 : EReal) (lo (fun x => hi (fun y => lo (fun z => max (f0 (ix3 z y x)) (f4 (ix3 z y x))) a) b) c)) (hi (fun x => hi (fun y => lo (fun z => max (f0 (ix3 z y x)) (f5 (ix3 z y x))) a) b) c)) (lo (fun x => hi (fun y => hi (fun z => max (f1 (ix3 z y x)) (f4 (ix3 z y x))) a) b) c)) (hi (fun x => hi (fun y => hi (fun z => max (f1 (ix3 z y x)) (f5 (ix3 z y x))) a) b) c) := by
  pointwise [k0_pay29, k0_pay26, k0_pay27, k0_pay28, lo, hi]

set_option maxHeartbeats 1000000 in
/-- Band 5 of a block: the indicator of the plan's faces. -/
theorem band5_is {m : Fin 6 → Fin 16 → Fin 16 → Fin 16 → Prop} (f0 f1 f4 f5 : FVec Ideal S16x16x16 .f32)
    (h0 : ∀ z y x, Is (f0 (ix3 z y x)) (m 0 z y x)) (h1 : ∀ z y x, Is (f1 (ix3 z y x)) (m 1 z y x)) (h4 : ∀ z y x, Is (f4 (ix3 z y x)) (m 4 z y x)) (h5 : ∀ z y x, Is (f5 (ix3 z y x)) (m 5 z y x)) (a b c : Fin 17) :
    Is ((k0_pay29 f1 f4 f5 (k0_pay26 f0 f4) (k0_pay27 f0 f5) (k0_pay28 (F := Ideal))) (ix5 0 0 a b c)) (∃ ok ∈ plan 5, Placed m ok a.val b.val c.val) := by
  refine Is.of_eq (Is.congr (Is.max (Is.max (Is.max (Is.max Is.zero (Is.lo (fun x => Is.hi (fun y => Is.lo (fun z => (Is.max (h0 z y x) (h4 z y x))) a) b) c)) (Is.hi (fun x => Is.hi (fun y => Is.lo (fun z => (Is.max (h0 z y x) (h5 z y x))) a) b) c)) (Is.lo (fun x => Is.hi (fun y => Is.hi (fun z => (Is.max (h1 z y x) (h4 z y x))) a) b) c)) (Is.hi (fun x => Is.hi (fun y => Is.hi (fun z => (Is.max (h1 z y x) (h5 z y x))) a) b) c)) ?_) (band5_eq f0 f1 f4 f5 a b c)
  simp only [plan, Placed, List.mem_cons, List.not_mem_nil, or_false, false_or, exists_eq_or_imp, exists_eq_left,
    or_and_right, exists_or, or_assoc, Matrix.cons_val]

set_option maxHeartbeats 1000000 in
/-- Band 6 of a block, as moved arrays. -/
theorem band6_eq (f0 f1 : FVec Ideal S16x16x16 .f32) (a b c : Fin 17) :
    (k0_pay31 (k0_pay30 f0 f1)) (ix5 0 0 a b c) =
      max (max (0 : EReal) (lo (fun x => hi (fun y => lo (fun z => f0 (ix3 z y x)) a) b) c)) (lo (fun x => hi (fun y => hi (fun z => f1 (ix3 z y x)) a) b) c) := by
  pointwise [k0_pay31, k0_pay30, lo, hi]

set_option maxHeartbeats 1000000 in
/-- Band 6 of a block: the indicator of the plan's faces. -/
theorem band6_is {m : Fin 6 → Fin 16 → Fin 16 → Fin 16 → Prop} (f0 f1 : FVec Ideal S16x16x16 .f32)
    (h0 : ∀ z y x, Is (f0 (ix3 z y x)) (m 0 z y x)) (h1 : ∀ z y x, Is (f1 (ix3 z y x)) (m 1 z y x)) (a b c : Fin 17) :
    Is ((k0_pay31 (k0_pay30 f0 f1)) (ix5 0 0 a b c)) (∃ ok ∈ plan 6, Placed m ok a.val b.val c.val) := by
  refine Is.of_eq (Is.congr (Is.max (Is.max Is.zero (Is.lo (fun x => Is.hi (fun y => Is.lo (fun z => (h0 z y x)) a) b) c)) (Is.lo (fun x => Is.hi (fun y => Is.hi (fun z => (h1 z y x)) a) b) c)) ?_) (band6_eq f0 f1 a b c)
  simp only [plan, Placed, List.mem_cons, List.not_mem_nil, or_false, false_or, exists_eq_or_imp, exists_eq_left,
    or_and_right, exists_or, or_assoc, Matrix.cons_val]

set_option maxHeartbeats 1000000 in
/-- Band 7 of a block, as moved arrays. -/
theorem band7_eq (f0 f1 f2 f3 : FVec Ideal S16x16x16 .f32) (a b c : Fin 17) :
    (k0_pay33 (k0_pay32 f0 f1 f2 f3)) (ix5 0 0 a b c) =
      max (max (max (max (0 : EReal) (hi (fun x => lo (fun y => lo (fun z => max (f0 (ix3 z y x)) (f2 (ix3 z y x))) a) b) c)) (hi (fun x => hi (fun y => lo (fun z => max (f0 (ix3 z y x)) (f3 (ix3 z y x))) a) b) c)) (hi (fun x => lo (fun y => hi (fun z => max (f1 (ix3 z y x)) (f2 (ix3 z y x))) a) b) c)) (hi (fun x => hi (fun y => hi (fun z => max (f1 (ix3 z y x)) (f3 (ix3 z y x))) a) b) c) := by
  pointwise [k0_pay33, k0_pay32, lo, hi]

set_option maxHeartbeats 1000000 in
/-- Band 7 of a block: the indicator of the plan's faces. -/
theorem band7_is {m : Fin 6 → Fin 16 → Fin 16 → Fin 16 → Prop} (f0 f1 f2 f3 : FVec Ideal S16x16x16 .f32)
    (h0 : ∀ z y x, Is (f0 (ix3 z y x)) (m 0 z y x)) (h1 : ∀ z y x, Is (f1 (ix3 z y x)) (m 1 z y x)) (h2 : ∀ z y x, Is (f2 (ix3 z y x)) (m 2 z y x)) (h3 : ∀ z y x, Is (f3 (ix3 z y x)) (m 3 z y x)) (a b c : Fin 17) :
    Is ((k0_pay33 (k0_pay32 f0 f1 f2 f3)) (ix5 0 0 a b c)) (∃ ok ∈ plan 7, Placed m ok a.val b.val c.val) := by
  refine Is.of_eq (Is.congr (Is.max (Is.max (Is.max (Is.max Is.zero (Is.hi (fun x => Is.lo (fun y => Is.lo (fun z => (Is.max (h0 z y x) (h2 z y x))) a) b) c)) (Is.hi (fun x => Is.hi (fun y => Is.lo (fun z => (Is.max (h0 z y x) (h3 z y x))) a) b) c)) (Is.hi (fun x => Is.lo (fun y => Is.hi (fun z => (Is.max (h1 z y x) (h2 z y x))) a) b) c)) (Is.hi (fun x => Is.hi (fun y => Is.hi (fun z => (Is.max (h1 z y x) (h3 z y x))) a) b) c)) ?_) (band7_eq f0 f1 f2 f3 a b c)
  simp only [plan, Placed, List.mem_cons, List.not_mem_nil, or_false, false_or, exists_eq_or_imp, exists_eq_left,
    or_and_right, exists_or, or_assoc, Matrix.cons_val]

set_option maxHeartbeats 1000000 in
/-- Band 8 of a block, as moved arrays. -/
theorem band8_eq (f0 f1 f2 f3 : FVec Ideal S16x16x16 .f32) (a b c : Fin 17) :
    (k0_pay34 f0 f1 f2 f3) (ix5 0 0 a b c) =
      max (max (max (max (0 : EReal) (lo (fun x => lo (fun y => lo (fun z => max (f0 (ix3 z y x)) (f2 (ix3 z y x))) a) b) c)) (lo (fun x => hi (fun y => lo (fun z => max (f0 (ix3 z y x)) (f3 (ix3 z y x))) a) b) c)) (lo (fun x => lo (fun y => hi (fun z => max (f1 (ix3 z y x)) (f2 (ix3 z y x))) a) b) c)) (lo (fun x => hi (fun y => hi (fun z => max (f1 (ix3 z y x)) (f3 (ix3 z y x))) a) b) c) := by
  pointwise [k0_pay34, lo, hi]

set_option maxHeartbeats 1000000 in
/-- Band 8 of a block: the indicator of the plan's faces. -/
theorem band8_is {m : Fin 6 → Fin 16 → Fin 16 → Fin 16 → Prop} (f0 f1 f2 f3 : FVec Ideal S16x16x16 .f32)
    (h0 : ∀ z y x, Is (f0 (ix3 z y x)) (m 0 z y x)) (h1 : ∀ z y x, Is (f1 (ix3 z y x)) (m 1 z y x)) (h2 : ∀ z y x, Is (f2 (ix3 z y x)) (m 2 z y x)) (h3 : ∀ z y x, Is (f3 (ix3 z y x)) (m 3 z y x)) (a b c : Fin 17) :
    Is ((k0_pay34 f0 f1 f2 f3) (ix5 0 0 a b c)) (∃ ok ∈ plan 8, Placed m ok a.val b.val c.val) := by
  refine Is.of_eq (Is.congr (Is.max (Is.max (Is.max (Is.max Is.zero (Is.lo (fun x => Is.lo (fun y => Is.lo (fun z => (Is.max (h0 z y x) (h2 z y x))) a) b) c)) (Is.lo (fun x => Is.hi (fun y => Is.lo (fun z => (Is.max (h0 z y x) (h3 z y x))) a) b) c)) (Is.lo (fun x => Is.lo (fun y => Is.hi (fun z => (Is.max (h1 z y x) (h2 z y x))) a) b) c)) (Is.lo (fun x => Is.hi (fun y => Is.hi (fun z => (Is.max (h1 z y x) (h3 z y x))) a) b) c)) ?_) (band8_eq f0 f1 f2 f3 a b c)
  simp only [plan, Placed, List.mem_cons, List.not_mem_nil, or_false, false_or, exists_eq_or_imp, exists_eq_left,
    or_and_right, exists_or, or_assoc, Matrix.cons_val]

set_option maxHeartbeats 1000000 in
/-- Band 9 of a block, as moved arrays. -/
theorem band9_eq (f0 f1 : FVec Ideal S16x16x16 .f32) (a b c : Fin 17) :
    (k0_pay36 f0 f1 (k0_pay35 (F := Ideal)) (Scalar.ofBits .f32 0x00000000#32)) (ix5 0 0 a b c) =
      max (max (0 : EReal) (hi (fun x => lo (fun y => lo (fun z => f0 (ix3 z y x)) a) b) c)) (hi (fun x => lo (fun y => hi (fun z => f1 (ix3 z y x)) a) b) c) := by
  pointwise [k0_pay36, k0_pay35, lo, hi]

set_option maxHeartbeats 1000000 in
/-- Band 9 of a block: the indicator of the plan's faces. -/
theorem band9_is {m : Fin 6 → Fin 16 → Fin 16 → Fin 16 → Prop} (f0 f1 : FVec Ideal S16x16x16 .f32)
    (h0 : ∀ z y x, Is (f0 (ix3 z y x)) (m 0 z y x)) (h1 : ∀ z y x, Is (f1 (ix3 z y x)) (m 1 z y x)) (a b c : Fin 17) :
    Is ((k0_pay36 f0 f1 (k0_pay35 (F := Ideal)) (Scalar.ofBits .f32 0x00000000#32)) (ix5 0 0 a b c)) (∃ ok ∈ plan 9, Placed m ok a.val b.val c.val) := by
  refine Is.of_eq (Is.congr (Is.max (Is.max Is.zero (Is.hi (fun x => Is.lo (fun y => Is.lo (fun z => (h0 z y x)) a) b) c)) (Is.hi (fun x => Is.lo (fun y => Is.hi (fun z => (h1 z y x)) a) b) c)) ?_) (band9_eq f0 f1 a b c)
  simp only [plan, Placed, List.mem_cons, List.not_mem_nil, or_false, false_or, exists_eq_or_imp, exists_eq_left,
    or_and_right, exists_or, or_assoc, Matrix.cons_val]

set_option maxHeartbeats 1000000 in
/-- Band 10 of a block, as moved arrays. -/
theorem band10_eq (f0 f1 f4 f5 : FVec Ideal S16x16x16 .f32) (a b c : Fin 17) :
    (k0_pay39 f1 f5 (k0_pay37 f0 f4 f5) (k0_pay38 f1 f4) (Scalar.ofBits .f32 0x00000000#32)) (ix5 0 0 a b c) =
      max (max (max (max (0 : EReal) (lo (fun x => lo (fun y => lo (fun z => max (f0 (ix3 z y x)) (f4 (ix3 z y x))) a) b) c)) (hi (fun x => lo (fun y => lo (fun z => max (f0 (ix3 z y x)) (f5 (ix3 z y x))) a) b) c)) (lo (fun x => lo (fun y => hi (fun z => max (f1 (ix3 z y x)) (f4 (ix3 z y x))) a) b) c)) (hi (fun x => lo (fun y => hi (fun z => max (f1 (ix3 z y x)) (f5 (ix3 z y x))) a) b) c) := by
  pointwise [k0_pay39, k0_pay37, k0_pay38, lo, hi]

set_option maxHeartbeats 1000000 in
/-- Band 10 of a block: the indicator of the plan's faces. -/
theorem band10_is {m : Fin 6 → Fin 16 → Fin 16 → Fin 16 → Prop} (f0 f1 f4 f5 : FVec Ideal S16x16x16 .f32)
    (h0 : ∀ z y x, Is (f0 (ix3 z y x)) (m 0 z y x)) (h1 : ∀ z y x, Is (f1 (ix3 z y x)) (m 1 z y x)) (h4 : ∀ z y x, Is (f4 (ix3 z y x)) (m 4 z y x)) (h5 : ∀ z y x, Is (f5 (ix3 z y x)) (m 5 z y x)) (a b c : Fin 17) :
    Is ((k0_pay39 f1 f5 (k0_pay37 f0 f4 f5) (k0_pay38 f1 f4) (Scalar.ofBits .f32 0x00000000#32)) (ix5 0 0 a b c)) (∃ ok ∈ plan 10, Placed m ok a.val b.val c.val) := by
  refine Is.of_eq (Is.congr (Is.max (Is.max (Is.max (Is.max Is.zero (Is.lo (fun x => Is.lo (fun y => Is.lo (fun z => (Is.max (h0 z y x) (h4 z y x))) a) b) c)) (Is.hi (fun x => Is.lo (fun y => Is.lo (fun z => (Is.max (h0 z y x) (h5 z y x))) a) b) c)) (Is.lo (fun x => Is.lo (fun y => Is.hi (fun z => (Is.max (h1 z y x) (h4 z y x))) a) b) c)) (Is.hi (fun x => Is.lo (fun y => Is.hi (fun z => (Is.max (h1 z y x) (h5 z y x))) a) b) c)) ?_) (band10_eq f0 f1 f4 f5 a b c)
  simp only [plan, Placed, List.mem_cons, List.not_mem_nil, or_false, false_or, exists_eq_or_imp, exists_eq_left,
    or_and_right, exists_or, or_assoc, Matrix.cons_val]

set_option maxHeartbeats 1000000 in
/-- Band 11 of a block, as moved arrays. -/
theorem band11_eq (f5 : FVec Ideal S16x16x16 .f32) (a b c : Fin 17) :
    (k0_pay40 f5) (ix5 0 0 a b c) =
      max (0 : EReal) (hi (fun x => hi (fun y => lo (fun z => f5 (ix3 z y x)) a) b) c) := by
  pointwise [k0_pay40, lo, hi]

set_option maxHeartbeats 1000000 in
/-- Band 11 of a block: the indicator of the plan's faces. -/
theorem band11_is {m : Fin 6 → Fin 16 → Fin 16 → Fin 16 → Prop} (f5 : FVec Ideal S16x16x16 .f32)
    (h5 : ∀ z y x, Is (f5 (ix3 z y x)) (m 5 z y x)) (a b c : Fin 17) :
    Is ((k0_pay40 f5) (ix5 0 0 a b c)) (∃ ok ∈ plan 11, Placed m ok a.val b.val c.val) := by
  refine Is.of_eq (Is.congr (Is.max Is.zero (Is.hi (fun x => Is.hi (fun y => Is.lo (fun z => (h5 z y x)) a) b) c)) ?_) (band11_eq f5 a b c)
  simp only [plan, Placed, List.mem_cons, List.not_mem_nil, or_false, false_or, exists_eq_or_imp, exists_eq_left,
    or_and_right, exists_or, or_assoc, Matrix.cons_val]

set_option maxHeartbeats 1000000 in
/-- Band 12 of a block, as moved arrays. -/
theorem band12_eq (f3 : FVec Ideal S16x16x16 .f32) (a b c : Fin 17) :
    (k0_pay42 (k0_pay41 f3)) (ix5 0 0 a b c) =
      max (0 : EReal) (hi (fun x => hi (fun y => lo (fun z => f3 (ix3 z y x)) a) b) c) := by
  pointwise [k0_pay42, k0_pay41, lo, hi]

set_option maxHeartbeats 1000000 in
/-- Band 12 of a block: the indicator of the plan's faces. -/
theorem band12_is {m : Fin 6 → Fin 16 → Fin 16 → Fin 16 → Prop} (f3 : FVec Ideal S16x16x16 .f32)
    (h3 : ∀ z y x, Is (f3 (ix3 z y x)) (m 3 z y x)) (a b c : Fin 17) :
    Is ((k0_pay42 (k0_pay41 f3)) (ix5 0 0 a b c)) (∃ ok ∈ plan 12, Placed m ok a.val b.val c.val) := by
  refine Is.of_eq (Is.congr (Is.max Is.zero (Is.hi (fun x => Is.hi (fun y => Is.lo (fun z => (h3 z y x)) a) b) c)) ?_) (band12_eq f3 a b c)
  simp only [plan, Placed, List.mem_cons, List.not_mem_nil, or_false, false_or, exists_eq_or_imp, exists_eq_left,
    or_and_right, exists_or, or_assoc, Matrix.cons_val]

set_option maxHeartbeats 1000000 in
/-- Band 13 of a block, as moved arrays. -/
theorem band13_eq (f2 f3 f4 f5 : FVec Ideal S16x16x16 .f32) (a b c : Fin 17) :
    (k0_pay43 f2 f3 f4 f5) (ix5 0 0 a b c) =
      max (max (max (max (0 : EReal) (lo (fun x => lo (fun y => lo (fun z => max (f2 (ix3 z y x)) (f4 (ix3 z y x))) a) b) c)) (hi (fun x => lo (fun y => lo (fun z => max (f2 (ix3 z y x)) (f5 (ix3 z y x))) a) b) c)) (lo (fun x => hi (fun y => lo (fun z => max (f3 (ix3 z y x)) (f4 (ix3 z y x))) a) b) c)) (hi (fun x => hi (fun y => lo (fun z => max (f3 (ix3 z y x)) (f5 (ix3 z y x))) a) b) c) := by
  pointwise [k0_pay43, lo, hi]

set_option maxHeartbeats 1000000 in
/-- Band 13 of a block: the indicator of the plan's faces. -/
theorem band13_is {m : Fin 6 → Fin 16 → Fin 16 → Fin 16 → Prop} (f2 f3 f4 f5 : FVec Ideal S16x16x16 .f32)
    (h2 : ∀ z y x, Is (f2 (ix3 z y x)) (m 2 z y x)) (h3 : ∀ z y x, Is (f3 (ix3 z y x)) (m 3 z y x)) (h4 : ∀ z y x, Is (f4 (ix3 z y x)) (m 4 z y x)) (h5 : ∀ z y x, Is (f5 (ix3 z y x)) (m 5 z y x)) (a b c : Fin 17) :
    Is ((k0_pay43 f2 f3 f4 f5) (ix5 0 0 a b c)) (∃ ok ∈ plan 13, Placed m ok a.val b.val c.val) := by
  refine Is.of_eq (Is.congr (Is.max (Is.max (Is.max (Is.max Is.zero (Is.lo (fun x => Is.lo (fun y => Is.lo (fun z => (Is.max (h2 z y x) (h4 z y x))) a) b) c)) (Is.hi (fun x => Is.lo (fun y => Is.lo (fun z => (Is.max (h2 z y x) (h5 z y x))) a) b) c)) (Is.lo (fun x => Is.hi (fun y => Is.lo (fun z => (Is.max (h3 z y x) (h4 z y x))) a) b) c)) (Is.hi (fun x => Is.hi (fun y => Is.lo (fun z => (Is.max (h3 z y x) (h5 z y x))) a) b) c)) ?_) (band13_eq f2 f3 f4 f5 a b c)
  simp only [plan, Placed, List.mem_cons, List.not_mem_nil, or_false, false_or, exists_eq_or_imp, exists_eq_left,
    or_and_right, exists_or, or_assoc, Matrix.cons_val]

set_option maxHeartbeats 1000000 in
/-- Band 14 of a block, as moved arrays. -/
theorem band14_eq (f2 : FVec Ideal S16x16x16 .f32) (a b c : Fin 17) :
    (k0_pay44 f2) (ix5 0 0 a b c) =
      max (0 : EReal) (lo (fun x => lo (fun y => lo (fun z => f2 (ix3 z y x)) a) b) c) := by
  pointwise [k0_pay44, lo, hi]

set_option maxHeartbeats 1000000 in
/-- Band 14 of a block: the indicator of the plan's faces. -/
theorem band14_is {m : Fin 6 → Fin 16 → Fin 16 → Fin 16 → Prop} (f2 : FVec Ideal S16x16x16 .f32)
    (h2 : ∀ z y x, Is (f2 (ix3 z y x)) (m 2 z y x)) (a b c : Fin 17) :
    Is ((k0_pay44 f2) (ix5 0 0 a b c)) (∃ ok ∈ plan 14, Placed m ok a.val b.val c.val) := by
  refine Is.of_eq (Is.congr (Is.max Is.zero (Is.lo (fun x => Is.lo (fun y => Is.lo (fun z => (h2 z y x)) a) b) c)) ?_) (band14_eq f2 a b c)
  simp only [plan, Placed, List.mem_cons, List.not_mem_nil, or_false, false_or, exists_eq_or_imp, exists_eq_left,
    or_and_right, exists_or, or_assoc, Matrix.cons_val]

set_option maxHeartbeats 1000000 in
/-- Band 15 of a block, as moved arrays. -/
theorem band15_eq (f4 : FVec Ideal S16x16x16 .f32) (a b c : Fin 17) :
    (k0_pay45 f4) (ix5 0 0 a b c) =
      max (0 : EReal) (lo (fun x => lo (fun y => lo (fun z => f4 (ix3 z y x)) a) b) c) := by
  pointwise [k0_pay45, lo, hi]

set_option maxHeartbeats 1000000 in
/-- Band 15 of a block: the indicator of the plan's faces. -/
theorem band15_is {m : Fin 6 → Fin 16 → Fin 16 → Fin 16 → Prop} (f4 : FVec Ideal S16x16x16 .f32)
    (h4 : ∀ z y x, Is (f4 (ix3 z y x)) (m 4 z y x)) (a b c : Fin 17) :
    Is ((k0_pay45 f4) (ix5 0 0 a b c)) (∃ ok ∈ plan 15, Placed m ok a.val b.val c.val) := by
  refine Is.of_eq (Is.congr (Is.max Is.zero (Is.lo (fun x => Is.lo (fun y => Is.lo (fun z => (h4 z y x)) a) b) c)) ?_) (band15_eq f4 a b c)
  simp only [plan, Placed, List.mem_cons, List.not_mem_nil, or_false, false_or, exists_eq_or_imp, exists_eq_left,
    or_and_right, exists_or, or_assoc, Matrix.cons_val]

end Cert.KernelIdeal.Gen

end
-- ==== Proof.IdealBlocks.lean ====
module

public import proofs.«01_k».proof.Proof.IdealFaces
public import proofs.«01_k».proof.Proof.IdealRun
public import Idealize.ShloMosaic.Lib.Pipeline.ValueKit

@[expose] public section

set_option maxRecDepth 16384

noncomputable section

namespace Cert.KernelIdeal.Gen

open Idealize.ShloMosaic Idealize.ShloMosaic.TcCoe Idealize.SL.Sem
open Cert.Voxel

/-! What one sample's body leaves in its output blocks, read at an entry. -/

/-- A sample as a field of numbers. -/
abbrev fieldOf (x : Vec Ideal S1x16x16x16 .f32) : Field := fun z y w => x (ix4 0 z y w)

theorem ld_rIn (x : Vec Ideal S1x16x16x16 .f32) : View.ld x rIn = x := by
  funext y
  show x _ = x y
  congr 1
  funext a
  refine Fin.ext ?_
  fin_cases a <;> exact (Nat.zero_add _).trans (Nat.one_mul _)

theorem face0_is (x : Vec Ideal S1x16x16x16 .f32) (z y w : Fin 16) : Is (face0 x (ix3 z y w)) (exposed (fieldOf x) 0 z y w) := by
  unfold face0
  rw [ld_rIn]
  exact pay_face0 x z y w

theorem face1_is (x : Vec Ideal S1x16x16x16 .f32) (z y w : Fin 16) : Is (face1 x (ix3 z y w)) (exposed (fieldOf x) 1 z y w) := by
  unfold face1
  rw [ld_rIn]
  exact pay_face1 x z y w

theorem face2_is (x : Vec Ideal S1x16x16x16 .f32) (z y w : Fin 16) : Is (face2 x (ix3 z y w)) (exposed (fieldOf x) 2 z y w) := by
  unfold face2
  rw [ld_rIn]
  exact pay_face2 x z y w

theorem face3_is (x : Vec Ideal S1x16x16x16 .f32) (z y w : Fin 16) : Is (face3 x (ix3 z y w)) (exposed (fieldOf x) 3 z y w) := by
  unfold face3
  rw [ld_rIn]
  exact pay_face3 x z y w

theorem face4_is (x : Vec Ideal S1x16x16x16 .f32) (z y w : Fin 16) : Is (face4 x (ix3 z y w)) (exposed (fieldOf x) 4 z y w) := by
  unfold face4
  rw [ld_rIn]
  exact pay_face4 x z y w

theorem face5_is (x : Vec Ideal S1x16x16x16 .f32) (z y w : Fin 16) : Is (face5 x (ix3 z y w)) (exposed (fieldOf x) 5 z y w) := by
  unfold face5
  rw [ld_rIn]
  exact pay_face5 x z y w

/-- The marks of a sample's used vertices. -/
def usedAt (x : Vec Ideal S1x16x16x16 .f32) (a b c : Fin 17) : EReal :=
  k0_pay14 (face1 x) (face3 x) (face5 x) (k0_pay12 (face0 x) (face1 x) (face2 x) (face3 x) (face4 x) (face5 x) (k0_pay10 (face0 x) (face2 x) (face4 x)) (k0_pay11 (face0 x) (face2 x) (face5 x))) (k0_pay13 (face1 x) (face3 x) (face4 x)) (ix3 a b c)

theorem usedAt_is (x : Vec Ideal S1x16x16x16 .f32) (a b c : Fin 17) :
    Is (usedAt x a b c) (∃ ok ∈ usedPlan, Placed (exposed (fieldOf x)) ok a.val b.val c.val) :=
  used_is _ _ _ _ _ _ (face0_is x) (face1_is x) (face2_is x) (face3_is x) (face4_is x) (face5_is x) a b c

/-- A vertex's coordinate along an axis, less a half, kept where the vertex is used. -/
def posAt (x : Vec Ideal S1x16x16x16 .f32) (p : Fin 17) (a b c : Fin 17) : EReal :=
  FloatOps.mulf (F := Ideal) (φ := .f32) (FloatOps.subf (F := Ideal) (φ := .f32) (FloatOps.sitofp (F := Ideal) FTy.f32 (BitVec.ofNat 32 p.val)) half) (usedAt x a b c)

theorem postPay0_at (x : Vec Ideal S1x16x16x16 .f32) (a b c : Fin 17) :
    postPay0 x (ix5 0 0 a b c) = posAt x a a b c := by
  unfold postPay0 posAt usedAt
  generalize face0 x = f0
  generalize face1 x = f1
  generalize face2 x = f2
  generalize face3 x = f3
  generalize face4 x = f4
  generalize face5 x = f5
  pointwise [k0_pay16, k0_pay14]

theorem postPay1_at (x : Vec Ideal S1x16x16x16 .f32) (a b c : Fin 17) :
    postPay1 x (ix5 0 0 a b c) = posAt x b a b c := by
  unfold postPay1 posAt usedAt
  generalize face0 x = f0
  generalize face1 x = f1
  generalize face2 x = f2
  generalize face3 x = f3
  generalize face4 x = f4
  generalize face5 x = f5
  pointwise [k0_pay18, k0_pay17, k0_pay14]

theorem postPay2_at (x : Vec Ideal S1x16x16x16 .f32) (a b c : Fin 17) :
    postPay2 x (ix5 0 0 a b c) = posAt x c a b c := by
  unfold postPay2 posAt usedAt
  generalize face0 x = f0
  generalize face1 x = f1
  generalize face2 x = f2
  generalize face3 x = f3
  generalize face4 x = f4
  generalize face5 x = f5
  pointwise [k0_pay19, k0_pay14]

/-- The axis of a position's component. -/
def axisOf (p : Fin 3) (a b c : Fin 17) : Fin 17 := ![a, b, c] p

theorem postBlk_at (x : Vec Ideal S1x16x16x16 .f32) (p : Fin 3) (a b c : Fin 17) :
    postBlk x (ix5 0 p a b c) = posAt x (axisOf p a b c) a b c := by
  canon_tiles y h using post_cover ..
  · obtain ⟨rfl, e⟩ : p = 2 ∧ y = ix5 0 0 a b c := by
      have q1 : p.val = 2 + (y 1).val := by simpa using h1
      refine ⟨Fin.ext (by omega), funext fun i => Fin.ext ?_⟩
      match i with
      | 0 => show (y 0).val = 0; omega
      | 1 => show (y 1).val = 0; omega
      | 2 => exact h2.symm
      | 3 => exact h3.symm
      | 4 => exact h4.symm
    rw [e]; exact postPay2_at x a b c
  · obtain ⟨rfl, e⟩ : p = 1 ∧ y = ix5 0 0 a b c := by
      have q1 : p.val = 1 + (y 1).val := by simpa using h1
      refine ⟨Fin.ext (by omega), funext fun i => Fin.ext ?_⟩
      match i with
      | 0 => show (y 0).val = 0; omega
      | 1 => show (y 1).val = 0; omega
      | 2 => exact h2.symm
      | 3 => exact h3.symm
      | 4 => exact h4.symm
    rw [e]; exact postPay1_at x a b c
  · obtain ⟨rfl, e⟩ : p = 0 ∧ y = ix5 0 0 a b c := by
      have q1 : p.val = 0 + (y 1).val := by simpa using h1
      refine ⟨Fin.ext (by omega), funext fun i => Fin.ext ?_⟩
      match i with
      | 0 => show (y 0).val = 0; omega
      | 1 => show (y 1).val = 0; omega
      | 2 => exact h2.symm
      | 3 => exact h3.symm
      | 4 => exact h4.symm
    rw [e]; exact postPay0_at x a b c

theorem bandPay0_is (x : Vec Ideal S1x16x16x16 .f32) (a b c : Fin 17) :
    Is (bandPay0 x (ix5 0 0 a b c)) (∃ ok ∈ plan 0, Placed (exposed (fieldOf x)) ok a.val b.val c.val) :=
  band0_is _ (face4_is x) a b c

theorem bandPay1_is (x : Vec Ideal S1x16x16x16 .f32) (a b c : Fin 17) :
    Is (bandPay1 x (ix5 0 0 a b c)) (∃ ok ∈ plan 1, Placed (exposed (fieldOf x)) ok a.val b.val c.val) :=
  band1_is _ (face2_is x) a b c

theorem bandPay2_is (x : Vec Ideal S1x16x16x16 .f32) (a b c : Fin 17) :
    Is (bandPay2 x (ix5 0 0 a b c)) (∃ ok ∈ plan 2, Placed (exposed (fieldOf x)) ok a.val b.val c.val) :=
  band2_is _ _ _ _ (face2_is x) (face3_is x) (face4_is x) (face5_is x) a b c

theorem bandPay3_is (x : Vec Ideal S1x16x16x16 .f32) (a b c : Fin 17) :
    Is (bandPay3 x (ix5 0 0 a b c)) (∃ ok ∈ plan 3, Placed (exposed (fieldOf x)) ok a.val b.val c.val) :=
  band3_is _ (face3_is x) a b c

theorem bandPay4_is (x : Vec Ideal S1x16x16x16 .f32) (a b c : Fin 17) :
    Is (bandPay4 x (ix5 0 0 a b c)) (∃ ok ∈ plan 4, Placed (exposed (fieldOf x)) ok a.val b.val c.val) :=
  band4_is _ (face5_is x) a b c

theorem bandPay5_is (x : Vec Ideal S1x16x16x16 .f32) (a b c : Fin 17) :
    Is (bandPay5 x (ix5 0 0 a b c)) (∃ ok ∈ plan 5, Placed (exposed (fieldOf x)) ok a.val b.val c.val) :=
  band5_is _ _ _ _ (face0_is x) (face1_is x) (face4_is x) (face5_is x) a b c

theorem bandPay6_is (x : Vec Ideal S1x16x16x16 .f32) (a b c : Fin 17) :
    Is (bandPay6 x (ix5 0 0 a b c)) (∃ ok ∈ plan 6, Placed (exposed (fieldOf x)) ok a.val b.val c.val) :=
  band6_is _ _ (face0_is x) (face1_is x) a b c

theorem bandPay7_is (x : Vec Ideal S1x16x16x16 .f32) (a b c : Fin 17) :
    Is (bandPay7 x (ix5 0 0 a b c)) (∃ ok ∈ plan 7, Placed (exposed (fieldOf x)) ok a.val b.val c.val) :=
  band7_is _ _ _ _ (face0_is x) (face1_is x) (face2_is x) (face3_is x) a b c

theorem bandPay8_is (x : Vec Ideal S1x16x16x16 .f32) (a b c : Fin 17) :
    Is (bandPay8 x (ix5 0 0 a b c)) (∃ ok ∈ plan 8, Placed (exposed (fieldOf x)) ok a.val b.val c.val) :=
  band8_is _ _ _ _ (face0_is x) (face1_is x) (face2_is x) (face3_is x) a b c

theorem bandPay9_is (x : Vec Ideal S1x16x16x16 .f32) (a b c : Fin 17) :
    Is (bandPay9 x (ix5 0 0 a b c)) (∃ ok ∈ plan 9, Placed (exposed (fieldOf x)) ok a.val b.val c.val) :=
  band9_is _ _ (face0_is x) (face1_is x) a b c

theorem bandPay10_is (x : Vec Ideal S1x16x16x16 .f32) (a b c : Fin 17) :
    Is (bandPay10 x (ix5 0 0 a b c)) (∃ ok ∈ plan 10, Placed (exposed (fieldOf x)) ok a.val b.val c.val) :=
  band10_is _ _ _ _ (face0_is x) (face1_is x) (face4_is x) (face5_is x) a b c

theorem bandPay11_is (x : Vec Ideal S1x16x16x16 .f32) (a b c : Fin 17) :
    Is (bandPay11 x (ix5 0 0 a b c)) (∃ ok ∈ plan 11, Placed (exposed (fieldOf x)) ok a.val b.val c.val) :=
  band11_is _ (face5_is x) a b c

theorem bandPay12_is (x : Vec Ideal S1x16x16x16 .f32) (a b c : Fin 17) :
    Is (bandPay12 x (ix5 0 0 a b c)) (∃ ok ∈ plan 12, Placed (exposed (fieldOf x)) ok a.val b.val c.val) :=
  band12_is _ (face3_is x) a b c

theorem bandPay13_is (x : Vec Ideal S1x16x16x16 .f32) (a b c : Fin 17) :
    Is (bandPay13 x (ix5 0 0 a b c)) (∃ ok ∈ plan 13, Placed (exposed (fieldOf x)) ok a.val b.val c.val) :=
  band13_is _ _ _ _ (face2_is x) (face3_is x) (face4_is x) (face5_is x) a b c

theorem bandPay14_is (x : Vec Ideal S1x16x16x16 .f32) (a b c : Fin 17) :
    Is (bandPay14 x (ix5 0 0 a b c)) (∃ ok ∈ plan 14, Placed (exposed (fieldOf x)) ok a.val b.val c.val) :=
  band14_is _ (face2_is x) a b c

theorem bandPay15_is (x : Vec Ideal S1x16x16x16 .f32) (a b c : Fin 17) :
    Is (bandPay15 x (ix5 0 0 a b c)) (∃ ok ∈ plan 15, Placed (exposed (fieldOf x)) ok a.val b.val c.val) :=
  band15_is _ (face4_is x) a b c

theorem bandBlk_is (x : Vec Ideal S1x16x16x16 .f32) (t : Fin 16) (a b c : Fin 17) :
    Is (bandBlk x (ix5 0 t a b c)) (∃ ok ∈ plan t, Placed (exposed (fieldOf x)) ok a.val b.val c.val) := by
  obtain ⟨v, hv⟩ : ∃ v : EReal, Is v (∃ ok ∈ plan t, Placed (exposed (fieldOf x)) ok a.val b.val c.val) := by
    by_cases h : ∃ ok ∈ plan t, Placed (exposed (fieldOf x)) ok a.val b.val c.val
    · exact ⟨1, fun _ => rfl, fun h' => absurd h h'⟩
    · exact ⟨0, fun h' => absurd h' h, fun _ => rfl⟩
  refine Is.of_eq hv ?_
  canon_tiles y h using band_cover ..
  · obtain ⟨rfl, e⟩ : t = 15 ∧ y = ix5 0 0 a b c := by
      have q1 : t.val = 15 + (y 1).val := by simpa using h1
      refine ⟨Fin.ext (by omega), funext fun i => Fin.ext ?_⟩
      match i with
      | 0 => show (y 0).val = 0; omega
      | 1 => show (y 1).val = 0; omega
      | 2 => exact h2.symm
      | 3 => exact h3.symm
      | 4 => exact h4.symm
    rw [e]; exact Is.eq (bandPay15_is x a b c) hv
  · obtain ⟨rfl, e⟩ : t = 14 ∧ y = ix5 0 0 a b c := by
      have q1 : t.val = 14 + (y 1).val := by simpa using h1
      refine ⟨Fin.ext (by omega), funext fun i => Fin.ext ?_⟩
      match i with
      | 0 => show (y 0).val = 0; omega
      | 1 => show (y 1).val = 0; omega
      | 2 => exact h2.symm
      | 3 => exact h3.symm
      | 4 => exact h4.symm
    rw [e]; exact Is.eq (bandPay14_is x a b c) hv
  · obtain ⟨rfl, e⟩ : t = 13 ∧ y = ix5 0 0 a b c := by
      have q1 : t.val = 13 + (y 1).val := by simpa using h1
      refine ⟨Fin.ext (by omega), funext fun i => Fin.ext ?_⟩
      match i with
      | 0 => show (y 0).val = 0; omega
      | 1 => show (y 1).val = 0; omega
      | 2 => exact h2.symm
      | 3 => exact h3.symm
      | 4 => exact h4.symm
    rw [e]; exact Is.eq (bandPay13_is x a b c) hv
  · obtain ⟨rfl, e⟩ : t = 12 ∧ y = ix5 0 0 a b c := by
      have q1 : t.val = 12 + (y 1).val := by simpa using h1
      refine ⟨Fin.ext (by omega), funext fun i => Fin.ext ?_⟩
      match i with
      | 0 => show (y 0).val = 0; omega
      | 1 => show (y 1).val = 0; omega
      | 2 => exact h2.symm
      | 3 => exact h3.symm
      | 4 => exact h4.symm
    rw [e]; exact Is.eq (bandPay12_is x a b c) hv
  · obtain ⟨rfl, e⟩ : t = 11 ∧ y = ix5 0 0 a b c := by
      have q1 : t.val = 11 + (y 1).val := by simpa using h1
      refine ⟨Fin.ext (by omega), funext fun i => Fin.ext ?_⟩
      match i with
      | 0 => show (y 0).val = 0; omega
      | 1 => show (y 1).val = 0; omega
      | 2 => exact h2.symm
      | 3 => exact h3.symm
      | 4 => exact h4.symm
    rw [e]; exact Is.eq (bandPay11_is x a b c) hv
  · obtain ⟨rfl, e⟩ : t = 10 ∧ y = ix5 0 0 a b c := by
      have q1 : t.val = 10 + (y 1).val := by simpa using h1
      refine ⟨Fin.ext (by omega), funext fun i => Fin.ext ?_⟩
      match i with
      | 0 => show (y 0).val = 0; omega
      | 1 => show (y 1).val = 0; omega
      | 2 => exact h2.symm
      | 3 => exact h3.symm
      | 4 => exact h4.symm
    rw [e]; exact Is.eq (bandPay10_is x a b c) hv
  · obtain ⟨rfl, e⟩ : t = 9 ∧ y = ix5 0 0 a b c := by
      have q1 : t.val = 9 + (y 1).val := by simpa using h1
      refine ⟨Fin.ext (by omega), funext fun i => Fin.ext ?_⟩
      match i with
      | 0 => show (y 0).val = 0; omega
      | 1 => show (y 1).val = 0; omega
      | 2 => exact h2.symm
      | 3 => exact h3.symm
      | 4 => exact h4.symm
    rw [e]; exact Is.eq (bandPay9_is x a b c) hv
  · obtain ⟨rfl, e⟩ : t = 8 ∧ y = ix5 0 0 a b c := by
      have q1 : t.val = 8 + (y 1).val := by simpa using h1
      refine ⟨Fin.ext (by omega), funext fun i => Fin.ext ?_⟩
      match i with
      | 0 => show (y 0).val = 0; omega
      | 1 => show (y 1).val = 0; omega
      | 2 => exact h2.symm
      | 3 => exact h3.symm
      | 4 => exact h4.symm
    rw [e]; exact Is.eq (bandPay8_is x a b c) hv
  · obtain ⟨rfl, e⟩ : t = 7 ∧ y = ix5 0 0 a b c := by
      have q1 : t.val = 7 + (y 1).val := by simpa using h1
      refine ⟨Fin.ext (by omega), funext fun i => Fin.ext ?_⟩
      match i with
      | 0 => show (y 0).val = 0; omega
      | 1 => show (y 1).val = 0; omega
      | 2 => exact h2.symm
      | 3 => exact h3.symm
      | 4 => exact h4.symm
    rw [e]; exact Is.eq (bandPay7_is x a b c) hv
  · obtain ⟨rfl, e⟩ : t = 6 ∧ y = ix5 0 0 a b c := by
      have q1 : t.val = 6 + (y 1).val := by simpa using h1
      refine ⟨Fin.ext (by omega), funext fun i => Fin.ext ?_⟩
      match i with
      | 0 => show (y 0).val = 0; omega
      | 1 => show (y 1).val = 0; omega
      | 2 => exact h2.symm
      | 3 => exact h3.symm
      | 4 => exact h4.symm
    rw [e]; exact Is.eq (bandPay6_is x a b c) hv
  · obtain ⟨rfl, e⟩ : t = 5 ∧ y = ix5 0 0 a b c := by
      have q1 : t.val = 5 + (y 1).val := by simpa using h1
      refine ⟨Fin.ext (by omega), funext fun i => Fin.ext ?_⟩
      match i with
      | 0 => show (y 0).val = 0; omega
      | 1 => show (y 1).val = 0; omega
      | 2 => exact h2.symm
      | 3 => exact h3.symm
      | 4 => exact h4.symm
    rw [e]; exact Is.eq (bandPay5_is x a b c) hv
  · obtain ⟨rfl, e⟩ : t = 4 ∧ y = ix5 0 0 a b c := by
      have q1 : t.val = 4 + (y 1).val := by simpa using h1
      refine ⟨Fin.ext (by omega), funext fun i => Fin.ext ?_⟩
      match i with
      | 0 => show (y 0).val = 0; omega
      | 1 => show (y 1).val = 0; omega
      | 2 => exact h2.symm
      | 3 => exact h3.symm
      | 4 => exact h4.symm
    rw [e]; exact Is.eq (bandPay4_is x a b c) hv
  · obtain ⟨rfl, e⟩ : t = 3 ∧ y = ix5 0 0 a b c := by
      have q1 : t.val = 3 + (y 1).val := by simpa using h1
      refine ⟨Fin.ext (by omega), funext fun i => Fin.ext ?_⟩
      match i with
      | 0 => show (y 0).val = 0; omega
      | 1 => show (y 1).val = 0; omega
      | 2 => exact h2.symm
      | 3 => exact h3.symm
      | 4 => exact h4.symm
    rw [e]; exact Is.eq (bandPay3_is x a b c) hv
  · obtain ⟨rfl, e⟩ : t = 2 ∧ y = ix5 0 0 a b c := by
      have q1 : t.val = 2 + (y 1).val := by simpa using h1
      refine ⟨Fin.ext (by omega), funext fun i => Fin.ext ?_⟩
      match i with
      | 0 => show (y 0).val = 0; omega
      | 1 => show (y 1).val = 0; omega
      | 2 => exact h2.symm
      | 3 => exact h3.symm
      | 4 => exact h4.symm
    rw [e]; exact Is.eq (bandPay2_is x a b c) hv
  · obtain ⟨rfl, e⟩ : t = 1 ∧ y = ix5 0 0 a b c := by
      have q1 : t.val = 1 + (y 1).val := by simpa using h1
      refine ⟨Fin.ext (by omega), funext fun i => Fin.ext ?_⟩
      match i with
      | 0 => show (y 0).val = 0; omega
      | 1 => show (y 1).val = 0; omega
      | 2 => exact h2.symm
      | 3 => exact h3.symm
      | 4 => exact h4.symm
    rw [e]; exact Is.eq (bandPay1_is x a b c) hv
  · obtain ⟨rfl, e⟩ : t = 0 ∧ y = ix5 0 0 a b c := by
      have q1 : t.val = 0 + (y 1).val := by simpa using h1
      refine ⟨Fin.ext (by omega), funext fun i => Fin.ext ?_⟩
      match i with
      | 0 => show (y 0).val = 0; omega
      | 1 => show (y 1).val = 0; omega
      | 2 => exact h2.symm
      | 3 => exact h3.symm
      | 4 => exact h4.symm
    rw [e]; exact Is.eq (bandPay0_is x a b c) hv

/-- A triangle's corner where its face is exposed, else minus one. -/
def meshAt (f : FVec Ideal S16x16x16 .f32) (w : BitVec 32) (a b c : Fin 16) : BitVec 32 :=
  if (0 : EReal) < f (ix3 a b c) then w else 4294967295#32

/-- The mask of each face. -/
def faceOf (x : Vec Ideal S1x16x16x16 .f32) : Fin 6 → FVec Ideal S16x16x16 .f32 := ![face0 x, face1 x, face2 x, face3 x, face4 x, face5 x]

theorem faceOf_is (x : Vec Ideal S1x16x16x16 .f32) (k : Fin 6) (z y w : Fin 16) : Is (faceOf x k (ix3 z y w)) (exposed (fieldOf x) k z y w) := by
  match k with
  | 0 => exact face0_is x z y w
  | 1 => exact face1_is x z y w
  | 2 => exact face2_is x z y w
  | 3 => exact face3_is x z y w
  | 4 => exact face4_is x z y w
  | 5 => exact face5_is x z y w

theorem meshPay0_at (x : Vec Ideal S1x16x16x16 .f32) (x1 : Vec Ideal S6x2x3x16x16x16 .i32) (a b c : Fin 16) :
    meshPay0 x x1 (ix7 0 0 0 0 a b c) = meshAt (faceOf x 0) (x1 (ix6 0 0 0 a b c)) a b c := by
  show meshPay0 x x1 (ix7 0 0 0 0 a b c) = meshAt (face0 x) (x1 (ix6 0 0 0 a b c)) a b c
  unfold meshPay0 meshAt
  generalize face0 x = f
  pointwise [k0_pay47, k0_pay48, k0_pay46]

theorem meshPay1_at (x : Vec Ideal S1x16x16x16 .f32) (x1 : Vec Ideal S6x2x3x16x16x16 .i32) (a b c : Fin 16) :
    meshPay1 x x1 (ix7 0 0 0 0 a b c) = meshAt (faceOf x 0) (x1 (ix6 0 0 1 a b c)) a b c := by
  show meshPay1 x x1 (ix7 0 0 0 0 a b c) = meshAt (face0 x) (x1 (ix6 0 0 1 a b c)) a b c
  unfold meshPay1 meshAt
  generalize face0 x = f
  pointwise [k0_pay46, k0_pay49]

theorem meshPay2_at (x : Vec Ideal S1x16x16x16 .f32) (x1 : Vec Ideal S6x2x3x16x16x16 .i32) (a b c : Fin 16) :
    meshPay2 x x1 (ix7 0 0 0 0 a b c) = meshAt (faceOf x 0) (x1 (ix6 0 0 2 a b c)) a b c := by
  show meshPay2 x x1 (ix7 0 0 0 0 a b c) = meshAt (face0 x) (x1 (ix6 0 0 2 a b c)) a b c
  unfold meshPay2 meshAt
  generalize face0 x = f
  pointwise [k0_pay46, k0_pay50]

theorem meshPay3_at (x : Vec Ideal S1x16x16x16 .f32) (x1 : Vec Ideal S6x2x3x16x16x16 .i32) (a b c : Fin 16) :
    meshPay3 x x1 (ix7 0 0 0 0 a b c) = meshAt (faceOf x 0) (x1 (ix6 0 1 0 a b c)) a b c := by
  show meshPay3 x x1 (ix7 0 0 0 0 a b c) = meshAt (face0 x) (x1 (ix6 0 1 0 a b c)) a b c
  unfold meshPay3 meshAt
  generalize face0 x = f
  pointwise [k0_pay46, k0_pay51, k0_pay52]

theorem meshPay4_at (x : Vec Ideal S1x16x16x16 .f32) (x1 : Vec Ideal S6x2x3x16x16x16 .i32) (a b c : Fin 16) :
    meshPay4 x x1 (ix7 0 0 0 0 a b c) = meshAt (faceOf x 0) (x1 (ix6 0 1 1 a b c)) a b c := by
  show meshPay4 x x1 (ix7 0 0 0 0 a b c) = meshAt (face0 x) (x1 (ix6 0 1 1 a b c)) a b c
  unfold meshPay4 meshAt
  generalize face0 x = f
  pointwise [k0_pay46, k0_pay53]

theorem meshPay5_at (x : Vec Ideal S1x16x16x16 .f32) (x1 : Vec Ideal S6x2x3x16x16x16 .i32) (a b c : Fin 16) :
    meshPay5 x x1 (ix7 0 0 0 0 a b c) = meshAt (faceOf x 0) (x1 (ix6 0 1 2 a b c)) a b c := by
  show meshPay5 x x1 (ix7 0 0 0 0 a b c) = meshAt (face0 x) (x1 (ix6 0 1 2 a b c)) a b c
  unfold meshPay5 meshAt
  generalize face0 x = f
  pointwise [k0_pay46, k0_pay54]

theorem meshPay6_at (x : Vec Ideal S1x16x16x16 .f32) (x1 : Vec Ideal S6x2x3x16x16x16 .i32) (a b c : Fin 16) :
    meshPay6 x x1 (ix7 0 0 0 0 a b c) = meshAt (faceOf x 1) (x1 (ix6 1 0 0 a b c)) a b c := by
  show meshPay6 x x1 (ix7 0 0 0 0 a b c) = meshAt (face1 x) (x1 (ix6 1 0 0 a b c)) a b c
  unfold meshPay6 meshAt
  generalize face1 x = f
  pointwise [k0_pay55, k0_pay56]

theorem meshPay7_at (x : Vec Ideal S1x16x16x16 .f32) (x1 : Vec Ideal S6x2x3x16x16x16 .i32) (a b c : Fin 16) :
    meshPay7 x x1 (ix7 0 0 0 0 a b c) = meshAt (faceOf x 1) (x1 (ix6 1 0 1 a b c)) a b c := by
  show meshPay7 x x1 (ix7 0 0 0 0 a b c) = meshAt (face1 x) (x1 (ix6 1 0 1 a b c)) a b c
  unfold meshPay7 meshAt
  generalize face1 x = f
  pointwise [k0_pay55, k0_pay57]

theorem meshPay8_at (x : Vec Ideal S1x16x16x16 .f32) (x1 : Vec Ideal S6x2x3x16x16x16 .i32) (a b c : Fin 16) :
    meshPay8 x x1 (ix7 0 0 0 0 a b c) = meshAt (faceOf x 1) (x1 (ix6 1 0 2 a b c)) a b c := by
  show meshPay8 x x1 (ix7 0 0 0 0 a b c) = meshAt (face1 x) (x1 (ix6 1 0 2 a b c)) a b c
  unfold meshPay8 meshAt
  generalize face1 x = f
  pointwise [k0_pay55, k0_pay58, k0_pay59]

theorem meshPay9_at (x : Vec Ideal S1x16x16x16 .f32) (x1 : Vec Ideal S6x2x3x16x16x16 .i32) (a b c : Fin 16) :
    meshPay9 x x1 (ix7 0 0 0 0 a b c) = meshAt (faceOf x 1) (x1 (ix6 1 1 0 a b c)) a b c := by
  show meshPay9 x x1 (ix7 0 0 0 0 a b c) = meshAt (face1 x) (x1 (ix6 1 1 0 a b c)) a b c
  unfold meshPay9 meshAt
  generalize face1 x = f
  pointwise [k0_pay55, k0_pay60]

theorem meshPay10_at (x : Vec Ideal S1x16x16x16 .f32) (x1 : Vec Ideal S6x2x3x16x16x16 .i32) (a b c : Fin 16) :
    meshPay10 x x1 (ix7 0 0 0 0 a b c) = meshAt (faceOf x 1) (x1 (ix6 1 1 1 a b c)) a b c := by
  show meshPay10 x x1 (ix7 0 0 0 0 a b c) = meshAt (face1 x) (x1 (ix6 1 1 1 a b c)) a b c
  unfold meshPay10 meshAt
  generalize face1 x = f
  pointwise [k0_pay55, k0_pay61]

theorem meshPay11_at (x : Vec Ideal S1x16x16x16 .f32) (x1 : Vec Ideal S6x2x3x16x16x16 .i32) (a b c : Fin 16) :
    meshPay11 x x1 (ix7 0 0 0 0 a b c) = meshAt (faceOf x 1) (x1 (ix6 1 1 2 a b c)) a b c := by
  show meshPay11 x x1 (ix7 0 0 0 0 a b c) = meshAt (face1 x) (x1 (ix6 1 1 2 a b c)) a b c
  unfold meshPay11 meshAt
  generalize face1 x = f
  pointwise [k0_pay55, k0_pay62, k0_pay63, k0_pay64]

theorem meshPay12_at (x : Vec Ideal S1x16x16x16 .f32) (x1 : Vec Ideal S6x2x3x16x16x16 .i32) (a b c : Fin 16) :
    meshPay12 x x1 (ix7 0 0 0 0 a b c) = meshAt (faceOf x 2) (x1 (ix6 2 0 0 a b c)) a b c := by
  show meshPay12 x x1 (ix7 0 0 0 0 a b c) = meshAt (face2 x) (x1 (ix6 2 0 0 a b c)) a b c
  unfold meshPay12 meshAt
  generalize face2 x = f
  pointwise [k0_pay66, k0_pay65]

theorem meshPay13_at (x : Vec Ideal S1x16x16x16 .f32) (x1 : Vec Ideal S6x2x3x16x16x16 .i32) (a b c : Fin 16) :
    meshPay13 x x1 (ix7 0 0 0 0 a b c) = meshAt (faceOf x 2) (x1 (ix6 2 0 1 a b c)) a b c := by
  show meshPay13 x x1 (ix7 0 0 0 0 a b c) = meshAt (face2 x) (x1 (ix6 2 0 1 a b c)) a b c
  unfold meshPay13 meshAt
  generalize face2 x = f
  pointwise [k0_pay67, k0_pay65]

theorem meshPay14_at (x : Vec Ideal S1x16x16x16 .f32) (x1 : Vec Ideal S6x2x3x16x16x16 .i32) (a b c : Fin 16) :
    meshPay14 x x1 (ix7 0 0 0 0 a b c) = meshAt (faceOf x 2) (x1 (ix6 2 0 2 a b c)) a b c := by
  show meshPay14 x x1 (ix7 0 0 0 0 a b c) = meshAt (face2 x) (x1 (ix6 2 0 2 a b c)) a b c
  unfold meshPay14 meshAt
  generalize face2 x = f
  pointwise [k0_pay65, k0_pay68]

theorem meshPay15_at (x : Vec Ideal S1x16x16x16 .f32) (x1 : Vec Ideal S6x2x3x16x16x16 .i32) (a b c : Fin 16) :
    meshPay15 x x1 (ix7 0 0 0 0 a b c) = meshAt (faceOf x 2) (x1 (ix6 2 1 0 a b c)) a b c := by
  show meshPay15 x x1 (ix7 0 0 0 0 a b c) = meshAt (face2 x) (x1 (ix6 2 1 0 a b c)) a b c
  unfold meshPay15 meshAt
  generalize face2 x = f
  pointwise [k0_pay65, k0_pay69]

theorem meshPay16_at (x : Vec Ideal S1x16x16x16 .f32) (x1 : Vec Ideal S6x2x3x16x16x16 .i32) (a b c : Fin 16) :
    meshPay16 x x1 (ix7 0 0 0 0 a b c) = meshAt (faceOf x 2) (x1 (ix6 2 1 1 a b c)) a b c := by
  show meshPay16 x x1 (ix7 0 0 0 0 a b c) = meshAt (face2 x) (x1 (ix6 2 1 1 a b c)) a b c
  unfold meshPay16 meshAt
  generalize face2 x = f
  pointwise [k0_pay65, k0_pay70, k0_pay71]

theorem meshPay17_at (x : Vec Ideal S1x16x16x16 .f32) (x1 : Vec Ideal S6x2x3x16x16x16 .i32) (a b c : Fin 16) :
    meshPay17 x x1 (ix7 0 0 0 0 a b c) = meshAt (faceOf x 2) (x1 (ix6 2 1 2 a b c)) a b c := by
  show meshPay17 x x1 (ix7 0 0 0 0 a b c) = meshAt (face2 x) (x1 (ix6 2 1 2 a b c)) a b c
  unfold meshPay17 meshAt
  generalize face2 x = f
  pointwise [k0_pay65, k0_pay72]

theorem meshPay18_at (x : Vec Ideal S1x16x16x16 .f32) (x1 : Vec Ideal S6x2x3x16x16x16 .i32) (a b c : Fin 16) :
    meshPay18 x x1 (ix7 0 0 0 0 a b c) = meshAt (faceOf x 3) (x1 (ix6 3 0 0 a b c)) a b c := by
  show meshPay18 x x1 (ix7 0 0 0 0 a b c) = meshAt (face3 x) (x1 (ix6 3 0 0 a b c)) a b c
  unfold meshPay18 meshAt
  generalize face3 x = f
  pointwise [k0_pay74, k0_pay73]

theorem meshPay19_at (x : Vec Ideal S1x16x16x16 .f32) (x1 : Vec Ideal S6x2x3x16x16x16 .i32) (a b c : Fin 16) :
    meshPay19 x x1 (ix7 0 0 0 0 a b c) = meshAt (faceOf x 3) (x1 (ix6 3 0 1 a b c)) a b c := by
  show meshPay19 x x1 (ix7 0 0 0 0 a b c) = meshAt (face3 x) (x1 (ix6 3 0 1 a b c)) a b c
  unfold meshPay19 meshAt
  generalize face3 x = f
  pointwise [k0_pay73, k0_pay75, k0_pay76]

theorem meshPay20_at (x : Vec Ideal S1x16x16x16 .f32) (x1 : Vec Ideal S6x2x3x16x16x16 .i32) (a b c : Fin 16) :
    meshPay20 x x1 (ix7 0 0 0 0 a b c) = meshAt (faceOf x 3) (x1 (ix6 3 0 2 a b c)) a b c := by
  show meshPay20 x x1 (ix7 0 0 0 0 a b c) = meshAt (face3 x) (x1 (ix6 3 0 2 a b c)) a b c
  unfold meshPay20 meshAt
  generalize face3 x = f
  pointwise [k0_pay73, k0_pay77]

theorem meshPay21_at (x : Vec Ideal S1x16x16x16 .f32) (x1 : Vec Ideal S6x2x3x16x16x16 .i32) (a b c : Fin 16) :
    meshPay21 x x1 (ix7 0 0 0 0 a b c) = meshAt (faceOf x 3) (x1 (ix6 3 1 0 a b c)) a b c := by
  show meshPay21 x x1 (ix7 0 0 0 0 a b c) = meshAt (face3 x) (x1 (ix6 3 1 0 a b c)) a b c
  unfold meshPay21 meshAt
  generalize face3 x = f
  pointwise [k0_pay73, k0_pay78]

theorem meshPay22_at (x : Vec Ideal S1x16x16x16 .f32) (x1 : Vec Ideal S6x2x3x16x16x16 .i32) (a b c : Fin 16) :
    meshPay22 x x1 (ix7 0 0 0 0 a b c) = meshAt (faceOf x 3) (x1 (ix6 3 1 1 a b c)) a b c := by
  show meshPay22 x x1 (ix7 0 0 0 0 a b c) = meshAt (face3 x) (x1 (ix6 3 1 1 a b c)) a b c
  unfold meshPay22 meshAt
  generalize face3 x = f
  pointwise [k0_pay73, k0_pay79]

theorem meshPay23_at (x : Vec Ideal S1x16x16x16 .f32) (x1 : Vec Ideal S6x2x3x16x16x16 .i32) (a b c : Fin 16) :
    meshPay23 x x1 (ix7 0 0 0 0 a b c) = meshAt (faceOf x 3) (x1 (ix6 3 1 2 a b c)) a b c := by
  show meshPay23 x x1 (ix7 0 0 0 0 a b c) = meshAt (face3 x) (x1 (ix6 3 1 2 a b c)) a b c
  unfold meshPay23 meshAt
  generalize face3 x = f
  pointwise [k0_pay73, k0_pay80]

theorem meshPay24_at (x : Vec Ideal S1x16x16x16 .f32) (x1 : Vec Ideal S6x2x3x16x16x16 .i32) (a b c : Fin 16) :
    meshPay24 x x1 (ix7 0 0 0 0 a b c) = meshAt (faceOf x 4) (x1 (ix6 4 0 0 a b c)) a b c := by
  show meshPay24 x x1 (ix7 0 0 0 0 a b c) = meshAt (face4 x) (x1 (ix6 4 0 0 a b c)) a b c
  unfold meshPay24 meshAt
  generalize face4 x = f
  pointwise [k0_pay82, k0_pay83, k0_pay81]

theorem meshPay25_at (x : Vec Ideal S1x16x16x16 .f32) (x1 : Vec Ideal S6x2x3x16x16x16 .i32) (a b c : Fin 16) :
    meshPay25 x x1 (ix7 0 0 0 0 a b c) = meshAt (faceOf x 4) (x1 (ix6 4 0 1 a b c)) a b c := by
  show meshPay25 x x1 (ix7 0 0 0 0 a b c) = meshAt (face4 x) (x1 (ix6 4 0 1 a b c)) a b c
  unfold meshPay25 meshAt
  generalize face4 x = f
  pointwise [k0_pay81, k0_pay84]

theorem meshPay26_at (x : Vec Ideal S1x16x16x16 .f32) (x1 : Vec Ideal S6x2x3x16x16x16 .i32) (a b c : Fin 16) :
    meshPay26 x x1 (ix7 0 0 0 0 a b c) = meshAt (faceOf x 4) (x1 (ix6 4 0 2 a b c)) a b c := by
  show meshPay26 x x1 (ix7 0 0 0 0 a b c) = meshAt (face4 x) (x1 (ix6 4 0 2 a b c)) a b c
  unfold meshPay26 meshAt
  generalize face4 x = f
  pointwise [k0_pay81, k0_pay85]

theorem meshPay27_at (x : Vec Ideal S1x16x16x16 .f32) (x1 : Vec Ideal S6x2x3x16x16x16 .i32) (a b c : Fin 16) :
    meshPay27 x x1 (ix7 0 0 0 0 a b c) = meshAt (faceOf x 4) (x1 (ix6 4 1 0 a b c)) a b c := by
  show meshPay27 x x1 (ix7 0 0 0 0 a b c) = meshAt (face4 x) (x1 (ix6 4 1 0 a b c)) a b c
  unfold meshPay27 meshAt
  generalize face4 x = f
  pointwise [k0_pay81, k0_pay86, k0_pay87]

theorem meshPay28_at (x : Vec Ideal S1x16x16x16 .f32) (x1 : Vec Ideal S6x2x3x16x16x16 .i32) (a b c : Fin 16) :
    meshPay28 x x1 (ix7 0 0 0 0 a b c) = meshAt (faceOf x 4) (x1 (ix6 4 1 1 a b c)) a b c := by
  show meshPay28 x x1 (ix7 0 0 0 0 a b c) = meshAt (face4 x) (x1 (ix6 4 1 1 a b c)) a b c
  unfold meshPay28 meshAt
  generalize face4 x = f
  pointwise [k0_pay81, k0_pay88]

theorem meshPay29_at (x : Vec Ideal S1x16x16x16 .f32) (x1 : Vec Ideal S6x2x3x16x16x16 .i32) (a b c : Fin 16) :
    meshPay29 x x1 (ix7 0 0 0 0 a b c) = meshAt (faceOf x 4) (x1 (ix6 4 1 2 a b c)) a b c := by
  show meshPay29 x x1 (ix7 0 0 0 0 a b c) = meshAt (face4 x) (x1 (ix6 4 1 2 a b c)) a b c
  unfold meshPay29 meshAt
  generalize face4 x = f
  pointwise [k0_pay81, k0_pay89]

theorem meshPay30_at (x : Vec Ideal S1x16x16x16 .f32) (x1 : Vec Ideal S6x2x3x16x16x16 .i32) (a b c : Fin 16) :
    meshPay30 x x1 (ix7 0 0 0 0 a b c) = meshAt (faceOf x 5) (x1 (ix6 5 0 0 a b c)) a b c := by
  show meshPay30 x x1 (ix7 0 0 0 0 a b c) = meshAt (face5 x) (x1 (ix6 5 0 0 a b c)) a b c
  unfold meshPay30 meshAt
  generalize face5 x = f
  pointwise [k0_pay90, k0_pay91]

theorem meshPay31_at (x : Vec Ideal S1x16x16x16 .f32) (x1 : Vec Ideal S6x2x3x16x16x16 .i32) (a b c : Fin 16) :
    meshPay31 x x1 (ix7 0 0 0 0 a b c) = meshAt (faceOf x 5) (x1 (ix6 5 0 1 a b c)) a b c := by
  show meshPay31 x x1 (ix7 0 0 0 0 a b c) = meshAt (face5 x) (x1 (ix6 5 0 1 a b c)) a b c
  unfold meshPay31 meshAt
  generalize face5 x = f
  pointwise [k0_pay90, k0_pay92]

theorem meshPay32_at (x : Vec Ideal S1x16x16x16 .f32) (x1 : Vec Ideal S6x2x3x16x16x16 .i32) (a b c : Fin 16) :
    meshPay32 x x1 (ix7 0 0 0 0 a b c) = meshAt (faceOf x 5) (x1 (ix6 5 0 2 a b c)) a b c := by
  show meshPay32 x x1 (ix7 0 0 0 0 a b c) = meshAt (face5 x) (x1 (ix6 5 0 2 a b c)) a b c
  unfold meshPay32 meshAt
  generalize face5 x = f
  pointwise [k0_pay90, k0_pay93, k0_pay94]

theorem meshPay33_at (x : Vec Ideal S1x16x16x16 .f32) (x1 : Vec Ideal S6x2x3x16x16x16 .i32) (a b c : Fin 16) :
    meshPay33 x x1 (ix7 0 0 0 0 a b c) = meshAt (faceOf x 5) (x1 (ix6 5 1 0 a b c)) a b c := by
  show meshPay33 x x1 (ix7 0 0 0 0 a b c) = meshAt (face5 x) (x1 (ix6 5 1 0 a b c)) a b c
  unfold meshPay33 meshAt
  generalize face5 x = f
  pointwise [k0_pay90, k0_pay95]

theorem meshPay34_at (x : Vec Ideal S1x16x16x16 .f32) (x1 : Vec Ideal S6x2x3x16x16x16 .i32) (a b c : Fin 16) :
    meshPay34 x x1 (ix7 0 0 0 0 a b c) = meshAt (faceOf x 5) (x1 (ix6 5 1 1 a b c)) a b c := by
  show meshPay34 x x1 (ix7 0 0 0 0 a b c) = meshAt (face5 x) (x1 (ix6 5 1 1 a b c)) a b c
  unfold meshPay34 meshAt
  generalize face5 x = f
  pointwise [k0_pay90, k0_pay96]

theorem meshPay35_at (x : Vec Ideal S1x16x16x16 .f32) (x1 : Vec Ideal S6x2x3x16x16x16 .i32) (a b c : Fin 16) :
    meshPay35 x x1 (ix7 0 0 0 0 a b c) = meshAt (faceOf x 5) (x1 (ix6 5 1 2 a b c)) a b c := by
  show meshPay35 x x1 (ix7 0 0 0 0 a b c) = meshAt (face5 x) (x1 (ix6 5 1 2 a b c)) a b c
  unfold meshPay35 meshAt
  generalize face5 x = f
  pointwise [k0_pay1, k0_pay90, k0_pay97, k0_pay98]

theorem meshBlk_at (x : Vec Ideal S1x16x16x16 .f32) (x1 : Vec Ideal S6x2x3x16x16x16 .i32) (k : Fin 6) (t : Fin 2) (d : Fin 3) (a b c : Fin 16) :
    meshBlk x x1 (ix7 0 k t d a b c) = meshAt (faceOf x k) (x1 (ix6 k t d a b c)) a b c := by
  canon_tiles y h using mesh_cover ..
  · obtain ⟨rfl, rfl, rfl, e⟩ : k = 5 ∧ t = 1 ∧ d = 2 ∧ y = ix7 0 0 0 0 a b c := by
      have q1 : k.val = 5 + (y 1).val := by simpa using h1
      have q2 : t.val = 1 + (y 2).val := by simpa using h2
      have q3 : d.val = 2 + (y 3).val := by simpa using h3
      refine ⟨Fin.ext (by omega), Fin.ext (by omega), Fin.ext (by omega), funext fun i => Fin.ext ?_⟩
      match i with
      | 0 => show (y 0).val = 0; omega
      | 1 => show (y 1).val = 0; omega
      | 2 => show (y 2).val = 0; omega
      | 3 => show (y 3).val = 0; omega
      | 4 => exact h4.symm
      | 5 => exact h5.symm
      | 6 => exact h6.symm
    rw [e]; exact meshPay35_at x x1 a b c
  · obtain ⟨rfl, rfl, rfl, e⟩ : k = 5 ∧ t = 1 ∧ d = 1 ∧ y = ix7 0 0 0 0 a b c := by
      have q1 : k.val = 5 + (y 1).val := by simpa using h1
      have q2 : t.val = 1 + (y 2).val := by simpa using h2
      have q3 : d.val = 1 + (y 3).val := by simpa using h3
      refine ⟨Fin.ext (by omega), Fin.ext (by omega), Fin.ext (by omega), funext fun i => Fin.ext ?_⟩
      match i with
      | 0 => show (y 0).val = 0; omega
      | 1 => show (y 1).val = 0; omega
      | 2 => show (y 2).val = 0; omega
      | 3 => show (y 3).val = 0; omega
      | 4 => exact h4.symm
      | 5 => exact h5.symm
      | 6 => exact h6.symm
    rw [e]; exact meshPay34_at x x1 a b c
  · obtain ⟨rfl, rfl, rfl, e⟩ : k = 5 ∧ t = 1 ∧ d = 0 ∧ y = ix7 0 0 0 0 a b c := by
      have q1 : k.val = 5 + (y 1).val := by simpa using h1
      have q2 : t.val = 1 + (y 2).val := by simpa using h2
      have q3 : d.val = 0 + (y 3).val := by simpa using h3
      refine ⟨Fin.ext (by omega), Fin.ext (by omega), Fin.ext (by omega), funext fun i => Fin.ext ?_⟩
      match i with
      | 0 => show (y 0).val = 0; omega
      | 1 => show (y 1).val = 0; omega
      | 2 => show (y 2).val = 0; omega
      | 3 => show (y 3).val = 0; omega
      | 4 => exact h4.symm
      | 5 => exact h5.symm
      | 6 => exact h6.symm
    rw [e]; exact meshPay33_at x x1 a b c
  · obtain ⟨rfl, rfl, rfl, e⟩ : k = 5 ∧ t = 0 ∧ d = 2 ∧ y = ix7 0 0 0 0 a b c := by
      have q1 : k.val = 5 + (y 1).val := by simpa using h1
      have q2 : t.val = 0 + (y 2).val := by simpa using h2
      have q3 : d.val = 2 + (y 3).val := by simpa using h3
      refine ⟨Fin.ext (by omega), Fin.ext (by omega), Fin.ext (by omega), funext fun i => Fin.ext ?_⟩
      match i with
      | 0 => show (y 0).val = 0; omega
      | 1 => show (y 1).val = 0; omega
      | 2 => show (y 2).val = 0; omega
      | 3 => show (y 3).val = 0; omega
      | 4 => exact h4.symm
      | 5 => exact h5.symm
      | 6 => exact h6.symm
    rw [e]; exact meshPay32_at x x1 a b c
  · obtain ⟨rfl, rfl, rfl, e⟩ : k = 5 ∧ t = 0 ∧ d = 1 ∧ y = ix7 0 0 0 0 a b c := by
      have q1 : k.val = 5 + (y 1).val := by simpa using h1
      have q2 : t.val = 0 + (y 2).val := by simpa using h2
      have q3 : d.val = 1 + (y 3).val := by simpa using h3
      refine ⟨Fin.ext (by omega), Fin.ext (by omega), Fin.ext (by omega), funext fun i => Fin.ext ?_⟩
      match i with
      | 0 => show (y 0).val = 0; omega
      | 1 => show (y 1).val = 0; omega
      | 2 => show (y 2).val = 0; omega
      | 3 => show (y 3).val = 0; omega
      | 4 => exact h4.symm
      | 5 => exact h5.symm
      | 6 => exact h6.symm
    rw [e]; exact meshPay31_at x x1 a b c
  · obtain ⟨rfl, rfl, rfl, e⟩ : k = 5 ∧ t = 0 ∧ d = 0 ∧ y = ix7 0 0 0 0 a b c := by
      have q1 : k.val = 5 + (y 1).val := by simpa using h1
      have q2 : t.val = 0 + (y 2).val := by simpa using h2
      have q3 : d.val = 0 + (y 3).val := by simpa using h3
      refine ⟨Fin.ext (by omega), Fin.ext (by omega), Fin.ext (by omega), funext fun i => Fin.ext ?_⟩
      match i with
      | 0 => show (y 0).val = 0; omega
      | 1 => show (y 1).val = 0; omega
      | 2 => show (y 2).val = 0; omega
      | 3 => show (y 3).val = 0; omega
      | 4 => exact h4.symm
      | 5 => exact h5.symm
      | 6 => exact h6.symm
    rw [e]; exact meshPay30_at x x1 a b c
  · obtain ⟨rfl, rfl, rfl, e⟩ : k = 4 ∧ t = 1 ∧ d = 2 ∧ y = ix7 0 0 0 0 a b c := by
      have q1 : k.val = 4 + (y 1).val := by simpa using h1
      have q2 : t.val = 1 + (y 2).val := by simpa using h2
      have q3 : d.val = 2 + (y 3).val := by simpa using h3
      refine ⟨Fin.ext (by omega), Fin.ext (by omega), Fin.ext (by omega), funext fun i => Fin.ext ?_⟩
      match i with
      | 0 => show (y 0).val = 0; omega
      | 1 => show (y 1).val = 0; omega
      | 2 => show (y 2).val = 0; omega
      | 3 => show (y 3).val = 0; omega
      | 4 => exact h4.symm
      | 5 => exact h5.symm
      | 6 => exact h6.symm
    rw [e]; exact meshPay29_at x x1 a b c
  · obtain ⟨rfl, rfl, rfl, e⟩ : k = 4 ∧ t = 1 ∧ d = 1 ∧ y = ix7 0 0 0 0 a b c := by
      have q1 : k.val = 4 + (y 1).val := by simpa using h1
      have q2 : t.val = 1 + (y 2).val := by simpa using h2
      have q3 : d.val = 1 + (y 3).val := by simpa using h3
      refine ⟨Fin.ext (by omega), Fin.ext (by omega), Fin.ext (by omega), funext fun i => Fin.ext ?_⟩
      match i with
      | 0 => show (y 0).val = 0; omega
      | 1 => show (y 1).val = 0; omega
      | 2 => show (y 2).val = 0; omega
      | 3 => show (y 3).val = 0; omega
      | 4 => exact h4.symm
      | 5 => exact h5.symm
      | 6 => exact h6.symm
    rw [e]; exact meshPay28_at x x1 a b c
  · obtain ⟨rfl, rfl, rfl, e⟩ : k = 4 ∧ t = 1 ∧ d = 0 ∧ y = ix7 0 0 0 0 a b c := by
      have q1 : k.val = 4 + (y 1).val := by simpa using h1
      have q2 : t.val = 1 + (y 2).val := by simpa using h2
      have q3 : d.val = 0 + (y 3).val := by simpa using h3
      refine ⟨Fin.ext (by omega), Fin.ext (by omega), Fin.ext (by omega), funext fun i => Fin.ext ?_⟩
      match i with
      | 0 => show (y 0).val = 0; omega
      | 1 => show (y 1).val = 0; omega
      | 2 => show (y 2).val = 0; omega
      | 3 => show (y 3).val = 0; omega
      | 4 => exact h4.symm
      | 5 => exact h5.symm
      | 6 => exact h6.symm
    rw [e]; exact meshPay27_at x x1 a b c
  · obtain ⟨rfl, rfl, rfl, e⟩ : k = 4 ∧ t = 0 ∧ d = 2 ∧ y = ix7 0 0 0 0 a b c := by
      have q1 : k.val = 4 + (y 1).val := by simpa using h1
      have q2 : t.val = 0 + (y 2).val := by simpa using h2
      have q3 : d.val = 2 + (y 3).val := by simpa using h3
      refine ⟨Fin.ext (by omega), Fin.ext (by omega), Fin.ext (by omega), funext fun i => Fin.ext ?_⟩
      match i with
      | 0 => show (y 0).val = 0; omega
      | 1 => show (y 1).val = 0; omega
      | 2 => show (y 2).val = 0; omega
      | 3 => show (y 3).val = 0; omega
      | 4 => exact h4.symm
      | 5 => exact h5.symm
      | 6 => exact h6.symm
    rw [e]; exact meshPay26_at x x1 a b c
  · obtain ⟨rfl, rfl, rfl, e⟩ : k = 4 ∧ t = 0 ∧ d = 1 ∧ y = ix7 0 0 0 0 a b c := by
      have q1 : k.val = 4 + (y 1).val := by simpa using h1
      have q2 : t.val = 0 + (y 2).val := by simpa using h2
      have q3 : d.val = 1 + (y 3).val := by simpa using h3
      refine ⟨Fin.ext (by omega), Fin.ext (by omega), Fin.ext (by omega), funext fun i => Fin.ext ?_⟩
      match i with
      | 0 => show (y 0).val = 0; omega
      | 1 => show (y 1).val = 0; omega
      | 2 => show (y 2).val = 0; omega
      | 3 => show (y 3).val = 0; omega
      | 4 => exact h4.symm
      | 5 => exact h5.symm
      | 6 => exact h6.symm
    rw [e]; exact meshPay25_at x x1 a b c
  · obtain ⟨rfl, rfl, rfl, e⟩ : k = 4 ∧ t = 0 ∧ d = 0 ∧ y = ix7 0 0 0 0 a b c := by
      have q1 : k.val = 4 + (y 1).val := by simpa using h1
      have q2 : t.val = 0 + (y 2).val := by simpa using h2
      have q3 : d.val = 0 + (y 3).val := by simpa using h3
      refine ⟨Fin.ext (by omega), Fin.ext (by omega), Fin.ext (by omega), funext fun i => Fin.ext ?_⟩
      match i with
      | 0 => show (y 0).val = 0; omega
      | 1 => show (y 1).val = 0; omega
      | 2 => show (y 2).val = 0; omega
      | 3 => show (y 3).val = 0; omega
      | 4 => exact h4.symm
      | 5 => exact h5.symm
      | 6 => exact h6.symm
    rw [e]; exact meshPay24_at x x1 a b c
  · obtain ⟨rfl, rfl, rfl, e⟩ : k = 3 ∧ t = 1 ∧ d = 2 ∧ y = ix7 0 0 0 0 a b c := by
      have q1 : k.val = 3 + (y 1).val := by simpa using h1
      have q2 : t.val = 1 + (y 2).val := by simpa using h2
      have q3 : d.val = 2 + (y 3).val := by simpa using h3
      refine ⟨Fin.ext (by omega), Fin.ext (by omega), Fin.ext (by omega), funext fun i => Fin.ext ?_⟩
      match i with
      | 0 => show (y 0).val = 0; omega
      | 1 => show (y 1).val = 0; omega
      | 2 => show (y 2).val = 0; omega
      | 3 => show (y 3).val = 0; omega
      | 4 => exact h4.symm
      | 5 => exact h5.symm
      | 6 => exact h6.symm
    rw [e]; exact meshPay23_at x x1 a b c
  · obtain ⟨rfl, rfl, rfl, e⟩ : k = 3 ∧ t = 1 ∧ d = 1 ∧ y = ix7 0 0 0 0 a b c := by
      have q1 : k.val = 3 + (y 1).val := by simpa using h1
      have q2 : t.val = 1 + (y 2).val := by simpa using h2
      have q3 : d.val = 1 + (y 3).val := by simpa using h3
      refine ⟨Fin.ext (by omega), Fin.ext (by omega), Fin.ext (by omega), funext fun i => Fin.ext ?_⟩
      match i with
      | 0 => show (y 0).val = 0; omega
      | 1 => show (y 1).val = 0; omega
      | 2 => show (y 2).val = 0; omega
      | 3 => show (y 3).val = 0; omega
      | 4 => exact h4.symm
      | 5 => exact h5.symm
      | 6 => exact h6.symm
    rw [e]; exact meshPay22_at x x1 a b c
  · obtain ⟨rfl, rfl, rfl, e⟩ : k = 3 ∧ t = 1 ∧ d = 0 ∧ y = ix7 0 0 0 0 a b c := by
      have q1 : k.val = 3 + (y 1).val := by simpa using h1
      have q2 : t.val = 1 + (y 2).val := by simpa using h2
      have q3 : d.val = 0 + (y 3).val := by simpa using h3
      refine ⟨Fin.ext (by omega), Fin.ext (by omega), Fin.ext (by omega), funext fun i => Fin.ext ?_⟩
      match i with
      | 0 => show (y 0).val = 0; omega
      | 1 => show (y 1).val = 0; omega
      | 2 => show (y 2).val = 0; omega
      | 3 => show (y 3).val = 0; omega
      | 4 => exact h4.symm
      | 5 => exact h5.symm
      | 6 => exact h6.symm
    rw [e]; exact meshPay21_at x x1 a b c
  · obtain ⟨rfl, rfl, rfl, e⟩ : k = 3 ∧ t = 0 ∧ d = 2 ∧ y = ix7 0 0 0 0 a b c := by
      have q1 : k.val = 3 + (y 1).val := by simpa using h1
      have q2 : t.val = 0 + (y 2).val := by simpa using h2
      have q3 : d.val = 2 + (y 3).val := by simpa using h3
      refine ⟨Fin.ext (by omega), Fin.ext (by omega), Fin.ext (by omega), funext fun i => Fin.ext ?_⟩
      match i with
      | 0 => show (y 0).val = 0; omega
      | 1 => show (y 1).val = 0; omega
      | 2 => show (y 2).val = 0; omega
      | 3 => show (y 3).val = 0; omega
      | 4 => exact h4.symm
      | 5 => exact h5.symm
      | 6 => exact h6.symm
    rw [e]; exact meshPay20_at x x1 a b c
  · obtain ⟨rfl, rfl, rfl, e⟩ : k = 3 ∧ t = 0 ∧ d = 1 ∧ y = ix7 0 0 0 0 a b c := by
      have q1 : k.val = 3 + (y 1).val := by simpa using h1
      have q2 : t.val = 0 + (y 2).val := by simpa using h2
      have q3 : d.val = 1 + (y 3).val := by simpa using h3
      refine ⟨Fin.ext (by omega), Fin.ext (by omega), Fin.ext (by omega), funext fun i => Fin.ext ?_⟩
      match i with
      | 0 => show (y 0).val = 0; omega
      | 1 => show (y 1).val = 0; omega
      | 2 => show (y 2).val = 0; omega
      | 3 => show (y 3).val = 0; omega
      | 4 => exact h4.symm
      | 5 => exact h5.symm
      | 6 => exact h6.symm
    rw [e]; exact meshPay19_at x x1 a b c
  · obtain ⟨rfl, rfl, rfl, e⟩ : k = 3 ∧ t = 0 ∧ d = 0 ∧ y = ix7 0 0 0 0 a b c := by
      have q1 : k.val = 3 + (y 1).val := by simpa using h1
      have q2 : t.val = 0 + (y 2).val := by simpa using h2
      have q3 : d.val = 0 + (y 3).val := by simpa using h3
      refine ⟨Fin.ext (by omega), Fin.ext (by omega), Fin.ext (by omega), funext fun i => Fin.ext ?_⟩
      match i with
      | 0 => show (y 0).val = 0; omega
      | 1 => show (y 1).val = 0; omega
      | 2 => show (y 2).val = 0; omega
      | 3 => show (y 3).val = 0; omega
      | 4 => exact h4.symm
      | 5 => exact h5.symm
      | 6 => exact h6.symm
    rw [e]; exact meshPay18_at x x1 a b c
  · obtain ⟨rfl, rfl, rfl, e⟩ : k = 2 ∧ t = 1 ∧ d = 2 ∧ y = ix7 0 0 0 0 a b c := by
      have q1 : k.val = 2 + (y 1).val := by simpa using h1
      have q2 : t.val = 1 + (y 2).val := by simpa using h2
      have q3 : d.val = 2 + (y 3).val := by simpa using h3
      refine ⟨Fin.ext (by omega), Fin.ext (by omega), Fin.ext (by omega), funext fun i => Fin.ext ?_⟩
      match i with
      | 0 => show (y 0).val = 0; omega
      | 1 => show (y 1).val = 0; omega
      | 2 => show (y 2).val = 0; omega
      | 3 => show (y 3).val = 0; omega
      | 4 => exact h4.symm
      | 5 => exact h5.symm
      | 6 => exact h6.symm
    rw [e]; exact meshPay17_at x x1 a b c
  · obtain ⟨rfl, rfl, rfl, e⟩ : k = 2 ∧ t = 1 ∧ d = 1 ∧ y = ix7 0 0 0 0 a b c := by
      have q1 : k.val = 2 + (y 1).val := by simpa using h1
      have q2 : t.val = 1 + (y 2).val := by simpa using h2
      have q3 : d.val = 1 + (y 3).val := by simpa using h3
      refine ⟨Fin.ext (by omega), Fin.ext (by omega), Fin.ext (by omega), funext fun i => Fin.ext ?_⟩
      match i with
      | 0 => show (y 0).val = 0; omega
      | 1 => show (y 1).val = 0; omega
      | 2 => show (y 2).val = 0; omega
      | 3 => show (y 3).val = 0; omega
      | 4 => exact h4.symm
      | 5 => exact h5.symm
      | 6 => exact h6.symm
    rw [e]; exact meshPay16_at x x1 a b c
  · obtain ⟨rfl, rfl, rfl, e⟩ : k = 2 ∧ t = 1 ∧ d = 0 ∧ y = ix7 0 0 0 0 a b c := by
      have q1 : k.val = 2 + (y 1).val := by simpa using h1
      have q2 : t.val = 1 + (y 2).val := by simpa using h2
      have q3 : d.val = 0 + (y 3).val := by simpa using h3
      refine ⟨Fin.ext (by omega), Fin.ext (by omega), Fin.ext (by omega), funext fun i => Fin.ext ?_⟩
      match i with
      | 0 => show (y 0).val = 0; omega
      | 1 => show (y 1).val = 0; omega
      | 2 => show (y 2).val = 0; omega
      | 3 => show (y 3).val = 0; omega
      | 4 => exact h4.symm
      | 5 => exact h5.symm
      | 6 => exact h6.symm
    rw [e]; exact meshPay15_at x x1 a b c
  · obtain ⟨rfl, rfl, rfl, e⟩ : k = 2 ∧ t = 0 ∧ d = 2 ∧ y = ix7 0 0 0 0 a b c := by
      have q1 : k.val = 2 + (y 1).val := by simpa using h1
      have q2 : t.val = 0 + (y 2).val := by simpa using h2
      have q3 : d.val = 2 + (y 3).val := by simpa using h3
      refine ⟨Fin.ext (by omega), Fin.ext (by omega), Fin.ext (by omega), funext fun i => Fin.ext ?_⟩
      match i with
      | 0 => show (y 0).val = 0; omega
      | 1 => show (y 1).val = 0; omega
      | 2 => show (y 2).val = 0; omega
      | 3 => show (y 3).val = 0; omega
      | 4 => exact h4.symm
      | 5 => exact h5.symm
      | 6 => exact h6.symm
    rw [e]; exact meshPay14_at x x1 a b c
  · obtain ⟨rfl, rfl, rfl, e⟩ : k = 2 ∧ t = 0 ∧ d = 1 ∧ y = ix7 0 0 0 0 a b c := by
      have q1 : k.val = 2 + (y 1).val := by simpa using h1
      have q2 : t.val = 0 + (y 2).val := by simpa using h2
      have q3 : d.val = 1 + (y 3).val := by simpa using h3
      refine ⟨Fin.ext (by omega), Fin.ext (by omega), Fin.ext (by omega), funext fun i => Fin.ext ?_⟩
      match i with
      | 0 => show (y 0).val = 0; omega
      | 1 => show (y 1).val = 0; omega
      | 2 => show (y 2).val = 0; omega
      | 3 => show (y 3).val = 0; omega
      | 4 => exact h4.symm
      | 5 => exact h5.symm
      | 6 => exact h6.symm
    rw [e]; exact meshPay13_at x x1 a b c
  · obtain ⟨rfl, rfl, rfl, e⟩ : k = 2 ∧ t = 0 ∧ d = 0 ∧ y = ix7 0 0 0 0 a b c := by
      have q1 : k.val = 2 + (y 1).val := by simpa using h1
      have q2 : t.val = 0 + (y 2).val := by simpa using h2
      have q3 : d.val = 0 + (y 3).val := by simpa using h3
      refine ⟨Fin.ext (by omega), Fin.ext (by omega), Fin.ext (by omega), funext fun i => Fin.ext ?_⟩
      match i with
      | 0 => show (y 0).val = 0; omega
      | 1 => show (y 1).val = 0; omega
      | 2 => show (y 2).val = 0; omega
      | 3 => show (y 3).val = 0; omega
      | 4 => exact h4.symm
      | 5 => exact h5.symm
      | 6 => exact h6.symm
    rw [e]; exact meshPay12_at x x1 a b c
  · obtain ⟨rfl, rfl, rfl, e⟩ : k = 1 ∧ t = 1 ∧ d = 2 ∧ y = ix7 0 0 0 0 a b c := by
      have q1 : k.val = 1 + (y 1).val := by simpa using h1
      have q2 : t.val = 1 + (y 2).val := by simpa using h2
      have q3 : d.val = 2 + (y 3).val := by simpa using h3
      refine ⟨Fin.ext (by omega), Fin.ext (by omega), Fin.ext (by omega), funext fun i => Fin.ext ?_⟩
      match i with
      | 0 => show (y 0).val = 0; omega
      | 1 => show (y 1).val = 0; omega
      | 2 => show (y 2).val = 0; omega
      | 3 => show (y 3).val = 0; omega
      | 4 => exact h4.symm
      | 5 => exact h5.symm
      | 6 => exact h6.symm
    rw [e]; exact meshPay11_at x x1 a b c
  · obtain ⟨rfl, rfl, rfl, e⟩ : k = 1 ∧ t = 1 ∧ d = 1 ∧ y = ix7 0 0 0 0 a b c := by
      have q1 : k.val = 1 + (y 1).val := by simpa using h1
      have q2 : t.val = 1 + (y 2).val := by simpa using h2
      have q3 : d.val = 1 + (y 3).val := by simpa using h3
      refine ⟨Fin.ext (by omega), Fin.ext (by omega), Fin.ext (by omega), funext fun i => Fin.ext ?_⟩
      match i with
      | 0 => show (y 0).val = 0; omega
      | 1 => show (y 1).val = 0; omega
      | 2 => show (y 2).val = 0; omega
      | 3 => show (y 3).val = 0; omega
      | 4 => exact h4.symm
      | 5 => exact h5.symm
      | 6 => exact h6.symm
    rw [e]; exact meshPay10_at x x1 a b c
  · obtain ⟨rfl, rfl, rfl, e⟩ : k = 1 ∧ t = 1 ∧ d = 0 ∧ y = ix7 0 0 0 0 a b c := by
      have q1 : k.val = 1 + (y 1).val := by simpa using h1
      have q2 : t.val = 1 + (y 2).val := by simpa using h2
      have q3 : d.val = 0 + (y 3).val := by simpa using h3
      refine ⟨Fin.ext (by omega), Fin.ext (by omega), Fin.ext (by omega), funext fun i => Fin.ext ?_⟩
      match i with
      | 0 => show (y 0).val = 0; omega
      | 1 => show (y 1).val = 0; omega
      | 2 => show (y 2).val = 0; omega
      | 3 => show (y 3).val = 0; omega
      | 4 => exact h4.symm
      | 5 => exact h5.symm
      | 6 => exact h6.symm
    rw [e]; exact meshPay9_at x x1 a b c
  · obtain ⟨rfl, rfl, rfl, e⟩ : k = 1 ∧ t = 0 ∧ d = 2 ∧ y = ix7 0 0 0 0 a b c := by
      have q1 : k.val = 1 + (y 1).val := by simpa using h1
      have q2 : t.val = 0 + (y 2).val := by simpa using h2
      have q3 : d.val = 2 + (y 3).val := by simpa using h3
      refine ⟨Fin.ext (by omega), Fin.ext (by omega), Fin.ext (by omega), funext fun i => Fin.ext ?_⟩
      match i with
      | 0 => show (y 0).val = 0; omega
      | 1 => show (y 1).val = 0; omega
      | 2 => show (y 2).val = 0; omega
      | 3 => show (y 3).val = 0; omega
      | 4 => exact h4.symm
      | 5 => exact h5.symm
      | 6 => exact h6.symm
    rw [e]; exact meshPay8_at x x1 a b c
  · obtain ⟨rfl, rfl, rfl, e⟩ : k = 1 ∧ t = 0 ∧ d = 1 ∧ y = ix7 0 0 0 0 a b c := by
      have q1 : k.val = 1 + (y 1).val := by simpa using h1
      have q2 : t.val = 0 + (y 2).val := by simpa using h2
      have q3 : d.val = 1 + (y 3).val := by simpa using h3
      refine ⟨Fin.ext (by omega), Fin.ext (by omega), Fin.ext (by omega), funext fun i => Fin.ext ?_⟩
      match i with
      | 0 => show (y 0).val = 0; omega
      | 1 => show (y 1).val = 0; omega
      | 2 => show (y 2).val = 0; omega
      | 3 => show (y 3).val = 0; omega
      | 4 => exact h4.symm
      | 5 => exact h5.symm
      | 6 => exact h6.symm
    rw [e]; exact meshPay7_at x x1 a b c
  · obtain ⟨rfl, rfl, rfl, e⟩ : k = 1 ∧ t = 0 ∧ d = 0 ∧ y = ix7 0 0 0 0 a b c := by
      have q1 : k.val = 1 + (y 1).val := by simpa using h1
      have q2 : t.val = 0 + (y 2).val := by simpa using h2
      have q3 : d.val = 0 + (y 3).val := by simpa using h3
      refine ⟨Fin.ext (by omega), Fin.ext (by omega), Fin.ext (by omega), funext fun i => Fin.ext ?_⟩
      match i with
      | 0 => show (y 0).val = 0; omega
      | 1 => show (y 1).val = 0; omega
      | 2 => show (y 2).val = 0; omega
      | 3 => show (y 3).val = 0; omega
      | 4 => exact h4.symm
      | 5 => exact h5.symm
      | 6 => exact h6.symm
    rw [e]; exact meshPay6_at x x1 a b c
  · obtain ⟨rfl, rfl, rfl, e⟩ : k = 0 ∧ t = 1 ∧ d = 2 ∧ y = ix7 0 0 0 0 a b c := by
      have q1 : k.val = 0 + (y 1).val := by simpa using h1
      have q2 : t.val = 1 + (y 2).val := by simpa using h2
      have q3 : d.val = 2 + (y 3).val := by simpa using h3
      refine ⟨Fin.ext (by omega), Fin.ext (by omega), Fin.ext (by omega), funext fun i => Fin.ext ?_⟩
      match i with
      | 0 => show (y 0).val = 0; omega
      | 1 => show (y 1).val = 0; omega
      | 2 => show (y 2).val = 0; omega
      | 3 => show (y 3).val = 0; omega
      | 4 => exact h4.symm
      | 5 => exact h5.symm
      | 6 => exact h6.symm
    rw [e]; exact meshPay5_at x x1 a b c
  · obtain ⟨rfl, rfl, rfl, e⟩ : k = 0 ∧ t = 1 ∧ d = 1 ∧ y = ix7 0 0 0 0 a b c := by
      have q1 : k.val = 0 + (y 1).val := by simpa using h1
      have q2 : t.val = 1 + (y 2).val := by simpa using h2
      have q3 : d.val = 1 + (y 3).val := by simpa using h3
      refine ⟨Fin.ext (by omega), Fin.ext (by omega), Fin.ext (by omega), funext fun i => Fin.ext ?_⟩
      match i with
      | 0 => show (y 0).val = 0; omega
      | 1 => show (y 1).val = 0; omega
      | 2 => show (y 2).val = 0; omega
      | 3 => show (y 3).val = 0; omega
      | 4 => exact h4.symm
      | 5 => exact h5.symm
      | 6 => exact h6.symm
    rw [e]; exact meshPay4_at x x1 a b c
  · obtain ⟨rfl, rfl, rfl, e⟩ : k = 0 ∧ t = 1 ∧ d = 0 ∧ y = ix7 0 0 0 0 a b c := by
      have q1 : k.val = 0 + (y 1).val := by simpa using h1
      have q2 : t.val = 1 + (y 2).val := by simpa using h2
      have q3 : d.val = 0 + (y 3).val := by simpa using h3
      refine ⟨Fin.ext (by omega), Fin.ext (by omega), Fin.ext (by omega), funext fun i => Fin.ext ?_⟩
      match i with
      | 0 => show (y 0).val = 0; omega
      | 1 => show (y 1).val = 0; omega
      | 2 => show (y 2).val = 0; omega
      | 3 => show (y 3).val = 0; omega
      | 4 => exact h4.symm
      | 5 => exact h5.symm
      | 6 => exact h6.symm
    rw [e]; exact meshPay3_at x x1 a b c
  · obtain ⟨rfl, rfl, rfl, e⟩ : k = 0 ∧ t = 0 ∧ d = 2 ∧ y = ix7 0 0 0 0 a b c := by
      have q1 : k.val = 0 + (y 1).val := by simpa using h1
      have q2 : t.val = 0 + (y 2).val := by simpa using h2
      have q3 : d.val = 2 + (y 3).val := by simpa using h3
      refine ⟨Fin.ext (by omega), Fin.ext (by omega), Fin.ext (by omega), funext fun i => Fin.ext ?_⟩
      match i with
      | 0 => show (y 0).val = 0; omega
      | 1 => show (y 1).val = 0; omega
      | 2 => show (y 2).val = 0; omega
      | 3 => show (y 3).val = 0; omega
      | 4 => exact h4.symm
      | 5 => exact h5.symm
      | 6 => exact h6.symm
    rw [e]; exact meshPay2_at x x1 a b c
  · obtain ⟨rfl, rfl, rfl, e⟩ : k = 0 ∧ t = 0 ∧ d = 1 ∧ y = ix7 0 0 0 0 a b c := by
      have q1 : k.val = 0 + (y 1).val := by simpa using h1
      have q2 : t.val = 0 + (y 2).val := by simpa using h2
      have q3 : d.val = 1 + (y 3).val := by simpa using h3
      refine ⟨Fin.ext (by omega), Fin.ext (by omega), Fin.ext (by omega), funext fun i => Fin.ext ?_⟩
      match i with
      | 0 => show (y 0).val = 0; omega
      | 1 => show (y 1).val = 0; omega
      | 2 => show (y 2).val = 0; omega
      | 3 => show (y 3).val = 0; omega
      | 4 => exact h4.symm
      | 5 => exact h5.symm
      | 6 => exact h6.symm
    rw [e]; exact meshPay1_at x x1 a b c
  · obtain ⟨rfl, rfl, rfl, e⟩ : k = 0 ∧ t = 0 ∧ d = 0 ∧ y = ix7 0 0 0 0 a b c := by
      have q1 : k.val = 0 + (y 1).val := by simpa using h1
      have q2 : t.val = 0 + (y 2).val := by simpa using h2
      have q3 : d.val = 0 + (y 3).val := by simpa using h3
      refine ⟨Fin.ext (by omega), Fin.ext (by omega), Fin.ext (by omega), funext fun i => Fin.ext ?_⟩
      match i with
      | 0 => show (y 0).val = 0; omega
      | 1 => show (y 1).val = 0; omega
      | 2 => show (y 2).val = 0; omega
      | 3 => show (y 3).val = 0; omega
      | 4 => exact h4.symm
      | 5 => exact h5.symm
      | 6 => exact h6.symm
    rw [e]; exact meshPay0_at x x1 a b c

theorem total16 (v : FVec Ideal S16x16x16 .f32) :
    (extractAt ![0, 0, 0, 0] (shapeCast S1x1x1x1 (multiReduction .add [1, 2, 3] S1 (shapeCast S1x16x16x16 v shapeCasts_S16x16x16_S1x16x16x16) 0x00000000#32 reduces_S1x16x16x16_S1 (.inl rfl) rfl) shapeCasts_S1_S1x1x1x1) inpos_S1x1x1x1_p0_0_0_0 : EReal)
      = ∑ z : Fin 16, ∑ y : Fin 16, ∑ x : Fin 16, (v (ix3 z y x) : EReal) := by
  have key : ∀ w : FVec Ideal S1x16x16x16 .f32, ∀ j, Ideal.reduceAdd reduces_S1x16x16x16_S1 w j = ∑ z : Fin 16, ∑ y : Fin 16, ∑ x : Fin 16, (w (ix4 0 z y x) : EReal) := by
    intro w j
    show ∑ i ∈ Finset.univ.filter (fun i => reduces_S1x16x16x16_S1.drop i = j), w i = _
    have hj : ∀ j' : S1.Idx, j' = j := fun j' => by
      rw [eq_ix1 j', eq_ix1 j]
      exact congrArg ix1 (Subsingleton.elim (α := Fin 1) _ _)
    have hf : (Finset.univ.filter fun i => reduces_S1x16x16x16_S1.drop i = j) = Finset.univ :=
      Finset.filter_true_of_mem fun i _ => hj _
    rw [hf, sum_idx4, Fin.sum_univ_one]
  pointwise []
  rw [key]
  refine Finset.sum_congr rfl fun z _ => Finset.sum_congr rfl fun y _ => Finset.sum_congr rfl fun x _ => ?_
  pointwise []

theorem total17 (v : FVec Ideal S17x17x17 .f32) :
    (extractAt ![0, 0, 0, 0] (shapeCast S1x1x1x1 (multiReduction .add [1, 2, 3] S1 (shapeCast S1x17x17x17 v shapeCasts_S17x17x17_S1x17x17x17) 0x00000000#32 reduces_S1x17x17x17_S1 (.inl rfl) rfl) shapeCasts_S1_S1x1x1x1) inpos_S1x1x1x1_p0_0_0_0 : EReal)
      = ∑ z : Fin 17, ∑ y : Fin 17, ∑ x : Fin 17, (v (ix3 z y x) : EReal) := by
  have key : ∀ w : FVec Ideal S1x17x17x17 .f32, ∀ j, Ideal.reduceAdd reduces_S1x17x17x17_S1 w j = ∑ z : Fin 17, ∑ y : Fin 17, ∑ x : Fin 17, (w (ix4 0 z y x) : EReal) := by
    intro w j
    show ∑ i ∈ Finset.univ.filter (fun i => reduces_S1x17x17x17_S1.drop i = j), w i = _
    have hj : ∀ j' : S1.Idx, j' = j := fun j' => by
      rw [eq_ix1 j', eq_ix1 j]
      exact congrArg ix1 (Subsingleton.elim (α := Fin 1) _ _)
    have hf : (Finset.univ.filter fun i => reduces_S1x17x17x17_S1.drop i = j) = Finset.univ :=
      Finset.filter_true_of_mem fun i _ => hj _
    rw [hf, sum_idx4, Fin.sum_univ_one]
  pointwise []
  rw [key]
  refine Finset.sum_congr rfl fun z _ => Finset.sum_congr rfl fun y _ => Finset.sum_congr rfl fun x _ => ?_
  pointwise []

/-- The number of a face's exposures. -/
def faceSum (f : FVec Ideal S16x16x16 .f32) : EReal := ∑ z : Fin 16, ∑ y : Fin 16, ∑ x : Fin 16, (f (ix3 z y x) : EReal)

theorem pay9_eq (f0 f1 f2 f3 f4 f5 : FVec Ideal S16x16x16 .f32) :
    k0_pay9 f0 f1 f2 f3 f4 f5 = faceSum f0 + faceSum f1 + faceSum f2 + faceSum f3 + faceSum f4 + faceSum f5 := by
  unfold faceSum
  rw [← total16 f0, ← total16 f1, ← total16 f2, ← total16 f3, ← total16 f4, ← total16 f5]
  rfl

end Cert.KernelIdeal.Gen

end
-- ==== Proof.IdealCount.lean ====
module

public import proofs.«01_k».proof.Proof.IdealBlocks

@[expose] public section

set_option maxRecDepth 16384

noncomputable section

namespace Cert.KernelIdeal.Gen

open Idealize.ShloMosaic Idealize.ShloMosaic.TcCoe Idealize.SL.Sem
open Cert.Voxel

/-- A row with one number in its first lane and another in its second. -/
def laneRow (e v : EReal) : FVec Ideal S1x128 .f32 :=
  select (cmpi .eq (iota .tc S1x128 32 [1] iota_S1x128_d1_w32) (broadcast S1x128 0#32)) (broadcast S1x128 e)
    (select (cmpi .eq (iota .tc S1x128 32 [1] iota_S1x128_d1_w32) (broadcast S1x128 1#32)) (broadcast S1x128 v)
      (broadcast S1x128 (Scalar.ofBits (F := Ideal) .f32 0x00000000#32)))

theorem laneRow_0 (e v : EReal) : laneRow e v (ix2 0 0) = e := by pointwise [laneRow]
theorem laneRow_1 (e v : EReal) : laneRow e v (ix2 0 1) = v := by
  pointwise [laneRow]
  rfl

theorem pay15_eq (f1 f3 f5 : FVec Ideal S16x16x16 .f32) (s : EReal) (p q : FVec Ideal S17x17x17 .f32) :
    k0_pay15 (F := Ideal) f1 f3 f5 s p q = laneRow
      (extractAt ![0, 0, 0, 0] (shapeCast S1x1x1x1 (multiReduction .add [1, 2, 3] S1 (shapeCast S1x17x17x17 (k0_pay14 f1 f3 f5 p q) shapeCasts_S17x17x17_S1x17x17x17) 0x00000000#32 reduces_S1x17x17x17_S1 (.inl rfl) rfl) shapeCasts_S1_S1x1x1x1) inpos_S1x1x1x1_p0_0_0_0)
      (Scalar.mulf (F := Ideal) (φ := .f32) (Scalar.ofBits (F := Ideal) .f32 0x40000000#32) s) := by
  unfold k0_pay15 laneRow
  rfl

theorem cntRow_0 (x : Vec Ideal S1x16x16x16 .f32) :
    cntRow x (ix2 0 0) = ∑ a : Fin 17, ∑ b : Fin 17, ∑ c : Fin 17, usedAt x a b c := by
  unfold cntRow
  rw [pay15_eq, laneRow_0]
  exact total17 _

theorem cntRow_1 (x : Vec Ideal S1x16x16x16 .f32) :
    cntRow x (ix2 0 1) = FloatOps.mulf (F := Ideal) (φ := .f32) (Ideal.ofBits .f32 0x40000000#32)
      (faceSum (face0 x) + faceSum (face1 x) + faceSum (face2 x) + faceSum (face3 x) + faceSum (face4 x) + faceSum (face5 x)) := by
  unfold cntRow
  rw [pay15_eq, laneRow_1, pay9_eq]
  rfl

end Cert.KernelIdeal.Gen

end
-- ==== Proof.IdealArrays.lean ====
module

public import proofs.«01_k».proof.Proof.IdealCount

@[expose] public section

set_option maxRecDepth 16384

noncomputable section

namespace Cert.KernelIdeal.Gen

open Idealize.ShloMosaic Idealize.ShloMosaic.TcCoe Idealize.SL.Sem
open Idealize.ShloMosaic.Pipeline (Dat)
open Cert.Voxel

/-! What the first region leaves in its output arrays, read at an entry. -/

variable (V : (c : Dev nD) → (b : Ref sig .tc) → Buf (Elt Ideal) ((c : Thread nD τ).loc b))

theorem index0_0 : ∀ t : Fin cfg0.N, win0_0.index t = ![t.val, 0, 0, 0] := (by decide +kernel : ∀ t : Fin grid0.N, _)

theorem emb0_0 (t : Fin cfg0.N) (z y w : Fin 16) : (win0_0.blk t).view.emb (ix4 0 z y w : S1x16x16x16.Idx) = (ix4 t z y w : S2x16x16x16.Idx) := by
  funext i
  refine Fin.ext ?_
  match i with
  | 0 => blk_simp [index0_0] <;> first | rfl | exact Nat.mul_one _ | exact Nat.zero_add _
  | 1 => blk_simp [index0_0] <;> first | rfl | exact Nat.mul_one _ | exact Nat.zero_add _
  | 2 => blk_simp [index0_0] <;> first | rfl | exact Nat.mul_one _ | exact Nat.zero_add _
  | 3 => blk_simp [index0_0] <;> first | rfl | exact Nat.mul_one _ | exact Nat.zero_add _

theorem index0_1 : ∀ t : Fin cfg0.N, win0_1.index t = ![0, 0, 0, 0, 0, 0] := (by decide +kernel : ∀ t : Fin grid0.N, _)

theorem emb0_1 (t : Fin cfg0.N) (k : Fin 6) (e : Fin 2) (d : Fin 3) (z y w : Fin 16) : (win0_1.blk t).view.emb (ix6 k e d z y w : S6x2x3x16x16x16.Idx) = (ix6 k e d z y w : S6x2x3x16x16x16.Idx) := by
  funext i
  refine Fin.ext ?_
  match i with
  | 0 => blk_simp [index0_1] <;> first | rfl | exact Nat.mul_one _ | exact Nat.zero_add _
  | 1 => blk_simp [index0_1] <;> first | rfl | exact Nat.mul_one _ | exact Nat.zero_add _
  | 2 => blk_simp [index0_1] <;> first | rfl | exact Nat.mul_one _ | exact Nat.zero_add _
  | 3 => blk_simp [index0_1] <;> first | rfl | exact Nat.mul_one _ | exact Nat.zero_add _
  | 4 => blk_simp [index0_1] <;> first | rfl | exact Nat.mul_one _ | exact Nat.zero_add _
  | 5 => blk_simp [index0_1] <;> first | rfl | exact Nat.mul_one _ | exact Nat.zero_add _

theorem index0_2 : ∀ t : Fin cfg0.N, win0_2.index t = ![0, 0] := (by decide +kernel : ∀ t : Fin grid0.N, _)

theorem emb0_2 (t : Fin cfg0.N) (n : Fin 2) (l : Fin 128) : (win0_2.blk t).view.emb (ix2 n l : S2x128.Idx) = (ix2 n l : S2x128.Idx) := by
  funext i
  refine Fin.ext ?_
  match i with
  | 0 => blk_simp [index0_2] <;> first | rfl | exact Nat.mul_one _ | exact Nat.zero_add _
  | 1 => blk_simp [index0_2] <;> first | rfl | exact Nat.mul_one _ | exact Nat.zero_add _

theorem index0_3 : ∀ t : Fin cfg0.N, win0_3.index t = ![t.val, 0, 0, 0, 0] := (by decide +kernel : ∀ t : Fin grid0.N, _)

theorem emb0_3 (t : Fin cfg0.N) (p : Fin 3) (a b d : Fin 17) : (win0_3.blk t).view.emb (ix5 0 p a b d : S1x3x17x17x17.Idx) = (ix5 t p a b d : S2x3x17x17x17.Idx) := by
  funext i
  refine Fin.ext ?_
  match i with
  | 0 => blk_simp [index0_3] <;> first | rfl | exact Nat.mul_one _ | exact Nat.zero_add _
  | 1 => blk_simp [index0_3] <;> first | rfl | exact Nat.mul_one _ | exact Nat.zero_add _
  | 2 => blk_simp [index0_3] <;> first | rfl | exact Nat.mul_one _ | exact Nat.zero_add _
  | 3 => blk_simp [index0_3] <;> first | rfl | exact Nat.mul_one _ | exact Nat.zero_add _
  | 4 => blk_simp [index0_3] <;> first | rfl | exact Nat.mul_one _ | exact Nat.zero_add _

theorem index0_4 : ∀ t : Fin cfg0.N, win0_4.index t = ![t.val, 0, 0, 0, 0] := (by decide +kernel : ∀ t : Fin grid0.N, _)

theorem emb0_4 (t : Fin cfg0.N) (p : Fin 16) (a b d : Fin 17) : (win0_4.blk t).view.emb (ix5 0 p a b d : S1x16x17x17x17.Idx) = (ix5 t p a b d : S2x16x17x17x17.Idx) := by
  funext i
  refine Fin.ext ?_
  match i with
  | 0 => blk_simp [index0_4] <;> first | rfl | exact Nat.mul_one _ | exact Nat.zero_add _
  | 1 => blk_simp [index0_4] <;> first | rfl | exact Nat.mul_one _ | exact Nat.zero_add _
  | 2 => blk_simp [index0_4] <;> first | rfl | exact Nat.mul_one _ | exact Nat.zero_add _
  | 3 => blk_simp [index0_4] <;> first | rfl | exact Nat.mul_one _ | exact Nat.zero_add _
  | 4 => blk_simp [index0_4] <;> first | rfl | exact Nat.mul_one _ | exact Nat.zero_add _

theorem index0_5 : ∀ t : Fin cfg0.N, win0_5.index t = ![t.val, 0, 0, 0, 0, 0, 0] := (by decide +kernel : ∀ t : Fin grid0.N, _)

theorem emb0_5 (t : Fin cfg0.N) (k : Fin 6) (e : Fin 2) (d : Fin 3) (z y w : Fin 16) : (win0_5.blk t).view.emb (ix7 0 k e d z y w : S1x6x2x3x16x16x16.Idx) = (ix7 t k e d z y w : S2x6x2x3x16x16x16.Idx) := by
  funext i
  refine Fin.ext ?_
  match i with
  | 0 => blk_simp [index0_5] <;> first | rfl | exact Nat.mul_one _ | exact Nat.zero_add _
  | 1 => blk_simp [index0_5] <;> first | rfl | exact Nat.mul_one _ | exact Nat.zero_add _
  | 2 => blk_simp [index0_5] <;> first | rfl | exact Nat.mul_one _ | exact Nat.zero_add _
  | 3 => blk_simp [index0_5] <;> first | rfl | exact Nat.mul_one _ | exact Nat.zero_add _
  | 4 => blk_simp [index0_5] <;> first | rfl | exact Nat.mul_one _ | exact Nat.zero_add _
  | 5 => blk_simp [index0_5] <;> first | rfl | exact Nat.mul_one _ | exact Nat.zero_add _
  | 6 => blk_simp [index0_5] <;> first | rfl | exact Nat.mul_one _ | exact Nat.zero_add _

/-- The region's input block is a sample. -/
theorem iblk0_0_at (c : Dev nD) (t : Fin cfg0.N) (z y w : Fin 16) :
    (iblk0 V c 0 t : Vec Ideal S1x16x16x16 .f32) (ix4 0 z y w) = (V c main_arg0 : S2x16x16x16.Idx → EReal) (ix4 t z y w) := by
  unfold iblk0
  blk_simp
  rw [emb0_0]

theorem iblk0_1_at (c : Dev nD) (t : Fin cfg0.N) (k : Fin 6) (e : Fin 2) (d : Fin 3) (z y w : Fin 16) :
    (iblk0 V c 1 t : Vec Ideal S6x2x3x16x16x16 .i32) (ix6 k e d z y w) = (V c main_call0_c : S6x2x3x16x16x16.Idx → BitVec 32) (ix6 k e d z y w) := by
  unfold iblk0
  blk_simp
  rw [emb0_1]

theorem arr0_2 (c : Dev nD) : (dat0 V c).arrAt 2 cfg0.N = (cntBlk V c : S2x128.Idx → EReal) := by
  refine (dat0 V c).arrAt_eq_of_covers 2 _ (by decide +kernel) fun t hf y => ?_
  blk_simp
  rw [after0_2]
  obtain ⟨n, l, rfl⟩ : ∃ (n : Fin 2) (l : Fin 128), y = (ix2 n l : S2x128.Idx) := ⟨y 0, y 1, eq_ix2 y⟩
  rw [emb0_2]

theorem arr0_3 (c : Dev nD) : (dat0 V c).arrAt 3 cfg0.N = fun i : S2x3x17x17x17.Idx => postBlk (iblk0 V c 0 (⟨(i 0).val, (i 0).isLt⟩ : Fin cfg0.N)) (ix5 0 (i 1) (i 2) (i 3) (i 4)) := by
  refine (dat0 V c).arrAt_eq_of_covers 3 _ (by decide +kernel) fun t hf y => ?_
  blk_simp
  rw [after0_3]
  obtain ⟨g, p, a, b, d, rfl⟩ : ∃ (g : Fin 1) (p : Fin 3) (a b d : Fin 17), y = (ix5 g p a b d : S1x3x17x17x17.Idx) :=
    ⟨y 0, y 1, y 2, y 3, y 4, eq_ix5 y⟩
  obtain rfl : g = 0 := Subsingleton.elim _ _
  have hemb := emb0_3 t p a b d
  have key : ∀ j : S2x3x17x17x17.Idx, j = ix5 t p a b d → postBlk (iblk0 V c 0 t) (ix5 0 p a b d) =
      (fun i : S2x3x17x17x17.Idx => postBlk (iblk0 V c 0 (⟨(i 0).val, (i 0).isLt⟩ : Fin cfg0.N)) (ix5 0 (i 1) (i 2) (i 3) (i 4))) j := by
    rintro j rfl; rfl
  exact key _ hemb

theorem arr0_4 (c : Dev nD) : (dat0 V c).arrAt 4 cfg0.N = fun i : S2x16x17x17x17.Idx => bandBlk (iblk0 V c 0 (⟨(i 0).val, (i 0).isLt⟩ : Fin cfg0.N)) (ix5 0 (i 1) (i 2) (i 3) (i 4)) := by
  refine (dat0 V c).arrAt_eq_of_covers 4 _ (by decide +kernel) fun t hf y => ?_
  blk_simp
  rw [after0_4]
  obtain ⟨g, p, a, b, d, rfl⟩ : ∃ (g : Fin 1) (p : Fin 16) (a b d : Fin 17), y = (ix5 g p a b d : S1x16x17x17x17.Idx) :=
    ⟨y 0, y 1, y 2, y 3, y 4, eq_ix5 y⟩
  obtain rfl : g = 0 := Subsingleton.elim _ _
  have hemb := emb0_4 t p a b d
  have key : ∀ j : S2x16x17x17x17.Idx, j = ix5 t p a b d → bandBlk (iblk0 V c 0 t) (ix5 0 p a b d) =
      (fun i : S2x16x17x17x17.Idx => bandBlk (iblk0 V c 0 (⟨(i 0).val, (i 0).isLt⟩ : Fin cfg0.N)) (ix5 0 (i 1) (i 2) (i 3) (i 4))) j := by
    rintro j rfl; rfl
  exact key _ hemb

theorem arr0_5 (c : Dev nD) : (dat0 V c).arrAt 5 cfg0.N = fun i : S2x6x2x3x16x16x16.Idx => meshBlk (iblk0 V c 0 (⟨(i 0).val, (i 0).isLt⟩ : Fin cfg0.N)) (iblk0 V c 1 (⟨(i 0).val, (i 0).isLt⟩ : Fin cfg0.N)) (ix7 0 (i 1) (i 2) (i 3) (i 4) (i 5) (i 6)) := by
  refine (dat0 V c).arrAt_eq_of_covers 5 _ (by decide +kernel) fun t hf y => ?_
  blk_simp
  rw [after0_5]
  obtain ⟨g, k, e, q, z, u, w, rfl⟩ : ∃ (g : Fin 1) (k : Fin 6) (e : Fin 2) (q : Fin 3) (z u w : Fin 16), y = (ix7 g k e q z u w : S1x6x2x3x16x16x16.Idx) :=
    ⟨y 0, y 1, y 2, y 3, y 4, y 5, y 6, eq_ix7 y⟩
  obtain rfl : g = 0 := Subsingleton.elim _ _
  have hemb := emb0_5 t k e q z u w
  have key : ∀ j : S2x6x2x3x16x16x16.Idx, j = ix7 t k e q z u w → meshBlk (iblk0 V c 0 t) (iblk0 V c 1 t) (ix7 0 k e q z u w) =
      (fun i : S2x6x2x3x16x16x16.Idx => meshBlk (iblk0 V c 0 (⟨(i 0).val, (i 0).isLt⟩ : Fin cfg0.N)) (iblk0 V c 1 (⟨(i 0).val, (i 0).isLt⟩ : Fin cfg0.N)) (ix7 0 (i 1) (i 2) (i 3) (i 4) (i 5) (i 6))) j := by
    rintro j rfl; rfl
  exact key _ hemb

end Cert.KernelIdeal.Gen

end
-- ==== Proof.IdealStretches.lean ====
module

public import proofs.«01_k».proof.Proof.IdealArrays
public import proofs.«01_k».proof.Proof.IdealRun
public import Idealize.ShloMosaic.Lib.StableHlo.RunRead
public import Idealize.ShloMosaic.Lib.Pipeline.Value
public import Idealize.ShloMosaic.Lib.Pointwise

@[expose] public section

set_option maxRecDepth 16384

noncomputable section

namespace Cert.KernelIdeal.Gen

open Idealize.ShloMosaic Idealize.ShloMosaic.TcCoe Idealize.SL.Sem
open Idealize.ShloMosaic.StableHlo
open Idealize.ShloMosaic.Pipeline (Dat)
open Cert.Voxel

/-! The host's stretches, read: the table of vertex numbers, the transpositions and reshapes around the two regions, the slices of
    the counts. -/

variable (V0 : Valuation τ sig (Elt Ideal))

theorem host0_c : after hostOps0 V0 (Proc.devRef .tc main_call0_c) = fun i => lit0 (S6x2x3x16x16x16.rowMajor i) := by
  after_reads_simp
  rfl

theorem host1_v2 : (after hostOps1 V0 (Proc.devRef .tc main_call0_v2) : S2x4913x16.Idx → EReal) =
    shapeCast S2x4913x16 (transpose S2x17x17x17x16 [0, 2, 3, 4, 1] (V0 (Proc.devRef .tc main_call0_v0_2) : S2x16x17x17x17.Idx → EReal) transposes_S2x16x17x17x17_S2x17x17x17x16_0_2_3_4_1) shapeCasts_S2x17x17x17x16_S2x4913x16 := by
  after_reads_simp
  rfl

theorem host2_v0_0 : (after hostOps2 V0 (Proc.devRef .tc main_v0_0) : S2.Idx → BitVec 32) =
    fptosi (F := Ideal) (φ := .f32) 32 (fun i : S2.Idx => (V0 (Proc.devRef .tc main_call0_v0_0) : S2x128.Idx → EReal) (ix2 (i 0) 0) : S2.Idx → EReal) := by
  have e : (after hostOps2 V0 (Proc.devRef .tc main_v0_0) : S2.Idx → BitVec 32) =
      fptosi (F := Ideal) (φ := .f32) 32 (shapeCast S2 (extractStridedSlice S2x1 ![0, 0] (V0 (Proc.devRef .tc main_call0_v0_0) : S2x128.Idx → EReal) slices_S2x128_S2x1_0_0) shapeCasts_S2x1_S2) := by
    after_reads_simp
    rfl
  rw [e]
  congr 1
  funext i
  pointwise

theorem host2_v0_1 : (after hostOps2 V0 (Proc.devRef .tc main_v0_1) : S2.Idx → BitVec 32) =
    fptosi (F := Ideal) (φ := .f32) 32 (fun i : S2.Idx => (V0 (Proc.devRef .tc main_call0_v0_0) : S2x128.Idx → EReal) (ix2 (i 0) 1) : S2.Idx → EReal) := by
  have e : (after hostOps2 V0 (Proc.devRef .tc main_v0_1) : S2.Idx → BitVec 32) =
      fptosi (F := Ideal) (φ := .f32) 32 (shapeCast S2 (extractStridedSlice S2x1 ![0, 1] (V0 (Proc.devRef .tc main_call0_v0_0) : S2x128.Idx → EReal) slices_S2x128_S2x1_0_1) shapeCasts_S2x1_S2) := by
    after_reads_simp
    rfl
  rw [e]
  congr 1
  funext i
  pointwise

theorem host2_v0_2 : (after hostOps2 V0 (Proc.devRef .tc main_v0_2) : S9826x3.Idx → EReal) =
    shapeCast S9826x3 (transpose S2x17x17x17x3 [0, 2, 3, 4, 1] (V0 (Proc.devRef .tc main_call0_v0_1) : S2x3x17x17x17.Idx → EReal) transposes_S2x3x17x17x17_S2x17x17x17x3_0_2_3_4_1) shapeCasts_S2x17x17x17x3_S9826x3 := by
  after_reads_simp
  rfl

theorem host2_v0_4 : (after hostOps2 V0 (Proc.devRef .tc main_v0_4) : S2x49152x3.Idx → BitVec 32) =
    shapeCast S2x49152x3 (transpose S2x6x16x16x16x2x3 [0, 1, 4, 5, 6, 2, 3] (V0 (Proc.devRef .tc main_call0_v0_3) : S2x6x2x3x16x16x16.Idx → BitVec 32) transposes_S2x6x2x3x16x16x16_S2x6x16x16x16x2x3_0_1_4_5_6_2_3) shapeCasts_S2x6x16x16x16x2x3_S2x49152x3 := by
  after_reads_simp
  rfl

theorem band_cast (x : S2x16x17x17x17.Idx → EReal) (n : Fin 2) (a b c : Fin 17) (t : Fin 16) (R : Fin 4913) (h : R.val = a.val * 289 + b.val * 17 + c.val) :
    shapeCast S2x4913x16 (transpose S2x17x17x17x16 [0, 2, 3, 4, 1] x transposes_S2x16x17x17x17_S2x17x17x17x16_0_2_3_4_1) shapeCasts_S2x17x17x17x16_S2x4913x16
      (ix3 n R t) = x (ix5 n t a b c) := by
  rw [shapeCast_apply _ _ (ix3 n R t : S2x4913x16.Idx) (ix5 n a b c t : S2x17x17x17x16.Idx)
    (by rw [Shape.rowMajor_val_five, Shape.rowMajor_val_three]
        show (((n.val * 17 + a.val) * 17 + b.val) * 17 + c.val) * 16 + t.val = (n.val * 4913 + R.val) * 16 + t.val
        omega)]
  pointwise

theorem post_cast (x : S2x3x17x17x17.Idx → EReal) (n : Fin 2) (a b c : Fin 17) (p : Fin 3) (R : Fin 9826) (h : R.val = n.val * 4913 + a.val * 289 + b.val * 17 + c.val) :
    shapeCast S9826x3 (transpose S2x17x17x17x3 [0, 2, 3, 4, 1] x transposes_S2x3x17x17x17_S2x17x17x17x3_0_2_3_4_1) shapeCasts_S2x17x17x17x3_S9826x3
      (ix2 R p) = x (ix5 n p a b c) := by
  rw [shapeCast_apply _ _ (ix2 R p : S9826x3.Idx) (ix5 n a b c p : S2x17x17x17x3.Idx)
    (by rw [Shape.rowMajor_val_five, Shape.rowMajor_val_two]
        show (((n.val * 17 + a.val) * 17 + b.val) * 17 + c.val) * 3 + p.val = R.val * 3 + p.val
        omega)]
  pointwise

theorem mesh_transpose (x : S2x6x2x3x16x16x16.Idx → BitVec 32) (n : Fin 2) (k : Fin 6) (z y w : Fin 16) (e : Fin 2) (d : Fin 3) :
    transpose S2x6x16x16x16x2x3 [0, 1, 4, 5, 6, 2, 3] x transposes_S2x6x2x3x16x16x16_S2x6x16x16x16x2x3_0_1_4_5_6_2_3 (ix7 n k z y w e d) = x (ix7 n k e d z y w) := by
  pointwise

end Cert.KernelIdeal.Gen

end
-- ==== Proof.IdealAdjacency.lean ====
module

public import proofs.«01_k».proof.Proof.IdealStretches
public import proofs.«01_k».proof.Proof.IdealRegion1

@[expose] public section

set_option maxRecDepth 16384

noncomputable section

namespace Cert.KernelIdeal.Gen

open Idealize.ShloMosaic Idealize.ShloMosaic.TcCoe Idealize.SL.Sem
open Idealize.ShloMosaic.Pipeline (Dat)
open Cert.Voxel

/-! What the second region leaves in the adjacency array. -/

/-- The column's distance from the row is one of the listed diagonals, and the band marks that diagonal at the row. -/
def Hit (B : Fin 16 → Prop) (D : List (ℤ × Fin 16)) (δ : ℤ) : Prop := ∃ p ∈ D, δ = p.1 ∧ B p.2

theorem fold_is {D : List (ℤ × Fin 16)} {g : Fin 16 → EReal} {B : Fin 16 → Prop} (hg : ∀ t, Is (g t) (B t)) (δ : ℤ) :
    (∀ p ∈ D, p.1 = diag p.2) → ∀ (acc : EReal) (A : Prop), Is acc A →
      Is (D.foldl (fun acc p => if δ = p.1 then g p.2 else acc) acc) (Hit B D δ ∨ (A ∧ ∀ p ∈ D, δ ≠ p.1)) := by
  induction D with
  | nil =>
    intro hD acc A h
    exact h.congr ⟨fun ha => .inr ⟨ha, by simp⟩, fun ha => ha.elim (fun ⟨p, hp, _⟩ => by simp at hp) And.left⟩
  | cons p D ih =>
    intro hD acc A h
    have hD' : ∀ q ∈ D, q.1 = diag q.2 := fun q hq => hD q (List.mem_cons_of_mem _ hq)
    rw [List.foldl_cons]
    by_cases hp : δ = p.1
    · rw [if_pos hp]
      refine (ih hD' _ _ (hg p.2)).congr ⟨?_, ?_⟩
      · rintro (⟨q, hq, h1, h2⟩ | ⟨hb, _⟩)
        · exact .inl ⟨q, List.mem_cons_of_mem _ hq, h1, h2⟩
        · exact .inl ⟨p, List.mem_cons_self, hp, hb⟩
      · rintro (⟨q, hq, h1, h2⟩ | ⟨_, hn⟩)
        · have he : q.2 = p.2 := diag_injective _ _ (by rw [← hD q hq, ← hD p List.mem_cons_self, ← h1, hp])
          by_cases hx : ∃ q' ∈ D, δ = q'.1
          · obtain ⟨q', hq', h'⟩ := hx
            have he' : q'.2 = p.2 := diag_injective _ _ (by rw [← hD q' (List.mem_cons_of_mem _ hq'), ← hD p List.mem_cons_self, ← h', hp])
            exact .inl ⟨q', hq', h', by rw [he', ← he]; exact h2⟩
          · exact .inr ⟨by rw [← he]; exact h2, fun q' hq' h' => hx ⟨q', hq', h'⟩⟩
        · exact absurd hp (hn p List.mem_cons_self)
    · rw [if_neg hp]
      refine (ih hD' _ _ h).congr ⟨?_, ?_⟩
      · rintro (⟨q, hq, h1, h2⟩ | ⟨ha, hn⟩)
        · exact .inl ⟨q, List.mem_cons_of_mem _ hq, h1, h2⟩
        · exact .inr ⟨ha, fun q hq => (List.mem_cons.1 hq).elim (fun e => e ▸ hp) (hn q)⟩
      · rintro (⟨q, hq, h1, h2⟩ | ⟨ha, hn⟩)
        · rcases List.mem_cons.1 hq with e | hq
          · exact absurd (e ▸ h1) hp
          · exact .inl ⟨q, hq, h1, h2⟩
        · exact .inr ⟨ha, fun q hq => hn q (List.mem_cons_of_mem _ hq)⟩

theorem strip_is {D : List (ℤ × Fin 16)} (hD : ∀ p ∈ D, p.1 = diag p.2) {x : Vec Ideal S2x128x16 .f32} {n : Fin 2} {r : Fin 128} {B : Fin 16 → Prop}
    (hx : ∀ t, Is (x (ix3 n r t)) (B t)) (δ : ℤ) : Is (stripAt D x n r δ) (Hit B D δ) :=
  (fold_is hx δ hD _ _ (Is.zero.of_eq Ideal.ofBits_zero_f32)).congr ⟨fun h => h.elim id fun h => h.1.elim, .inl⟩

/-- A strip's two accumulations, one for each sample. -/
theorem pair_is {n : Fin 2} {v s0 s1 : EReal} {P Q w : Prop} [Decidable w] (hv : Is v P) (h0 : n = 0 → Is s0 Q) (h1 : n = 1 → Is s1 Q)
    (hd : ¬ (P ∧ Q)) (hw : Q → w) :
    Is (if n = 1 ∧ w then (if n = 0 ∧ w then v + s0 else v) + s1 else (if n = 0 ∧ w then v + s0 else v)) (P ∨ Q) := by
  by_cases hq : w
  · rcases (by omega : n = 0 ∨ n = 1) with h | h
    · subst h
      simp only [hq, and_true, if_true, zero_ne_one, if_false, true_and]
      simpa using hv.add (h0 rfl) hd
    · subst h
      simpa [hq] using hv.add (h1 rfl) hd
  · simp only [hq, and_false, if_false]
    exact hv.congr ⟨.inl, fun h => h.elim id fun h => absurd (hw h) hq⟩

/-- An entry of the block: one where the column lies on a diagonal the band marks at the row, zero elsewhere. -/
theorem stage8_is (i : grid1.Coords) (x : Vec Ideal S2x128x16 .f32) (n : Fin 2) (r : Fin 128) (c : Fin 4913) (B : Fin 16 → Prop)
    (hx : ∀ t, Is (x (ix3 n r t)) (B t)) (hR : 128 * (i 0).val + r.val < 4913) :
    Is (stage8 i x (ix3 n r c)) (∃ t, (c.val : ℤ) - ((128 * (i 0).val + r.val : ℕ) : ℤ) = diag t ∧ B t) := by
  have hc := c.isLt
  have hr := r.isLt
  have hx0 (h : n = 0) : ∀ t, Is (x (ix3 0 r t)) (B t) := h ▸ hx
  have hx1 (h : n = 1) : ∀ t, Is (x (ix3 1 r t)) (B t) := h ▸ hx
  generalize hδ : (c.val : ℤ) - ((128 * (i 0).val + r.val : ℕ) : ℤ) = δ
  have kA : ∀ p ∈ diagA, p.1 = diag p.2 := by decide
  have kB : ∀ p ∈ diagB, p.1 = diag p.2 := by decide
  have kC : ∀ p ∈ diagC, p.1 = diag p.2 := by decide
  have kD : ∀ p ∈ diagD, p.1 = diag p.2 := by decide
  have rA : Hit B diagA δ → -306 ≤ δ ∧ δ ≤ -272 := fun ⟨p, hp, h, _⟩ => h ▸ (by decide : ∀ p ∈ diagA, -306 ≤ p.1 ∧ p.1 ≤ -272) p hp
  have rB : Hit B diagB δ → -17 ≤ δ ∧ δ ≤ -1 := fun ⟨p, hp, h, _⟩ => h ▸ (by decide : ∀ p ∈ diagB, -17 ≤ p.1 ∧ p.1 ≤ -1) p hp
  have rC : Hit B diagC δ → 1 ≤ δ ∧ δ ≤ 17 := fun ⟨p, hp, h, _⟩ => h ▸ (by decide : ∀ p ∈ diagC, 1 ≤ p.1 ∧ p.1 ≤ 17) p hp
  have rD : Hit B diagD δ → 272 ≤ δ ∧ δ ≤ 306 := fun ⟨p, hp, h, _⟩ => h ▸ (by decide : ∀ p ∈ diagD, 272 ≤ p.1 ∧ p.1 ≤ 306) p hp
  have e0 : Is (stage0 i x (ix3 n r c)) False := Is.zero.of_eq Ideal.ofBits_zero_f32
  have e2 : Is (stage2 i x (ix3 n r c)) (False ∨ Hit B diagA δ) := by
    rw [stage2_apply, stage1_apply, hδ]
    exact pair_is e0 (fun h => strip_is kA (hx0 h) δ) (fun h => strip_is kA (hx1 h) δ) (fun h => h.1) fun h => by have := rA h; omega
  have e4 : Is (stage4 i x (ix3 n r c)) ((False ∨ Hit B diagA δ) ∨ Hit B diagB δ) := by
    rw [stage4_apply, stage3_apply, hδ]
    refine pair_is e2 (fun h => strip_is kB (hx0 h) δ) (fun h => strip_is kB (hx1 h) δ) (fun ⟨h, h'⟩ => ?_) fun h => by have := rB h; omega
    have := rB h'
    rcases h with h | h
    · exact h
    · have := rA h; omega
  have e6 : Is (stage6 i x (ix3 n r c)) (((False ∨ Hit B diagA δ) ∨ Hit B diagB δ) ∨ Hit B diagC δ) := by
    rw [stage6_apply, stage5_apply, hδ]
    refine pair_is e4 (fun h => strip_is kC (hx0 h) δ) (fun h => strip_is kC (hx1 h) δ) (fun ⟨h, h'⟩ => ?_) fun h => by have := rC h; omega
    have := rC h'
    rcases h with (h | h) | h
    · exact h
    · have := rA h; omega
    · have := rB h; omega
  have e8 : Is (stage8 i x (ix3 n r c)) ((((False ∨ Hit B diagA δ) ∨ Hit B diagB δ) ∨ Hit B diagC δ) ∨ Hit B diagD δ) := by
    rw [stage8_apply, stage7_apply, hδ]
    refine pair_is e6 (fun h => strip_is kD (hx0 h) δ) (fun h => strip_is kD (hx1 h) δ) (fun ⟨h, h'⟩ => ?_) fun h => by have := rD h; omega
    have := rD h'
    rcases h with ((h | h) | h) | h
    · exact h
    · have := rA h; omega
    · have := rB h; omega
    · have := rC h; omega
  refine e8.congr ⟨?_, fun ⟨t, h, hb⟩ => ?_⟩
  · rintro ((((h | ⟨p, hp, h, hb⟩) | ⟨p, hp, h, hb⟩) | ⟨p, hp, h, hb⟩) | ⟨p, hp, h, hb⟩)
    · exact h.elim
    · exact ⟨p.2, h.trans (kA p hp), hb⟩
    · exact ⟨p.2, h.trans (kB p hp), hb⟩
    · exact ⟨p.2, h.trans (kC p hp), hb⟩
    · exact ⟨p.2, h.trans (kD p hp), hb⟩
  · rcases (by decide : ∀ t, (diag t, t) ∈ diagA ∨ (diag t, t) ∈ diagB ∨ (diag t, t) ∈ diagC ∨ (diag t, t) ∈ diagD) t with hp | hp | hp | hp
    · exact .inl (.inl (.inl (.inr ⟨_, hp, h, hb⟩)))
    · exact .inl (.inl (.inr ⟨_, hp, h, hb⟩))
    · exact .inl (.inr ⟨_, hp, h, hb⟩)
    · exact .inr ⟨_, hp, h, hb⟩

variable (V : (c : Dev nD) → (b : Ref sig .tc) → Buf (Elt Ideal) ((c : Thread nD τ).loc b))

theorem index1_0 : ∀ t : Fin cfg1.N, win1_0.index t = ![0, t.val, 0] := (by decide +kernel : ∀ t : Fin grid1.N, _)
theorem index1_1 : ∀ t : Fin cfg1.N, win1_1.index t = ![0, t.val, 0] := (by decide +kernel : ∀ t : Fin grid1.N, _)
theorem coords1 : ∀ t : Fin cfg1.N, (grid1.coords t 0).val = t.val := (by decide +kernel : ∀ t : Fin grid1.N, _)
theorem size1 : ∀ t : Fin cfg1.N, (cfg1.win 0).xsize (grid1.coords t) 0 = 2 ∧ (cfg1.win 0).xsize (grid1.coords t) 1 = min 128 (4913 - 128 * t.val)
    ∧ (cfg1.win 0).xsize (grid1.coords t) 2 = 16 := (by decide +kernel : ∀ t : Fin grid1.N, _)

/-- The rows of a block inside the array are the band's. -/
theorem rows1_at (c : Dev nD) (t : Fin cfg1.N) (n : Fin 2) (r : Fin 128) (u : Fin 16) (h : 128 * t.val + r.val < 4913) :
    rows1 V c t (ix3 n r u) = (V c main_call0_v2 : S2x4913x16.Idx → EReal) (ix3 n ⟨128 * t.val + r.val, h⟩ u) := by
  obtain ⟨h0, h1, h2⟩ := size1 t
  have hm : (cfg1.win 0).moved (grid1.coords t) (ix3 n r u : S2x128x16.Idx) = true := by
    rw [(cfg1.win 0).moved_iff]
    intro a
    have hn := n.isLt
    have hr := r.isLt
    have hu := u.isLt
    fin_cases a
    · show n.val < (cfg1.win 0).xsize (grid1.coords t) 0
      omega
    · show r.val < (cfg1.win 0).xsize (grid1.coords t) 1
      omega
    · show u.val < (cfg1.win 0).xsize (grid1.coords t) 2
      omega
  unfold rows1 Pipeline.Window.fill
  rw [dif_pos hm]
  unfold iblk1
  blk_simp
  refine congrArg (V c main_call0_v2 : S2x4913x16.Idx → EReal) ?_
  funext a
  refine Fin.ext ?_
  match a with
  | 0 => blk_simp [index1_0]
  | 1 =>
    blk_simp [index1_0]
    show t.val * 128 + r.val = 128 * t.val + r.val
    omega
  | 2 => blk_simp [index1_0]

/-- The block a row lies in. -/
def rowBlock (R : Fin 4913) : Fin cfg1.N := ⟨R.val / 128, by
  have h : cfg1.N = 39 := by decide +kernel
  have := R.isLt
  omega⟩

/-- The adjacency array as the region leaves it. -/
def adjArr (c : Dev nD) : S2x4913x4913.Idx → EReal := fun i =>
  stage8 (grid1.coords (rowBlock (i 1))) (rows1 V c (rowBlock (i 1))) (ix3 (i 0) ⟨(i 1).val % 128, by omega⟩ (i 2))

theorem arr1_1 (c : Dev nD) : (dat1 V c).arrAt 1 cfg1.N = adjArr V c := by
  refine (dat1 V c).arrAt_eq_of_covers 1 _ (by decide +kernel) fun t hf y => ?_
  blk_simp
  rw [after1_1]
  have hs : (y 1).val < 128 := Nat.lt_of_lt_of_le (y 1).isLt (by
    have : (cfg1.win 1).xsize (grid1.coords t) 1 = _ := (xsize1 _).1.symm.trans (size1 t).2.1
    show (cfg1.win 1).xsize (grid1.coords t) 1 ≤ 128
    omega)
  have key : ∀ j : S2x4913x4913.Idx, (j 0).val = (y 0).val → (j 1).val = t.val * 128 + (y 1).val → (j 2).val = (y 2).val →
      stage8 (grid1.coords t) (rows1 V c t) ((cfg1.win 1).xinj (cfg1.grid.coords t) y) = adjArr V c j := by
    intro j h0 h1 h2
    have ht : rowBlock (j 1) = t := Fin.ext (by show (j 1).val / 128 = t.val; omega)
    unfold adjArr
    rw [ht]
    refine congrArg (stage8 (grid1.coords t) (rows1 V c t)) ?_
    funext a
    refine Fin.ext ?_
    match a with
    | 0 => exact h0.symm
    | 1 => show (y 1).val = (j 1).val % 128; omega
    | 2 => exact h2.symm
  refine key _ ?_ ?_ ?_
  · blk_simp [index1_1]
  · blk_simp [index1_1]
  · blk_simp [index1_1]

end Cert.KernelIdeal.Gen

end
-- ==== Proof.IdealTable.lean ====
module

public import proofs.«01_k».proof.Proof.IdealStretches
public import Idealize.ShloMosaic.Lib.ValueIdxRank6

@[expose] public section

set_option maxRecDepth 65536
set_option maxHeartbeats 4000000

noncomputable section

namespace Cert.KernelIdeal.Gen

open Idealize.ShloMosaic
open Cert.Voxel

/-! The kernel's table of vertex numbers: entry (face, triangle, corner, z, y, x) is the number of that corner of that voxel's face. The
    table is stored in tiles of 128 entries; a tile is compared with the formula as a whole. -/

/-- The number of a face's corner in the voxel at the origin, by the corner's place among the 36 the table lists: digits in base 512. -/
def cornerAt (q : ℕ) : ℕ := 20494546143098617763161157011953850847012209508017143551501438239430155298900233421846046939808256 / 512 ^ q % 512

/-- Entry `j` of tile `t`. -/
def tileEntry (t j : ℕ) : ℕ := cornerAt (t / 32) + (t / 2 % 16) * 289 + (t % 2 * 8 + j / 16) * 17 + j % 16

/-- The first 128 values of a function, zero from there on. -/
abbrev pick (n : ℕ) (f : ℕ → BitVec 32) : BitVec 32 := match n with
  | 0 => f 0
  | 1 => f 1
  | 2 => f 2
  | 3 => f 3
  | 4 => f 4
  | 5 => f 5
  | 6 => f 6
  | 7 => f 7
  | 8 => f 8
  | 9 => f 9
  | 10 => f 10
  | 11 => f 11
  | 12 => f 12
  | 13 => f 13
  | 14 => f 14
  | 15 => f 15
  | 16 => f 16
  | 17 => f 17
  | 18 => f 18
  | 19 => f 19
  | 20 => f 20
  | 21 => f 21
  | 22 => f 22
  | 23 => f 23
  | 24 => f 24
  | 25 => f 25
  | 26 => f 26
  | 27 => f 27
  | 28 => f 28
  | 29 => f 29
  | 30 => f 30
  | 31 => f 31
  | 32 => f 32
  | 33 => f 33
  | 34 => f 34
  | 35 => f 35
  | 36 => f 36
  | 37 => f 37
  | 38 => f 38
  | 39 => f 39
  | 40 => f 40
  | 41 => f 41
  | 42 => f 42
  | 43 => f 43
  | 44 => f 44
  | 45 => f 45
  | 46 => f 46
  | 47 => f 47
  | 48 => f 48
  | 49 => f 49
  | 50 => f 50
  | 51 => f 51
  | 52 => f 52
  | 53 => f 53
  | 54 => f 54
  | 55 => f 55
  | 56 => f 56
  | 57 => f 57
  | 58 => f 58
  | 59 => f 59
  | 60 => f 60
  | 61 => f 61
  | 62 => f 62
  | 63 => f 63
  | 64 => f 64
  | 65 => f 65
  | 66 => f 66
  | 67 => f 67
  | 68 => f 68
  | 69 => f 69
  | 70 => f 70
  | 71 => f 71
  | 72 => f 72
  | 73 => f 73
  | 74 => f 74
  | 75 => f 75
  | 76 => f 76
  | 77 => f 77
  | 78 => f 78
  | 79 => f 79
  | 80 => f 80
  | 81 => f 81
  | 82 => f 82
  | 83 => f 83
  | 84 => f 84
  | 85 => f 85
  | 86 => f 86
  | 87 => f 87
  | 88 => f 88
  | 89 => f 89
  | 90 => f 90
  | 91 => f 91
  | 92 => f 92
  | 93 => f 93
  | 94 => f 94
  | 95 => f 95
  | 96 => f 96
  | 97 => f 97
  | 98 => f 98
  | 99 => f 99
  | 100 => f 100
  | 101 => f 101
  | 102 => f 102
  | 103 => f 103
  | 104 => f 104
  | 105 => f 105
  | 106 => f 106
  | 107 => f 107
  | 108 => f 108
  | 109 => f 109
  | 110 => f 110
  | 111 => f 111
  | 112 => f 112
  | 113 => f 113
  | 114 => f 114
  | 115 => f 115
  | 116 => f 116
  | 117 => f 117
  | 118 => f 118
  | 119 => f 119
  | 120 => f 120
  | 121 => f 121
  | 122 => f 122
  | 123 => f 123
  | 124 => f 124
  | 125 => f 125
  | 126 => f 126
  | 127 => f 127
  | _ => 0#32

theorem pick_eq (n : ℕ) (f : ℕ → BitVec 32) (h : n < 128) : pick n f = f n := by
  interval_cases n <;> rfl

theorem table_0 (i : ℕ) : lit0t1_0 i = pick (i / 128 % 128) fun m => pick (i % 128) fun j => BitVec.ofNat 32 (tileEntry (0 + m) j) := rfl
theorem table_1 (i : ℕ) : lit0t1_1 i = pick (i / 128 % 128) fun m => pick (i % 128) fun j => BitVec.ofNat 32 (tileEntry (128 + m) j) := rfl
theorem table_2 (i : ℕ) : lit0t1_2 i = pick (i / 128 % 128) fun m => pick (i % 128) fun j => BitVec.ofNat 32 (tileEntry (256 + m) j) := rfl
theorem table_3 (i : ℕ) : lit0t1_3 i = pick (i / 128 % 128) fun m => pick (i % 128) fun j => BitVec.ofNat 32 (tileEntry (384 + m) j) := rfl
theorem table_4 (i : ℕ) : lit0t1_4 i = pick (i / 128 % 128) fun m => pick (i % 128) fun j => BitVec.ofNat 32 (tileEntry (512 + m) j) := rfl
theorem table_5 (i : ℕ) : lit0t1_5 i = pick (i / 128 % 128) fun m => pick (i % 128) fun j => BitVec.ofNat 32 (tileEntry (640 + m) j) := rfl
theorem table_6 (i : ℕ) : lit0t1_6 i = pick (i / 128 % 128) fun m => pick (i % 128) fun j => BitVec.ofNat 32 (tileEntry (768 + m) j) := rfl
theorem table_7 (i : ℕ) : lit0t1_7 i = pick (i / 128 % 128) fun m => pick (i % 128) fun j => BitVec.ofNat 32 (tileEntry (896 + m) j) := rfl
theorem table_8 (i : ℕ) : lit0t1_8 i = pick (i / 128 % 128) fun m => pick (i % 128) fun j => BitVec.ofNat 32 (tileEntry (1024 + m) j) := rfl

theorem table_at (i : ℕ) (hi : i < 147456) : lit0t i = BitVec.ofNat 32 (tileEntry (i / 128) (i % 128)) := by
  have h : i / 16384 = 0 ∨ i / 16384 = 1 ∨ i / 16384 = 2 ∨ i / 16384 = 3 ∨ i / 16384 = 4 ∨ i / 16384 = 5 ∨ i / 16384 = 6 ∨ i / 16384 = 7 ∨ i / 16384 = 8 := by omega
  have e (k : ℕ) (hk : i / 16384 = k) : pick (i / 128 % 128) (fun m => pick (i % 128) fun j => BitVec.ofNat 32 (tileEntry (128 * k + m) j)) =
      BitVec.ofNat 32 (tileEntry (i / 128) (i % 128)) := by
    rw [pick_eq _ _ (by omega), pick_eq _ _ (by omega)]
    congr 2
    omega
  unfold lit0t
  rcases h with h | h | h | h | h | h | h | h | h
  · rw [h]; exact (table_0 i).trans (e 0 h)
  · rw [h]; exact (table_1 i).trans (e 1 h)
  · rw [h]; exact (table_2 i).trans (e 2 h)
  · rw [h]; exact (table_3 i).trans (e 3 h)
  · rw [h]; exact (table_4 i).trans (e 4 h)
  · rw [h]; exact (table_5 i).trans (e 5 h)
  · rw [h]; exact (table_6 i).trans (e 6 h)
  · rw [h]; exact (table_7 i).trans (e 7 h)
  · rw [h]; exact (table_8 i).trans (e 8 h)

theorem cornerAt_eq (k : Fin 6) (t : Fin 2) (d : Fin 3) : cornerAt ((k.val * 2 + t.val) * 3 + d.val) = lin (off k ⟨t.val + d.val, by omega⟩) := by
  revert k t d; decide +kernel

/-- The kernel's vertex numbers. -/
theorem lit0_at (k : Fin 6) (t : Fin 2) (d : Fin 3) (z y x : Fin 16) :
    lit0 (S6x2x3x16x16x16.rowMajor (ix6 k t d z y x)) = BitVec.ofNat 32 (vert k z y x ⟨t.val + d.val, by omega⟩) := by
  have hI : (S6x2x3x16x16x16.rowMajor (ix6 k t d z y x)).val = ((((k.val * 2 + t.val) * 3 + d.val) * 16 + z.val) * 16 + y.val) * 16 + x.val :=
    Shape.rowMajor_val_six _
  have hc := cornerAt_eq k t d
  generalize S6x2x3x16x16x16.rowMajor (ix6 k t d z y x) = I at hI
  obtain ⟨i, hi⟩ := I
  change i = _ at hI
  have hi' : i < 147456 := by omega
  show lit0t i = _
  rw [table_at i hi']
  congr 1
  unfold tileEntry vert
  have h1 : i / 128 / 32 = (k.val * 2 + t.val) * 3 + d.val := by omega
  rw [h1, hc]
  unfold lin
  omega

end Cert.KernelIdeal.Gen

end
-- ==== Proof.IdealValue.lean ====
module

public import proofs.«01_k».proof.Proof.IdealAdjacency
public import proofs.«01_k».proof.Proof.IdealTable
public import proofs.«01_k».proof.Proof.Geometry

@[expose] public section

set_option maxRecDepth 16384

noncomputable section

namespace Cert.KernelIdeal.Gen

open Idealize.ShloMosaic Idealize.ShloMosaic.TcCoe Idealize.SL.Sem
open Idealize.ShloMosaic.Pipeline (Dat)
open Cert.Voxel

/-! The kernel program's five results at the end of its run, read at an entry in terms of the argument. -/

variable (m : (ℓ : Loc nD τ sig) → Buf (Elt Ideal) ℓ) (ρ : Dev nD → PrngReg) (c : Dev nD)

/-- A sample of the argument. -/
def sample (n : Fin 2) : Field := fun z y w => (m ((c : Thread nD τ).loc main_arg0) : S2x16x16x16.Idx → EReal) (ix4 n z y w)

/-- The first region's block of a sample. -/
def blockOf (n : Fin 2) : Vec Ideal S1x16x16x16 .f32 := iblk0 (V1 m ρ) c 0 (n : Fin cfg0.N)

theorem fieldOf_block (n : Fin 2) : fieldOf (blockOf m ρ c n) = sample m c n := by
  funext z y w
  exact (iblk0_0_at (V1 m ρ) c n z y w).trans (congrFun (W1_args m ρ c main_arg0 (by decide)) _)

theorem W4_0 : (W4 m ρ c (Proc.devRef .tc main_call0_v0_0) : S2x128.Idx → EReal) = cntBlk (V1 m ρ) c :=
  (W4_of m ρ c main_call0_v0_0 (by decide +kernel)).trans ((W3_of m ρ c main_call0_v0_0 (by decide +kernel)).trans ((W2_arr m ρ c 2).trans (arr0_2 (V1 m ρ) c)))

theorem W4_1 (n : Fin 2) (p : Fin 3) (a b d : Fin 17) :
    (W4 m ρ c (Proc.devRef .tc main_call0_v0_1) : S2x3x17x17x17.Idx → EReal) (ix5 n p a b d) = posAt (blockOf m ρ c n) (axisOf p a b d) a b d :=
  (congrFun ((W4_of m ρ c main_call0_v0_1 (by decide +kernel)).trans ((W3_of m ρ c main_call0_v0_1 (by decide +kernel)).trans ((W2_arr m ρ c 3).trans (arr0_3 (V1 m ρ) c))))
    (ix5 n p a b d)).trans (postBlk_at (blockOf m ρ c n) p a b d)

theorem W2_2 (n : Fin 2) (t : Fin 16) (a b d : Fin 17) :
    (W2 m ρ c (Proc.devRef .tc main_call0_v0_2) : S2x16x17x17x17.Idx → EReal) (ix5 n t a b d) = bandBlk (blockOf m ρ c n) (ix5 0 t a b d) :=
  congrFun ((W2_arr m ρ c 4).trans (arr0_4 (V1 m ρ) c)) (ix5 n t a b d)

theorem W4_3 (n : Fin 2) (k : Fin 6) (e : Fin 2) (d : Fin 3) (z y w : Fin 16) :
    (W4 m ρ c (Proc.devRef .tc main_call0_v0_3) : S2x6x2x3x16x16x16.Idx → BitVec 32) (ix7 n k e d z y w) =
      meshAt (faceOf (blockOf m ρ c n) k) (BitVec.ofNat 32 (vert k z y w ⟨e.val + d.val, by omega⟩)) z y w := by
  refine (congrFun ((W4_of m ρ c main_call0_v0_3 (by decide +kernel)).trans ((W3_of m ρ c main_call0_v0_3 (by decide +kernel)).trans ((W2_arr m ρ c 5).trans (arr0_5 (V1 m ρ) c))))
    (ix7 n k e d z y w)).trans ((meshBlk_at (blockOf m ρ c n) _ k e d z y w).trans ?_)
  rw [iblk0_1_at]
  refine congrArg (fun v => meshAt (faceOf (blockOf m ρ c n) k) v z y w) ?_
  exact (congrFun (host0_c (W0 m ρ c)) (ix6 k e d z y w)).trans (lit0_at k e d z y w)

/-- The number of used vertices. -/
theorem W5_0 : (W5 m ρ c (Proc.devRef .tc main_v0_0) : S2.Idx → BitVec 32) =
    fptosi (F := Ideal) (φ := .f32) 32 (fun i : S2.Idx => ∑ a : Fin 17, ∑ b : Fin 17, ∑ d : Fin 17, usedAt (blockOf m ρ c (i 0)) a b d : S2.Idx → EReal) := by
  refine (host2_v0_0 (W4 m ρ c)).trans (congrArg (fptosi (F := Ideal) (φ := .f32) 32) (funext fun i => ?_))
  rw [W4_0]
  exact cntRow_0 (blockOf m ρ c (i 0))

/-- Twice the number of exposed faces. -/
theorem W5_1 : (W5 m ρ c (Proc.devRef .tc main_v0_1) : S2.Idx → BitVec 32) =
    fptosi (F := Ideal) (φ := .f32) 32 (fun i : S2.Idx => FloatOps.mulf (F := Ideal) (φ := .f32) (Ideal.ofBits .f32 0x40000000#32)
      (∑ k : Fin 6, ∑ z : Fin 16, ∑ y : Fin 16, ∑ x : Fin 16, (faceOf (blockOf m ρ c (i 0)) k (ix3 z y x) : EReal)) : S2.Idx → EReal) := by
  refine (host2_v0_1 (W4 m ρ c)).trans (congrArg (fptosi (F := Ideal) (φ := .f32) 32) (funext fun i => ?_))
  rw [W4_0]
  refine (cntRow_1 (blockOf m ρ c (i 0))).trans ?_
  refine congrArg (FloatOps.mulf (F := Ideal) (φ := .f32) (Ideal.ofBits .f32 0x40000000#32)) ?_
  rw [Fin.sum_univ_six]
  rfl

/-- The positions. -/
theorem W5_2 (n : Fin 2) (a b d : Fin 17) (p : Fin 3) (R : Fin 9826) (h : R.val = n.val * 4913 + a.val * 289 + b.val * 17 + d.val) :
    (W5 m ρ c (Proc.devRef .tc main_v0_2) : S9826x3.Idx → EReal) (ix2 R p) = posAt (blockOf m ρ c n) (axisOf p a b d) a b d :=
  (congrFun (host2_v0_2 (W4 m ρ c)) _).trans ((post_cast _ n a b d p R h).trans (W4_1 m ρ c n p a b d))

/-- The mesh faces. -/
theorem W5_4 (g : S2x6x16x16x16x2x3.Idx → BitVec 32)
    (h : ∀ n k z y w e d, g (ix7 n k z y w e d) = meshAt (faceOf (blockOf m ρ c n) k) (BitVec.ofNat 32 (vert k z y w ⟨e.val + d.val, by omega⟩)) z y w) :
    (W5 m ρ c (Proc.devRef .tc main_v0_4) : S2x49152x3.Idx → BitVec 32) = shapeCast S2x49152x3 g shapeCasts_S2x6x16x16x16x2x3_S2x49152x3 := by
  refine (host2_v0_4 (W4 m ρ c)).trans (congrArg (fun v => shapeCast S2x49152x3 v shapeCasts_S2x6x16x16x16x2x3_S2x49152x3) (funext fun i => ?_))
  obtain ⟨n, k, z, y, w, e, d, rfl⟩ : ∃ (n : Fin 2) (k : Fin 6) (z y w : Fin 16) (e : Fin 2) (d : Fin 3), i = (ix7 n k z y w e d : S2x6x16x16x16x2x3.Idx) :=
    ⟨i 0, i 1, i 2, i 3, i 4, i 5, i 6, eq_ix7 i⟩
  rw [mesh_transpose, W4_3, h]

/-- The band at a vertex. -/
theorem W3_band (n : Fin 2) (a b d : Fin 17) (t : Fin 16) (R : Fin 4913) (h : R.val = a.val * 289 + b.val * 17 + d.val) :
    Is ((W3 m ρ c (Proc.devRef .tc main_call0_v2) : S2x4913x16.Idx → EReal) (ix3 n R t))
      (∃ ok ∈ plan t, Placed (exposed (sample m c n)) ok a.val b.val d.val) := by
  have e := (congrFun (host1_v2 (W2 m ρ c)) (ix3 n R t)).trans ((band_cast _ n a b d t R h).trans (W2_2 m ρ c n t a b d))
  have hb := bandBlk_is (blockOf m ρ c n) t a b d
  rw [fieldOf_block] at hb
  exact hb.of_eq e

/-- The adjacency. -/
theorem W5_3 (n : Fin 2) (r s : Fin 4913) (a b d : Fin 17) (h : r.val = a.val * 289 + b.val * 17 + d.val) :
    Is ((W5 m ρ c (Proc.devRef .tc main_v0_3) : S2x4913x4913.Idx → EReal) (ix3 n r s))
      (∃ t, (s.val : ℤ) - ((r.val : ℕ) : ℤ) = diag t ∧ ∃ ok ∈ plan t, Placed (exposed (sample m c n)) ok a.val b.val d.val) := by
  have e : (W5 m ρ c (Proc.devRef .tc main_v0_3) : S2x4913x4913.Idx → EReal) = adjArr (V3 m ρ) c :=
    (W5_of m ρ c main_v0_3 (by decide +kernel)).trans ((W4_arr m ρ c 1).trans (arr1_1 (V3 m ρ) c))
  rw [e]
  unfold adjArr
  have hr := r.isLt
  have hc : (grid1.coords (rowBlock r) 0).val = r.val / 128 := coords1 (rowBlock r)
  have key := stage8_is (grid1.coords (rowBlock r)) (rows1 (V3 m ρ) c (rowBlock r)) n ⟨r.val % 128, by omega⟩ s
    (fun t => ∃ ok ∈ plan t, Placed (exposed (sample m c n)) ok a.val b.val d.val)
    (fun t => by
      have hR : 128 * (rowBlock r).val + r.val % 128 < 4913 := by show 128 * (r.val / 128) + r.val % 128 < 4913; omega
      exact (W3_band m ρ c n a b d t ⟨128 * (rowBlock r).val + r.val % 128, hR⟩ (by show 128 * (r.val / 128) + r.val % 128 = _; omega)).of_eq
        (rows1_at (V3 m ρ) c (rowBlock r) n ⟨r.val % 128, by omega⟩ t hR))
    (by rw [hc]; show 128 * (r.val / 128) + r.val % 128 < 4913; omega)
  refine key.congr ?_
  rw [hc, show 128 * (r.val / 128) + (⟨r.val % 128, by omega⟩ : Fin 128).val = r.val from Nat.div_add_mod _ _]

end Cert.KernelIdeal.Gen

end
-- ==== Proof.Algebraic.lean ====
module

public import proofs.«01_k».proof.Defs
public import proofs.«01_k».proof.Proof.RefValue
public import proofs.«01_k».proof.Proof.IdealValue

@[expose] public section

set_option maxRecDepth 16384

noncomputable section

namespace Cert.Proof

open Idealize.ShloMosaic Idealize.ShloMosaic.TcCoe Idealize.SL.Sem Idealize.ShloMosaic.StableHlo
open Cert.Voxel

/-! The kernel's five results are the reference's. -/

section
open Cert.KernelIdeal.Gen

variable (m : (ℓ : Loc Cert.KernelIdeal.nD Cert.KernelIdeal.τ Cert.KernelIdeal.sig) → Buf (Elt Ideal) ℓ) (ρ : Dev Cert.KernelIdeal.nD → PrngReg)
  (m' : (ℓ : Loc Cert.ReferenceIdeal.nD Cert.ReferenceIdeal.τ Cert.ReferenceIdeal.sig) → Buf (Elt Ideal) ℓ) (c : Dev Cert.KernelIdeal.nD)

/-- The reference's buffers at the start. -/
abbrev refAt : Valuation Cert.ReferenceIdeal.τ Cert.ReferenceIdeal.sig (Elt Ideal) := launchContents m' (c : Dev Cert.ReferenceIdeal.nD)

variable (hA : (m' (((c : Dev Cert.ReferenceIdeal.nD).tc : Thread Cert.ReferenceIdeal.nD Cert.ReferenceIdeal.τ).loc Cert.ReferenceIdeal.main_arg0) : Cert.KernelIdeal.S2x16x16x16.Idx → EReal)
  = m ((c.tc : Thread Cert.KernelIdeal.nD Cert.KernelIdeal.τ).loc Cert.KernelIdeal.main_arg0))

include hA

theorem field_eq (n : Fin 2) : Cert.ReferenceIdeal.Value.field (refAt m' c) n = sample m c n := by
  funext z y x
  exact congrFun hA (ix4 n z y x)

theorem used_eq (n : Fin 2) (a b d : Fin 17) :
    usedAt (blockOf m ρ c n) a b d =
      (Cert.ReferenceIdeal.Value.res_main_v65 (F := Ideal) (refAt m' c) : Cert.ReferenceIdeal.S2x4913.Idx → EReal) (ix2 n ⟨a.val * 289 + b.val * 17 + d.val, by omega⟩) := by
  have h1 := usedAt_is (blockOf m ρ c n) a b d
  have h2 := Cert.ReferenceIdeal.Value.v65_is (refAt m' c) n ⟨a.val * 289 + b.val * 17 + d.val, by omega⟩
  rw [fieldOf_block] at h1
  rw [field_eq m m' c hA] at h2
  exact h1.eq (h2.congr (used_iff _ a.val b.val d.val b.isLt d.isLt))

theorem mask_eq (n : Fin 2) (k : Fin 6) (z y x : Fin 16) :
    (faceOf (blockOf m ρ c n) k (ix3 z y x) : EReal) =
      (Cert.ReferenceIdeal.Value.res_main_v25 (F := Ideal) (refAt m' c) : Cert.ReferenceIdeal.S2x6x16x16x16.Idx → EReal) (ix5 n k z y x) := by
  have h1 := faceOf_is (blockOf m ρ c n) k z y x
  have h2 := Cert.ReferenceIdeal.Value.v25_is (refAt m' c) n k z y x
  rw [fieldOf_block] at h1
  rw [field_eq m m' c hA] at h2
  exact h1.eq h2

theorem result0 : (W5 m ρ c (Proc.devRef .tc Cert.KernelIdeal.main_v0_0) : Cert.KernelIdeal.S2.Idx → BitVec 32) =
    (fptosi 32 (Host.reduceAdd (Cert.ReferenceIdeal.Value.res_main_v65 (refAt m' c)) (constant Cert.ReferenceIdeal.S_ .f32 0x00000000#32) Cert.ReferenceIdeal.Facts₀.reducesTo_S2x4913_S2_d1 Cert.ReferenceIdeal.Facts₀.h_S_) : Cert.ReferenceIdeal.S2.Idx → BitVec 32) := by
  rw [Cert.ReferenceIdeal.Value.v84_eq, W5_0]
  refine congrArg (fptosi (F := Ideal) (φ := .f32) 32) (funext fun i => ?_)
  rw [sum_vertices]
  exact Finset.sum_congr rfl fun a _ => Finset.sum_congr rfl fun b _ => Finset.sum_congr rfl fun d _ => used_eq m ρ m' c hA _ a b d

theorem result1 : (W5 m ρ c (Proc.devRef .tc Cert.KernelIdeal.main_v0_1) : Cert.KernelIdeal.S2.Idx → BitVec 32) =
    (fptosi 32 (mulf (broadcastInDim Cert.ReferenceIdeal.S2 ![] Cert.ReferenceIdeal.Facts₀.bcast_S_S2 (constant Cert.ReferenceIdeal.S_ .f32 0x40000000#32)) (Host.reduceAdd (Cert.ReferenceIdeal.Value.res_main_v25 (refAt m' c)) (constant Cert.ReferenceIdeal.S_ .f32 0x00000000#32) Cert.ReferenceIdeal.Facts₀.reducesTo_S2x6x16x16x16_S2_d1_2_3_4 Cert.ReferenceIdeal.Facts₀.h_S_)) : Cert.ReferenceIdeal.S2.Idx → BitVec 32) := by
  rw [Cert.ReferenceIdeal.Value.v88_eq, W5_1]
  refine congrArg (fptosi (F := Ideal) (φ := .f32) 32) (funext fun i => ?_)
  refine congrArg (FloatOps.mulf (F := Ideal) (φ := .f32) (Ideal.ofBits .f32 0x40000000#32)) ?_
  exact Finset.sum_congr rfl fun k _ => Finset.sum_congr rfl fun z _ => Finset.sum_congr rfl fun y _ => Finset.sum_congr rfl fun x _ => mask_eq m ρ m' c hA _ k z y x

theorem result2 : (W5 m ρ c (Proc.devRef .tc Cert.KernelIdeal.main_v0_2) : Cert.KernelIdeal.S9826x3.Idx → EReal) = Cert.ReferenceIdeal.Value.posRef (refAt m' c) := by
  funext i
  obtain ⟨R, p, rfl⟩ : ∃ (R : Fin 9826) (p : Fin 3), i = (ix2 R p : Cert.KernelIdeal.S9826x3.Idx) := ⟨i 0, i 1, eq_ix2 i⟩
  have hR := R.isLt
  obtain ⟨n, a, b, d, h⟩ : ∃ (n : Fin 2) (a b d : Fin 17), R.val = n.val * 4913 + a.val * 289 + b.val * 17 + d.val :=
    ⟨⟨R.val / 4913, by omega⟩, ⟨R.val % 4913 / 289, by omega⟩, ⟨R.val % 4913 / 17 % 17, by omega⟩, ⟨R.val % 4913 % 17, by omega⟩, by dsimp only; omega⟩
  rw [W5_2 m ρ c n a b d p R h]
  refine Eq.trans ?_ (Cert.ReferenceIdeal.Value.posRef_at (refAt m' c) n a b d p R h).symm
  rw [← used_eq m ρ m' c hA]
  rfl

theorem result3 : (W5 m ρ c (Proc.devRef .tc Cert.KernelIdeal.main_v0_3) : Cert.KernelIdeal.S2x4913x4913.Idx → EReal) = Cert.ReferenceIdeal.Value.adjRef (refAt m' c) := by
  funext i
  obtain ⟨n, r, s, rfl⟩ : ∃ (n : Fin 2) (r s : Fin 4913), i = (ix3 n r s : Cert.KernelIdeal.S2x4913x4913.Idx) := ⟨i 0, i 1, i 2, eq_ix3 i⟩
  have hr := r.isLt
  obtain ⟨a, b, d, h⟩ : ∃ (a b d : Fin 17), r.val = a.val * 289 + b.val * 17 + d.val :=
    ⟨⟨r.val / 289, by omega⟩, ⟨r.val / 17 % 17, by omega⟩, ⟨r.val % 17, by omega⟩, by dsimp only; omega⟩
  have h1 := W5_3 m ρ c n r s a b d h
  have h2 := Cert.ReferenceIdeal.Value.adjRef_is (refAt m' c) n r s
  rw [field_eq m m' c hA, h] at h2
  rw [h] at h1
  exact h1.eq (h2.congr (edge_iff _ a.val b.val d.val s.val b.isLt d.isLt))

theorem result4 : (W5 m ρ c (Proc.devRef .tc Cert.KernelIdeal.main_v0_4) : Cert.KernelIdeal.S2x49152x3.Idx → BitVec 32) =
    shapeCast Cert.ReferenceIdeal.S2x49152x3 (Cert.ReferenceIdeal.Value.facesRef (refAt m' c)) Cert.ReferenceIdeal.Facts₀.shapeCasts_S2x6x16x16x16x2x3_S2x49152x3 := by
  refine W5_4 m ρ c (Cert.ReferenceIdeal.Value.facesRef (refAt m' c)) fun n k z y w e d => ?_
  refine (Cert.ReferenceIdeal.Value.facesRef_at (refAt m' c) n k z y w e d).trans ?_
  rw [← mask_eq m ρ m' c hA]
  rfl

end

/-- The program and the reference end with equal results from equal arguments. -/
theorem algebraic : Cert.algebraic_KernelIdeal_ReferenceIdeal := by
  intro m g m' g' _ hA
  refine ⟨fun c => Cert.KernelIdeal.Gen.W5 m g c (Proc.devRef .tc Cert.KernelIdeal.main_v0_0),
    fun c => Cert.KernelIdeal.Gen.W5 m g c (Proc.devRef .tc Cert.KernelIdeal.main_v0_1),
    fun c => Cert.KernelIdeal.Gen.W5 m g c (Proc.devRef .tc Cert.KernelIdeal.main_v0_2),
    fun c => Cert.KernelIdeal.Gen.W5 m g c (Proc.devRef .tc Cert.KernelIdeal.main_v0_3),
    fun c => Cert.KernelIdeal.Gen.W5 m g c (Proc.devRef .tc Cert.KernelIdeal.main_v0_4), ?_, ?_⟩
  · exact (θ_run _ _ _).mono (fun r h c => ⟨h.1 c _ (Cert.KernelIdeal.Gen.mem_uc Cert.KernelIdeal.main_v0_0 (by decide)),
      h.1 c _ (Cert.KernelIdeal.Gen.mem_uc Cert.KernelIdeal.main_v0_1 (by decide)),
      h.1 c _ (Cert.KernelIdeal.Gen.mem_uc Cert.KernelIdeal.main_v0_2 (by decide)),
      h.1 c _ (Cert.KernelIdeal.Gen.mem_uc Cert.KernelIdeal.main_v0_3 (by decide)),
      h.1 c _ (Cert.KernelIdeal.Gen.mem_uc Cert.KernelIdeal.main_v0_4 (by decide)),
      (h.1 c _ (Cert.KernelIdeal.Gen.mem_uc Cert.KernelIdeal.main_arg0 (by decide))).trans (Cert.KernelIdeal.Gen.W5_main_arg0 m g c)⟩)
      (Cert.KernelIdeal.Gen.run_all m g)
  · exact (θ_run _ _ _).mono (fun r h c => by
      obtain ⟨h0, h1, h2, h3, h4, h5⟩ := h c
      exact ⟨h0.trans (result0 m g m' c (hA c)).symm, h1.trans (result1 m g m' c (hA c)).symm, h2.trans (result2 m g m' c (hA c)).symm,
        h3.trans (result3 m g m' c (hA c)).symm, h4.trans (result4 m g m' c (hA c)).symm, h5⟩)
      (Cert.ReferenceIdeal.Value.run (F := Ideal) m' g')

theorem no_semaphores : ∀ sm : SemLoc Cert.ReferenceIdeal.sig, False := by decide

/-- The reference runs, leaving its argument. -/
theorem refFrame : Cert.quiescent_ReferenceIdeal := fun m g _ =>
  (θ_run _ _ _).mono (fun r h => ⟨fun c => (h c).2.2.2.2.2, funext fun s => (no_semaphores s.2).elim⟩) (Cert.ReferenceIdeal.Value.run (F := Ideal) m g)

end Cert.Proof

end
-- ==== Proof.lean ====
module

public import proofs.«01_k».proof.Defs
public import proofs.«01_k».proof.Proof.Gen.Kernel
public import proofs.«01_k».proof.Proof.Gen.KernelIdeal
public import proofs.«01_k».proof.Proof.Gen.ReferenceIdeal.Run
public import proofs.«01_k».proof.Proof.BitsRun
public import proofs.«01_k».proof.Proof.IdealRun
public import proofs.«01_k».proof.Proof.Algebraic
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts,
  fun m ρ _ => Cert.Kernel.Gen.frame m ρ, fun m ρ _ => Cert.KernelIdeal.Gen.frame m ρ, refFrame, trivial, algebraic⟩

end Cert.Proof

end
